-- ==== Defs.lean ====
def Pre_Kernel [hPre_spans_in_range : Cert.Pre_spans_in_range.Facts] (m : (ℓ : Loc Cert.Kernel.nD Cert.Kernel.τ Cert.Kernel.sig) → Buf (Elt Bits) ℓ) : Prop :=
  ∀ c : Dev Cert.Kernel.nD,
    (Cert.Pre_spans_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_spans_in_range : Cert.Pre_spans_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_spans_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_spans_in_range [hPre_spans_in_range : Cert.Pre_spans_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_spans_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def Pre_Kernel2 (m : (ℓ : Loc Cert.Kernel2.nD Cert.Kernel2.τ Cert.Kernel2.sig) → Buf (Elt Bits) ℓ) : Prop :=
  True

def Pre_Reference2 (m : (ℓ : Loc Cert.Reference2.nD Cert.Reference2.τ Cert.Reference2.sig) → Buf (Elt Bits) ℓ) : Prop :=
  True

def quiescent_Kernel [hKernel : Cert.Kernel.Facts] [hPre_spans_in_range : Cert.Pre_spans_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] [hPre_spans_in_range : Cert.Pre_spans_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_ReferenceIdeal_pre_spans_in_range [hReferenceIdeal : Cert.ReferenceIdeal.Facts] [hPre_spans_in_range : Cert.Pre_spans_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_spans_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0))
      ∧ r.2.sem = fun _ => 0)

def quiescent_Reference2 [hReference2 : Cert.Reference2.Facts] : Prop :=
  ∀ (m : (ℓ : Loc Cert.Reference2.nD Cert.Reference2.τ Cert.Reference2.sig) → Buf (Elt Bits) ℓ) (g : Dev Cert.Reference2.nD → PrngReg), Pre_Reference2 m →
    θ_run (Cert.Reference2.defs (F := Bits)) (onTc (τ := Cert.Reference2.τ) (Cert.Reference2.main (F := Bits))) ⟨m, fun _ => 0, g⟩ (fun r => (∀ c : Dev Cert.Reference2.nD,
      r.2.mem ((c.tc : Thread Cert.Reference2.nD Cert.Reference2.τ).loc Cert.Reference2.main_arg0) = m ((c.tc : Thread Cert.Reference2.nD Cert.Reference2.τ).loc Cert.Reference2.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_spans_in_range : Cert.Pre_spans_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v15) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v80) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def bitexact_Kernel2_Reference2 [hKernel2 : Cert.Kernel2.Facts] [hReference2 : Cert.Reference2.Facts] : Prop :=
  ∀ (m : (ℓ : Loc Cert.Kernel2.nD Cert.Kernel2.τ Cert.Kernel2.sig) → Buf (Elt Bits) ℓ) (g : Dev Cert.Kernel2.nD → PrngReg)
    (m' : (ℓ : Loc Cert.Reference2.nD Cert.Reference2.τ Cert.Reference2.sig) → Buf (Elt Bits) ℓ) (g' : Dev Cert.Reference2.nD → PrngReg), Pre_Kernel2 m →
    (∀ c : Dev Cert.Kernel2.nD,
      m' ((c.tc : Thread Cert.Reference2.nD Cert.Reference2.τ).loc Cert.Reference2.main_arg0) = m ((c.tc : Thread Cert.Kernel2.nD Cert.Kernel2.τ).loc Cert.Kernel2.main_arg0)) →
    ∃ (v0 : (c : Dev Cert.Kernel2.nD) → Buf (Elt Bits) ((c.tc : Thread Cert.Kernel2.nD Cert.Kernel2.τ).loc Cert.Kernel2.main_v4)),
      θ_run (Cert.Kernel2.defs (F := Bits)) (onTc (τ := Cert.Kernel2.τ) (Cert.Kernel2.main (F := Bits))) ⟨m, fun _ => 0, g⟩ (fun r => ∀ c : Dev Cert.Kernel2.nD,
          r.2.mem ((c.tc : Thread Cert.Kernel2.nD Cert.Kernel2.τ).loc Cert.Kernel2.main_v4) = v0 c
          ∧ r.2.mem ((c.tc : Thread Cert.Kernel2.nD Cert.Kernel2.τ).loc Cert.Kernel2.main_arg0) = m ((c.tc : Thread Cert.Kernel2.nD Cert.Kernel2.τ).loc Cert.Kernel2.main_arg0))
      ∧ θ_run (Cert.Reference2.defs (F := Bits)) (onTc (τ := Cert.Reference2.τ) (Cert.Reference2.main (F := Bits))) ⟨m', fun _ => 0, g'⟩ (fun r => ∀ c : Dev Cert.Reference2.nD,
          r.2.mem ((c.tc : Thread Cert.Reference2.nD Cert.Reference2.τ).loc Cert.Reference2.main_indices) = v0 c
          ∧ r.2.mem ((c.tc : Thread Cert.Reference2.nD Cert.Reference2.τ).loc Cert.Reference2.main_arg0) = m' ((c.tc : Thread Cert.Reference2.nD Cert.Reference2.τ).loc Cert.Reference2.main_arg0))

def Claim : Prop :=
  ∃ (hKernel : Cert.Kernel.Facts) (hKernelIdeal : Cert.KernelIdeal.Facts) (hReferenceIdeal : Cert.ReferenceIdeal.Facts) (hKernel2 : Cert.Kernel2.Facts) (hReference2 : Cert.Reference2.Facts) (hPre_spans_in_range : Cert.Pre_spans_in_range.Facts),
    quiescent_Kernel (hKernel := hKernel) (hPre_spans_in_range := hPre_spans_in_range)
    ∧ quiescent_KernelIdeal (hKernelIdeal := hKernelIdeal) (hPre_spans_in_range := hPre_spans_in_range)
    ∧ quiescent_ReferenceIdeal (hReferenceIdeal := hReferenceIdeal)
    ∧ quiescent_ReferenceIdeal_pre_spans_in_range (hReferenceIdeal := hReferenceIdeal) (hPre_spans_in_range := hPre_spans_in_range)
    ∧ quiescent_Kernel2 (hKernel2 := hKernel2)
    ∧ quiescent_Reference2 (hReference2 := hReference2)
    ∧ preserves_Kernel_KernelIdeal
    ∧ algebraic_KernelIdeal_ReferenceIdeal (hKernelIdeal := hKernelIdeal) (hReferenceIdeal := hReferenceIdeal) (hPre_spans_in_range := hPre_spans_in_range)
    ∧ bitexact_Kernel2_Reference2 (hKernel2 := hKernel2) (hReference2 := hReference2)
-- ==== Pre_spans_in_range.lean ====
abbrev S16384x256 : Shape := ⟨2, ![16384, 256]⟩
abbrev S16384 : Shape := ⟨1, ![16384]⟩
abbrev S256x150 : Shape := ⟨2, ![256, 150]⟩
abbrev S150 : Shape := ⟨1, ![150]⟩
abbrev S150x150 : Shape := ⟨2, ![150, 150]⟩
abbrev S150x1 : Shape := ⟨2, ![150, 1]⟩
abbrev S1 : Shape := ⟨1, ![1]⟩
abbrev S788x150 : Shape := ⟨2, ![788, 150]⟩
abbrev S10x20 : Shape := ⟨2, ![10, 20]⟩
abbrev S_ : Shape := ⟨0, ![]⟩

class Facts : Prop where
  bcast_S_S16384 : S_.BroadcastsInDim S16384 (![] : Fin 0 → Fin S16384.rank)

variable [Facts]

def fn {F : FTy → Type} [FloatOps F] (main_arg0 : FVec F S16384x256 .f32) (main_arg1 : FVec F S16384x256 .f32) (main_arg2 : IVec S16384 32) (main_arg3 : IVec S16384 32) (main_arg4 : FVec F S256x150 .f32) (main_arg5 : FVec F S150 .f32) (main_arg6 : FVec F S150x150 .f32) (main_arg7 : FVec F S150 .f32) (main_arg8 : FVec F S150x1 .f32) (main_arg9 : FVec F S1 .f32) (main_arg10 : FVec F S788x150 .f32) (main_arg11 : FVec F S150 .f32) (main_arg12 : FVec F S150x150 .f32) (main_arg13 : FVec F S150 .f32) (main_arg14 : FVec F S150x1 .f32) (main_arg15 : FVec F S1 .f32) (main_arg16 : FVec F S10x20 .f32) (main_arg17 : IVec S_ 32) : IVec S16384 1 :=
  let main_c : IVec S_ 32 := constantI S_ 32 0#32
  let main_v0 : IVec S16384 32 := broadcastInDim S16384 ![] bcast_S_S16384 main_c
  let main_v1 : IVec S16384 1 := cmpi .sge main_arg2 main_v0
  let main_c_0 : IVec S_ 32 := constantI S_ 32 16368#32
  let main_v2 : IVec S16384 32 := broadcastInDim S16384 ![] bcast_S_S16384 main_c_0
  let main_v3 : IVec S16384 1 := cmpi .slt main_arg2 main_v2
  let main_v4 : IVec S16384 1 := andi main_v1 main_v3
  let main_c_1 : IVec S_ 32 := constantI S_ 32 0#32
  let main_v5 : IVec S16384 32 := broadcastInDim S16384 ![] bcast_S_S16384 main_c_1
  let main_v6 : IVec S16384 1 := cmpi .sge main_arg3 main_v5
  let main_v7 : IVec S16384 1 := andi main_v4 main_v6
  let main_c_2 : IVec S_ 32 := constantI S_ 32 16#32
  let main_v8 : IVec S16384 32 := broadcastInDim S16384 ![] bcast_S_S16384 main_c_2
  let main_v9 : IVec S16384 1 := cmpi .slt main_arg3 main_v8
  let main_v10 : IVec S16384 1 := andi main_v7 main_v9
  main_v10
-- ==== Kernel.lean ====
abbrev S16384x256 : Shape := ⟨2, ![16384, 256]⟩
abbrev S16384 : Shape := ⟨1, ![16384]⟩
abbrev S256x150 : Shape := ⟨2, ![256, 150]⟩
abbrev S150 : Shape := ⟨1, ![150]⟩
abbrev S150x150 : Shape := ⟨2, ![150, 150]⟩
abbrev S150x1 : Shape := ⟨2, ![150, 1]⟩
abbrev S1 : Shape := ⟨1, ![1]⟩
abbrev S788x150 : Shape := ⟨2, ![788, 150]⟩
abbrev S10x20 : Shape := ⟨2, ![10, 20]⟩
abbrev S_ : Shape := ⟨0, ![]⟩
abbrev S1x150 : Shape := ⟨2, ![1, 150]⟩
abbrev S1x1 : Shape := ⟨2, ![1, 1]⟩
abbrev S16384x1 : Shape := ⟨2, ![16384, 1]⟩
abbrev S2048x256 : Shape := ⟨2, ![2048, 256]⟩
abbrev S2048x1 : Shape := ⟨2, ![2048, 1]⟩
abbrev S2048x150 : Shape := ⟨2, ![2048, 150]⟩
abbrev S32x1x512 : Shape := ⟨3, ![32, 1, 512]⟩
abbrev S16x20 : Shape := ⟨2, ![16, 20]⟩
abbrev S16384x788 : Shape := ⟨2, ![16384, 788]⟩
abbrev S1x1x512 : Shape := ⟨3, ![1, 1, 512]⟩
abbrev S512x788 : Shape := ⟨2, ![512, 788]⟩
abbrev S16x1 : Shape := ⟨2, ![16, 1]⟩
abbrev S1x1x1 : Shape := ⟨3, ![1, 1, 1]⟩
abbrev S32x1 : Shape := ⟨2, ![32, 1]⟩
abbrev S1x16x1 : Shape := ⟨3, ![1, 16, 1]⟩
abbrev S8x1 : Shape := ⟨2, ![8, 1]⟩
abbrev S4x1 : Shape := ⟨2, ![4, 1]⟩
abbrev S2x1 : Shape := ⟨2, ![2, 1]⟩
abbrev S32x256 : Shape := ⟨2, ![32, 256]⟩
abbrev S16x256 : Shape := ⟨2, ![16, 256]⟩
abbrev S8x256 : Shape := ⟨2, ![8, 256]⟩
abbrev S4x256 : Shape := ⟨2, ![4, 256]⟩
abbrev S2x256 : Shape := ⟨2, ![2, 256]⟩
abbrev S1x256 : Shape := ⟨2, ![1, 256]⟩
abbrev S8x20 : Shape := ⟨2, ![8, 20]⟩
abbrev S1x20 : Shape := ⟨2, ![1, 20]⟩
abbrev S1x788 : Shape := ⟨2, ![1, 788]⟩
abbrev S8x788 : Shape := ⟨2, ![8, 788]⟩
abbrev S16384x150 : Shape := ⟨2, ![16384, 150]⟩

abbrev nBuf : Space → Nat
  | .hbm => 36
  | .vmem => 25
  | .smem => 4
  | _ => 0

abbrev bufTy : (tb : Table) → Fin (tcTables nBuf tb) → BufTy
  | .hbm, ⟨0, _⟩ => ⟨S16384x256, .f32⟩
  | .hbm, ⟨1, _⟩ => ⟨S16384x256, .f32⟩
  | .hbm, ⟨2, _⟩ => ⟨S16384, .i32⟩
  | .hbm, ⟨3, _⟩ => ⟨S16384, .i32⟩
  | .hbm, ⟨4, _⟩ => ⟨S256x150, .f32⟩
  | .hbm, ⟨5, _⟩ => ⟨S150, .f32⟩
  | .hbm, ⟨6, _⟩ => ⟨S150x150, .f32⟩
  | .hbm, ⟨7, _⟩ => ⟨S150, .f32⟩
  | .hbm, ⟨8, _⟩ => ⟨S150x1, .f32⟩
  | .hbm, ⟨9, _⟩ => ⟨S1, .f32⟩
  | .hbm, ⟨10, _⟩ => ⟨S788x150, .f32⟩
  | .hbm, ⟨11, _⟩ => ⟨S150, .f32⟩
  | .hbm, ⟨12, _⟩ => ⟨S150x150, .f32⟩
  | .hbm, ⟨13, _⟩ => ⟨S150, .f32⟩
  | .hbm, ⟨14, _⟩ => ⟨S150x1, .f32⟩
  | .hbm, ⟨15, _⟩ => ⟨S1, .f32⟩
  | .hbm, ⟨16, _⟩ => ⟨S10x20, .f32⟩
  | .hbm, ⟨17, _⟩ => ⟨S_, .i32⟩
  | .hbm, ⟨18, _⟩ => ⟨S1x150, .f32⟩
  | .hbm, ⟨19, _⟩ => ⟨S1x150, .f32⟩
  | .hbm, ⟨20, _⟩ => ⟨S150x1, .bf16⟩
  | .hbm, ⟨21, _⟩ => ⟨S1x1, .f32⟩
  | .hbm, ⟨22, _⟩ => ⟨S16384x1, .f32⟩
  | .hbm, ⟨23, _⟩ => ⟨S32x1x512, .i32⟩
  | .hbm, ⟨24, _⟩ => ⟨S32x1x512, .i32⟩
  | .hbm, ⟨25, _⟩ => ⟨S_, .i32⟩
  | .hbm, ⟨26, _⟩ => ⟨S_, .f32⟩
  | .hbm, ⟨27, _⟩ => ⟨S16x20, .f32⟩
  | .hbm, ⟨28, _⟩ => ⟨S16384x788, .f32⟩
  | .hbm, ⟨29, _⟩ => ⟨S16384x788, .bf16⟩
  | .hbm, ⟨30, _⟩ => ⟨S16384x150, .f32⟩
  | .hbm, ⟨31, _⟩ => ⟨S1x150, .f32⟩
  | .hbm, ⟨32, _⟩ => ⟨S1x150, .f32⟩
  | .hbm, ⟨33, _⟩ => ⟨S150x1, .bf16⟩
  | .hbm, ⟨34, _⟩ => ⟨S1x1, .f32⟩
  | .hbm, ⟨35, _⟩ => ⟨S16384x1, .f32⟩
  | .local _ .vmem, ⟨0, _⟩ => ⟨S2048x256, .f32⟩
  | .local _ .vmem, ⟨1, _⟩ => ⟨S2048x256, .f32⟩
  | .local _ .vmem, ⟨2, _⟩ => ⟨S256x150, .f32⟩
  | .local _ .vmem, ⟨3, _⟩ => ⟨S1x150, .f32⟩
  | .local _ .vmem, ⟨4, _⟩ => ⟨S150x150, .f32⟩
  | .local _ .vmem, ⟨5, _⟩ => ⟨S1x150, .f32⟩
  | .local _ .vmem, ⟨6, _⟩ => ⟨S150x1, .bf16⟩
  | .local _ .vmem, ⟨7, _⟩ => ⟨S1x1, .f32⟩
  | .local _ .vmem, ⟨8, _⟩ => ⟨S2048x1, .f32⟩
  | .local _ .vmem, ⟨9, _⟩ => ⟨S2048x1, .f32⟩
  | .local _ .vmem, ⟨10, _⟩ => ⟨S16384x256, .f32⟩
  | .local _ .vmem, ⟨11, _⟩ => ⟨S16384x256, .f32⟩
  | .local _ .vmem, ⟨12, _⟩ => ⟨S16384x1, .f32⟩
  | .local _ .vmem, ⟨13, _⟩ => ⟨S16x20, .f32⟩
  | .local _ .vmem, ⟨14, _⟩ => ⟨S512x788, .f32⟩
  | .local _ .vmem, ⟨15, _⟩ => ⟨S512x788, .f32⟩
  | .local _ .vmem, ⟨16, _⟩ => ⟨S2048x150, .f32⟩
  | .local _ .vmem, ⟨17, _⟩ => ⟨S2048x150, .f32⟩
  | .local _ .vmem, ⟨18, _⟩ => ⟨S1x150, .f32⟩
  | .local _ .vmem, ⟨19, _⟩ => ⟨S150x150, .f32⟩
  | .local _ .vmem, ⟨20, _⟩ => ⟨S1x150, .f32⟩
  | .local _ .vmem, ⟨21, _⟩ => ⟨S150x1, .bf16⟩
  | .local _ .vmem, ⟨22, _⟩ => ⟨S1x1, .f32⟩
  | .local _ .vmem, ⟨23, _⟩ => ⟨S2048x1, .f32⟩
  | .local _ .vmem, ⟨24, _⟩ => ⟨S2048x1, .f32⟩
  | .local _ .smem, ⟨0, _⟩ => ⟨S1x1x512, .i32⟩
  | .local _ .smem, ⟨1, _⟩ => ⟨S1x1x512, .i32⟩
  | .local _ .smem, ⟨2, _⟩ => ⟨S1x1x512, .i32⟩
  | .local _ .smem, ⟨3, _⟩ => ⟨S1x1x512, .i32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_c : Ref sig .tc := ⟨.hbm, 25, rfl⟩
abbrev main_call0_v0 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg6_0 : Ref sig .tc := ⟨.vmem, 23, rfl⟩
abbrev cc2_stg6_1 : Ref sig .tc := ⟨.vmem, 24, rfl⟩
abbrev cc1_stg0_0 : Ref sig .tc := ⟨.smem, 0, rfl⟩
abbrev cc1_stg0_1 : Ref sig .tc := ⟨.smem, 1, rfl⟩
abbrev cc1_stg1_0 : Ref sig .tc := ⟨.smem, 2, rfl⟩
abbrev cc1_stg1_1 : Ref sig .tc := ⟨.smem, 3, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem6_0 : DmaSem sig := 27
abbrev cc2_sem6_1 : DmaSem sig := 28

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x150 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x150 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S150x150 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x150 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S150x1 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![32], ![false]⟩

@[reducible] def k1_t1_loop : Scf.Loop 32 :=
  let c0_i32 : BitVec 32 := 0#32
  let c64_i32 : BitVec 32 := 64#32
  let v1 : BitVec 32 := Scalar.addi c0_i32 c64_i32
  let c1_i32 : BitVec 32 := 1#32
  ⟨c0_i32, v1, c1_i32⟩
def k1_mult1 (k1_t1 : Fin k1_t1_loop.trips) : BitVec 32 :=
  let c0_i32 : BitVec 32 := 0#32
  let c1_i32 : BitVec 32 := 1#32
  let arg8 : BitVec 32 := Scf.iv c0_i32 c1_i32 k1_t1
  let c8_i32 : BitVec 32 := 8#32
  let v2 : BitVec 32 := Scalar.muli arg8 c8_i32
  v2
def k1_off1 (k1_t1 : Fin k1_t1_loop.trips) : Fin 3 → Nat :=
  let c0 : Index := 0#32
  let c0_3 : Index := 0#32
  let c0_i32 : BitVec 32 := 0#32
  let c1_i32 : BitVec 32 := 1#32
  let arg8 : BitVec 32 := Scf.iv c0_i32 c1_i32 k1_t1
  let c8_i32_1 : BitVec 32 := 8#32
  let v4 : BitVec 32 := Scalar.muli arg8 c8_i32_1
  let c0_i32_2 : BitVec 32 := 0#32
  let v5 : BitVec 32 := Scalar.addi v4 c0_i32_2
  let v6 : Index := Scalar.indexCast v5
  ![0, 0, v6.toNat]
def k1_mult2 (v7 : BitVec 32) : BitVec 32 :=
  let c0_i32_11 : BitVec 32 := 0#32
  let v16 : BitVec 1 := Scalar.cmpi .sgt v7 c0_i32_11
  let v17 : BitVec 32 := Scalar.extui v16
  let c0_i32_12 : BitVec 32 := 0#32
  let v18 : BitVec 1 := Scalar.cmpi .slt v7 c0_i32_12
  let v19 : BitVec 32 := Scalar.extui v18
  let v20 : BitVec 32 := Scalar.subi v17 v19
  let c8_i32_10 : BitVec 32 := 8#32
  let c0_i32_13 : BitVec 32 := 0#32
  let v21 : BitVec 1 := Scalar.cmpi .sgt c8_i32_10 c0_i32_13
  let v22 : BitVec 32 := Scalar.extui v21
  let c0_i32_14 : BitVec 32 := 0#32
  let v23 : BitVec 1 := Scalar.cmpi .slt c8_i32_10 c0_i32_14
  let v24 : BitVec 32 := Scalar.extui v23
  let v25 : BitVec 32 := Scalar.subi v22 v24
  let v26 : BitVec 1 := Scalar.cmpi .ne v20 v25
  let v27 : BitVec 32 := Scalar.remsi v7 c8_i32_10
  let c0_i32_15 : BitVec 32 := 0#32
  let v28 : BitVec 1 := Scalar.cmpi .ne v27 c0_i32_15
  let v29 : BitVec 1 := Scalar.andi v26 v28
  let v15 : BitVec 32 := Scalar.divsi v7 c8_i32_10
  let c1_i32_16 : BitVec 32 := 1#32
  let v30 : BitVec 32 := Scalar.subi v15 c1_i32_16
  let v31 : BitVec 32 := Scalar.select v29 v30 v15
  let c8_i32_17 : BitVec 32 := 8#32
  let v32 : BitVec 32 := Scalar.muli v31 c8_i32_17
  let c16352_i32 : BitVec 32 := 16352#32
  let v33 : BitVec 32 := Scalar.minsi v32 c16352_i32
  v33

def k1_off2 (v7 : BitVec 32) : Fin 2 → Nat :=
  let c0_i32_11 : BitVec 32 := 0#32
  let v16 : BitVec 1 := Scalar.cmpi .sgt v7 c0_i32_11
  let v17 : BitVec 32 := Scalar.extui v16
  let c0_i32_12 : BitVec 32 := 0#32
  let v18 : BitVec 1 := Scalar.cmpi .slt v7 c0_i32_12
  let v19 : BitVec 32 := Scalar.extui v18
  let v20 : BitVec 32 := Scalar.subi v17 v19
  let c8_i32_10 : BitVec 32 := 8#32
  let c0_i32_13 : BitVec 32 := 0#32
  let v21 : BitVec 1 := Scalar.cmpi .sgt c8_i32_10 c0_i32_13
  let v22 : BitVec 32 := Scalar.extui v21
  let c0_i32_14 : BitVec 32 := 0#32
  let v23 : BitVec 1 := Scalar.cmpi .slt c8_i32_10 c0_i32_14
  let v24 : BitVec 32 := Scalar.extui v23
  let v25 : BitVec 32 := Scalar.subi v22 v24
  let v26 : BitVec 1 := Scalar.cmpi .ne v20 v25
  let v27 : BitVec 32 := Scalar.remsi v7 c8_i32_10
  let c0_i32_15 : BitVec 32 := 0#32
  let v28 : BitVec 1 := Scalar.cmpi .ne v27 c0_i32_15
  let v29 : BitVec 1 := Scalar.andi v26 v28
  let v15 : BitVec 32 := Scalar.divsi v7 c8_i32_10
  let c1_i32_16 : BitVec 32 := 1#32
  let v30 : BitVec 32 := Scalar.subi v15 c1_i32_16
  let v31 : BitVec 32 := Scalar.select v29 v30 v15
  let c8_i32_17 : BitVec 32 := 8#32
  let v32 : BitVec 32 := Scalar.muli v31 c8_i32_17
  let c16352_i32 : BitVec 32 := 16352#32
  let v33 : BitVec 32 := Scalar.minsi v32 c16352_i32
  let v34 : BitVec 32 := v33
  let v36 : Index := Scalar.indexCast v34
  let c0_18 : Index := 0#32
  ![v36.toNat, 0]
def k1_mult3 (v7 : BitVec 32) : BitVec 32 :=
  let c0_i32_22 : BitVec 32 := 0#32
  let v69 : BitVec 1 := Scalar.cmpi .sgt v7 c0_i32_22
  let v70 : BitVec 32 := Scalar.extui v69
  let c0_i32_23 : BitVec 32 := 0#32
  let v71 : BitVec 1 := Scalar.cmpi .slt v7 c0_i32_23
  let v72 : BitVec 32 := Scalar.extui v71
  let v73 : BitVec 32 := Scalar.subi v70 v72
  let c8_i32_21 : BitVec 32 := 8#32
  let c0_i32_24 : BitVec 32 := 0#32
  let v74 : BitVec 1 := Scalar.cmpi .sgt c8_i32_21 c0_i32_24
  let v75 : BitVec 32 := Scalar.extui v74
  let c0_i32_25 : BitVec 32 := 0#32
  let v76 : BitVec 1 := Scalar.cmpi .slt c8_i32_21 c0_i32_25
  let v77 : BitVec 32 := Scalar.extui v76
  let v78 : BitVec 32 := Scalar.subi v75 v77
  let v79 : BitVec 1 := Scalar.cmpi .ne v73 v78
  let v80 : BitVec 32 := Scalar.remsi v7 c8_i32_21
  let c0_i32_26 : BitVec 32 := 0#32
  let v81 : BitVec 1 := Scalar.cmpi .ne v80 c0_i32_26
  let v82 : BitVec 1 := Scalar.andi v79 v81
  let v68 : BitVec 32 := Scalar.divsi v7 c8_i32_21
  let c1_i32_27 : BitVec 32 := 1#32
  let v83 : BitVec 32 := Scalar.subi v68 c1_i32_27
  let v84 : BitVec 32 := Scalar.select v82 v83 v68
  let c8_i32_28 : BitVec 32 := 8#32
  let v85 : BitVec 32 := Scalar.muli v84 c8_i32_28
  let c16352_i32_29 : BitVec 32 := 16352#32
  let v86 : BitVec 32 := Scalar.minsi v85 c16352_i32_29
  v86
def k1_off3 (v7 : BitVec 32) : Fin 2 → Nat :=
  let c0_i32_22 : BitVec 32 := 0#32
  let v69 : BitVec 1 := Scalar.cmpi .sgt v7 c0_i32_22
  let v70 : BitVec 32 := Scalar.extui v69
  let c0_i32_23 : BitVec 32 := 0#32
  let v71 : BitVec 1 := Scalar.cmpi .slt v7 c0_i32_23
  let v72 : BitVec 32 := Scalar.extui v71
  let v73 : BitVec 32 := Scalar.subi v70 v72
  let c8_i32_21 : BitVec 32 := 8#32
  let c0_i32_24 : BitVec 32 := 0#32
  let v74 : BitVec 1 := Scalar.cmpi .sgt c8_i32_21 c0_i32_24
  let v75 : BitVec 32 := Scalar.extui v74
  let c0_i32_25 : BitVec 32 := 0#32
  let v76 : BitVec 1 := Scalar.cmpi .slt c8_i32_21 c0_i32_25
  let v77 : BitVec 32 := Scalar.extui v76
  let v78 : BitVec 32 := Scalar.subi v75 v77
  let v79 : BitVec 1 := Scalar.cmpi .ne v73 v78
  let v80 : BitVec 32 := Scalar.remsi v7 c8_i32_21
  let c0_i32_26 : BitVec 32 := 0#32
  let v81 : BitVec 1 := Scalar.cmpi .ne v80 c0_i32_26
  let v82 : BitVec 1 := Scalar.andi v79 v81
  let v68 : BitVec 32 := Scalar.divsi v7 c8_i32_21
  let c1_i32_27 : BitVec 32 := 1#32
  let v83 : BitVec 32 := Scalar.subi v68 c1_i32_27
  let v84 : BitVec 32 := Scalar.select v82 v83 v68
  let c8_i32_28 : BitVec 32 := 8#32
  let v85 : BitVec 32 := Scalar.muli v84 c8_i32_28
  let c16352_i32_29 : BitVec 32 := 16352#32
  let v86 : BitVec 32 := Scalar.minsi v85 c16352_i32_29
  let v87 : BitVec 32 := v86
  let v89 : Index := Scalar.indexCast v87
  let c0_30 : Index := 0#32
  ![v89.toNat, 0]
def k1_mult4 (v7 : BitVec 32) : BitVec 32 :=
  let c0_i32_39 : BitVec 32 := 0#32
  let v144 : BitVec 1 := Scalar.cmpi .sgt v7 c0_i32_39
  let v145 : BitVec 32 := Scalar.extui v144
  let c0_i32_40 : BitVec 32 := 0#32
  let v146 : BitVec 1 := Scalar.cmpi .slt v7 c0_i32_40
  let v147 : BitVec 32 := Scalar.extui v146
  let v148 : BitVec 32 := Scalar.subi v145 v147
  let c8_i32_38 : BitVec 32 := 8#32
  let c0_i32_41 : BitVec 32 := 0#32
  let v149 : BitVec 1 := Scalar.cmpi .sgt c8_i32_38 c0_i32_41
  let v150 : BitVec 32 := Scalar.extui v149
  let c0_i32_42 : BitVec 32 := 0#32
  let v151 : BitVec 1 := Scalar.cmpi .slt c8_i32_38 c0_i32_42
  let v152 : BitVec 32 := Scalar.extui v151
  let v153 : BitVec 32 := Scalar.subi v150 v152
  let v154 : BitVec 1 := Scalar.cmpi .ne v148 v153
  let v155 : BitVec 32 := Scalar.remsi v7 c8_i32_38
  let c0_i32_43 : BitVec 32 := 0#32
  let v156 : BitVec 1 := Scalar.cmpi .ne v155 c0_i32_43
  let v157 : BitVec 1 := Scalar.andi v154 v156
  let v143 : BitVec 32 := Scalar.divsi v7 c8_i32_38
  let c1_i32_44 : BitVec 32 := 1#32
  let v158 : BitVec 32 := Scalar.subi v143 c1_i32_44
  let v159 : BitVec 32 := Scalar.select v157 v158 v143
  let c8_i32_45 : BitVec 32 := 8#32
  let v160 : BitVec 32 := Scalar.muli v159 c8_i32_45
  let c16352_i32_46 : BitVec 32 := 16352#32
  let v161 : BitVec 32 := Scalar.minsi v160 c16352_i32_46
  v161

def k1_chk1 (v7 : BitVec 32) : Prop :=
  (8 ∣ (k1_mult2 v7).toNat) ∧
  (∀ a, (k1_off2 v7) a + S32x1.size a ≤ S16384x1.size a) ∧
  (8 ∣ (k1_mult3 v7).toNat) ∧
  (∀ a, (k1_off3 v7) a + S32x256.size a ≤ S16384x256.size a) ∧
  (8 ∣ (k1_mult4 v7).toNat)
theorem k1_mult2_dvd : ∀ (v7 : BitVec 32) (k1_hw1 : k1_chk1 v7), 8 ∣ (k1_mult2 v7).toNat := fun v7 k1_hw1 => k1_hw1.1
theorem k1_off2_inb : ∀ (v7 : BitVec 32) (k1_hw1 : k1_chk1 v7), ∀ a, (k1_off2 v7) a + S32x1.size a ≤ S16384x1.size a := fun v7 k1_hw1 => k1_hw1.2.1
theorem k1_mult3_dvd : ∀ (v7 : BitVec 32) (k1_hw1 : k1_chk1 v7), 8 ∣ (k1_mult3 v7).toNat := fun v7 k1_hw1 => k1_hw1.2.2.1
theorem k1_off3_inb : ∀ (v7 : BitVec 32) (k1_hw1 : k1_chk1 v7), ∀ a, (k1_off3 v7) a + S32x256.size a ≤ S16384x256.size a := fun v7 k1_hw1 => k1_hw1.2.2.2.1
theorem k1_mult4_dvd : ∀ (v7 : BitVec 32) (k1_hw1 : k1_chk1 v7), 8 ∣ (k1_mult4 v7).toNat := fun v7 k1_hw1 => k1_hw1.2.2.2.2

def k1_mult5 (v7 : BitVec 32) (v11 : BitVec 32) : BitVec 32 :=
  let c1_i32_8 : BitVec 32 := 1#32
  let v12 : BitVec 32 := Scalar.addi v11 c1_i32_8
  let v13 : BitVec 32 := Scalar.addi v7 v12
  let c1_i32_9 : BitVec 32 := 1#32
  let v14 : BitVec 32 := Scalar.subi v13 c1_i32_9
  let c0_i32_50 : BitVec 32 := 0#32
  let v170 : BitVec 1 := Scalar.cmpi .sgt v14 c0_i32_50
  let v171 : BitVec 32 := Scalar.extui v170
  let c0_i32_51 : BitVec 32 := 0#32
  let v172 : BitVec 1 := Scalar.cmpi .slt v14 c0_i32_51
  let v173 : BitVec 32 := Scalar.extui v172
  let v174 : BitVec 32 := Scalar.subi v171 v173
  let c8_i32_49 : BitVec 32 := 8#32
  let c0_i32_52 : BitVec 32 := 0#32
  let v175 : BitVec 1 := Scalar.cmpi .sgt c8_i32_49 c0_i32_52
  let v176 : BitVec 32 := Scalar.extui v175
  let c0_i32_53 : BitVec 32 := 0#32
  let v177 : BitVec 1 := Scalar.cmpi .slt c8_i32_49 c0_i32_53
  let v178 : BitVec 32 := Scalar.extui v177
  let v179 : BitVec 32 := Scalar.subi v176 v178
  let v180 : BitVec 1 := Scalar.cmpi .ne v174 v179
  let v181 : BitVec 32 := Scalar.remsi v14 c8_i32_49
  let c0_i32_54 : BitVec 32 := 0#32
  let v182 : BitVec 1 := Scalar.cmpi .ne v181 c0_i32_54
  let v183 : BitVec 1 := Scalar.andi v180 v182
  let v169 : BitVec 32 := Scalar.divsi v14 c8_i32_49
  let c1_i32_55 : BitVec 32 := 1#32
  let v184 : BitVec 32 := Scalar.subi v169 c1_i32_55
  let v185 : BitVec 32 := Scalar.select v183 v184 v169
  let c8_i32_56 : BitVec 32 := 8#32
  let v186 : BitVec 32 := Scalar.muli v185 c8_i32_56
  let c16352_i32_57 : BitVec 32 := 16352#32
  let v187 : BitVec 32 := Scalar.minsi v186 c16352_i32_57
  v187

def k1_off4 (v7 : BitVec 32) (v11 : BitVec 32) : Fin 2 → Nat :=
  let c1_i32_8 : BitVec 32 := 1#32
  let v12 : BitVec 32 := Scalar.addi v11 c1_i32_8
  let v13 : BitVec 32 := Scalar.addi v7 v12
  let c1_i32_9 : BitVec 32 := 1#32
  let v14 : BitVec 32 := Scalar.subi v13 c1_i32_9
  let c0_i32_50 : BitVec 32 := 0#32
  let v170 : BitVec 1 := Scalar.cmpi .sgt v14 c0_i32_50
  let v171 : BitVec 32 := Scalar.extui v170
  let c0_i32_51 : BitVec 32 := 0#32
  let v172 : BitVec 1 := Scalar.cmpi .slt v14 c0_i32_51
  let v173 : BitVec 32 := Scalar.extui v172
  let v174 : BitVec 32 := Scalar.subi v171 v173
  let c8_i32_49 : BitVec 32 := 8#32
  let c0_i32_52 : BitVec 32 := 0#32
  let v175 : BitVec 1 := Scalar.cmpi .sgt c8_i32_49 c0_i32_52
  let v176 : BitVec 32 := Scalar.extui v175
  let c0_i32_53 : BitVec 32 := 0#32
  let v177 : BitVec 1 := Scalar.cmpi .slt c8_i32_49 c0_i32_53
  let v178 : BitVec 32 := Scalar.extui v177
  let v179 : BitVec 32 := Scalar.subi v176 v178
  let v180 : BitVec 1 := Scalar.cmpi .ne v174 v179
  let v181 : BitVec 32 := Scalar.remsi v14 c8_i32_49
  let c0_i32_54 : BitVec 32 := 0#32
  let v182 : BitVec 1 := Scalar.cmpi .ne v181 c0_i32_54
  let v183 : BitVec 1 := Scalar.andi v180 v182
  let v169 : BitVec 32 := Scalar.divsi v14 c8_i32_49
  let c1_i32_55 : BitVec 32 := 1#32
  let v184 : BitVec 32 := Scalar.subi v169 c1_i32_55
  let v185 : BitVec 32 := Scalar.select v183 v184 v169
  let c8_i32_56 : BitVec 32 := 8#32
  let v186 : BitVec 32 := Scalar.muli v185 c8_i32_56
  let c16352_i32_57 : BitVec 32 := 16352#32
  let v187 : BitVec 32 := Scalar.minsi v186 c16352_i32_57
  let v188 : BitVec 32 := v187
  let v190 : Index := Scalar.indexCast v188
  let c0_58 : Index := 0#32
  ![v190.toNat, 0]

def k1_chk2 (v7 : BitVec 32) (v11 : BitVec 32) : Prop :=
  (8 ∣ (k1_mult5 v7 v11).toNat) ∧
  (∀ a, (k1_off4 v7 v11) a + S32x256.size a ≤ S16384x256.size a)
theorem k1_mult5_dvd : ∀ (v7 : BitVec 32) (v11 : BitVec 32) (k1_hw2 : k1_chk2 v7 v11), 8 ∣ (k1_mult5 v7 v11).toNat := fun v7 v11 k1_hw2 => k1_hw2.1
theorem k1_off4_inb : ∀ (v7 : BitVec 32) (v11 : BitVec 32) (k1_hw2 : k1_chk2 v7 v11), ∀ a, (k1_off4 v7 v11) a + S32x256.size a ≤ S16384x256.size a := fun v7 v11 k1_hw2 => k1_hw2.2

def k1_off5 (k1_t1 : Fin k1_t1_loop.trips) : Fin 3 → Nat :=
  let c0_62 : Index := 0#32
  let c0_63 : Index := 0#32
  let c0_i32 : BitVec 32 := 0#32
  let c1_i32 : BitVec 32 := 1#32
  let arg8 : BitVec 32 := Scf.iv c0_i32 c1_i32 k1_t1
  let c8_i32_60 : BitVec 32 := 8#32
  let v196 : BitVec 32 := Scalar.muli arg8 c8_i32_60
  let c1_i32_61 : BitVec 32 := 1#32
  let v197 : BitVec 32 := Scalar.addi v196 c1_i32_61
  let v198 : Index := Scalar.indexCast v197
  ![0, 0, v198.toNat]
def k1_mult6 (v199 : BitVec 32) : BitVec 32 :=
  let c0_i32_71 : BitVec 32 := 0#32
  let v208 : BitVec 1 := Scalar.cmpi .sgt v199 c0_i32_71
  let v209 : BitVec 32 := Scalar.extui v208
  let c0_i32_72 : BitVec 32 := 0#32
  let v210 : BitVec 1 := Scalar.cmpi .slt v199 c0_i32_72
  let v211 : BitVec 32 := Scalar.extui v210
  let v212 : BitVec 32 := Scalar.subi v209 v211
  let c8_i32_70 : BitVec 32 := 8#32
  let c0_i32_73 : BitVec 32 := 0#32
  let v213 : BitVec 1 := Scalar.cmpi .sgt c8_i32_70 c0_i32_73
  let v214 : BitVec 32 := Scalar.extui v213
  let c0_i32_74 : BitVec 32 := 0#32
  let v215 : BitVec 1 := Scalar.cmpi .slt c8_i32_70 c0_i32_74
  let v216 : BitVec 32 := Scalar.extui v215
  let v217 : BitVec 32 := Scalar.subi v214 v216
  let v218 : BitVec 1 := Scalar.cmpi .ne v212 v217
  let v219 : BitVec 32 := Scalar.remsi v199 c8_i32_70
  let c0_i32_75 : BitVec 32 := 0#32
  let v220 : BitVec 1 := Scalar.cmpi .ne v219 c0_i32_75
  let v221 : BitVec 1 := Scalar.andi v218 v220
  let v207 : BitVec 32 := Scalar.divsi v199 c8_i32_70
  let c1_i32_76 : BitVec 32 := 1#32
  let v222 : BitVec 32 := Scalar.subi v207 c1_i32_76
  let v223 : BitVec 32 := Scalar.select v221 v222 v207
  let c8_i32_77 : BitVec 32 := 8#32
  let v224 : BitVec 32 := Scalar.muli v223 c8_i32_77
  let c16352_i32_78 : BitVec 32 := 16352#32
  let v225 : BitVec 32 := Scalar.minsi v224 c16352_i32_78
  v225

def k1_off6 (v199 : BitVec 32) : Fin 2 → Nat :=
  let c0_i32_71 : BitVec 32 := 0#32
  let v208 : BitVec 1 := Scalar.cmpi .sgt v199 c0_i32_71
  let v209 : BitVec 32 := Scalar.extui v208
  let c0_i32_72 : BitVec 32 := 0#32
  let v210 : BitVec 1 := Scalar.cmpi .slt v199 c0_i32_72
  let v211 : BitVec 32 := Scalar.extui v210
  let v212 : BitVec 32 := Scalar.subi v209 v211
  let c8_i32_70 : BitVec 32 := 8#32
  let c0_i32_73 : BitVec 32 := 0#32
  let v213 : BitVec 1 := Scalar.cmpi .sgt c8_i32_70 c0_i32_73
  let v214 : BitVec 32 := Scalar.extui v213
  let c0_i32_74 : BitVec 32 := 0#32
  let v215 : BitVec 1 := Scalar.cmpi .slt c8_i32_70 c0_i32_74
  let v216 : BitVec 32 := Scalar.extui v215
  let v217 : BitVec 32 := Scalar.subi v214 v216
  let v218 : BitVec 1 := Scalar.cmpi .ne v212 v217
  let v219 : BitVec 32 := Scalar.remsi v199 c8_i32_70
  let c0_i32_75 : BitVec 32 := 0#32
  let v220 : BitVec 1 := Scalar.cmpi .ne v219 c0_i32_75
  let v221 : BitVec 1 := Scalar.andi v218 v220
  let v207 : BitVec 32 := Scalar.divsi v199 c8_i32_70
  let c1_i32_76 : BitVec 32 := 1#32
  let v222 : BitVec 32 := Scalar.subi v207 c1_i32_76
  let v223 : BitVec 32 := Scalar.select v221 v222 v207
  let c8_i32_77 : BitVec 32 := 8#32
  let v224 : BitVec 32 := Scalar.muli v223 c8_i32_77
  let c16352_i32_78 : BitVec 32 := 16352#32
  let v225 : BitVec 32 := Scalar.minsi v224 c16352_i32_78
  let v226 : BitVec 32 := v225
  let v228 : Index := Scalar.indexCast v226
  let c0_79 : Index := 0#32
  ![v228.toNat, 0]
def k1_mult7 (v199 : BitVec 32) : BitVec 32 :=
  let c0_i32_84 : BitVec 32 := 0#32
  let v261 : BitVec 1 := Scalar.cmpi .sgt v199 c0_i32_84
  let v262 : BitVec 32 := Scalar.extui v261
  let c0_i32_85 : BitVec 32 := 0#32
  let v263 : BitVec 1 := Scalar.cmpi .slt v199 c0_i32_85
  let v264 : BitVec 32 := Scalar.extui v263
  let v265 : BitVec 32 := Scalar.subi v262 v264
  let c8_i32_83 : BitVec 32 := 8#32
  let c0_i32_86 : BitVec 32 := 0#32
  let v266 : BitVec 1 := Scalar.cmpi .sgt c8_i32_83 c0_i32_86
  let v267 : BitVec 32 := Scalar.extui v266
  let c0_i32_87 : BitVec 32 := 0#32
  let v268 : BitVec 1 := Scalar.cmpi .slt c8_i32_83 c0_i32_87
  let v269 : BitVec 32 := Scalar.extui v268
  let v270 : BitVec 32 := Scalar.subi v267 v269
  let v271 : BitVec 1 := Scalar.cmpi .ne v265 v270
  let v272 : BitVec 32 := Scalar.remsi v199 c8_i32_83
  let c0_i32_88 : BitVec 32 := 0#32
  let v273 : BitVec 1 := Scalar.cmpi .ne v272 c0_i32_88
  let v274 : BitVec 1 := Scalar.andi v271 v273
  let v260 : BitVec 32 := Scalar.divsi v199 c8_i32_83
  let c1_i32_89 : BitVec 32 := 1#32
  let v275 : BitVec 32 := Scalar.subi v260 c1_i32_89
  let v276 : BitVec 32 := Scalar.select v274 v275 v260
  let c8_i32_90 : BitVec 32 := 8#32
  let v277 : BitVec 32 := Scalar.muli v276 c8_i32_90
  let c16352_i32_91 : BitVec 32 := 16352#32
  let v278 : BitVec 32 := Scalar.minsi v277 c16352_i32_91
  v278
def k1_off7 (v199 : BitVec 32) : Fin 2 → Nat :=
  let c0_i32_84 : BitVec 32 := 0#32
  let v261 : BitVec 1 := Scalar.cmpi .sgt v199 c0_i32_84
  let v262 : BitVec 32 := Scalar.extui v261
  let c0_i32_85 : BitVec 32 := 0#32
  let v263 : BitVec 1 := Scalar.cmpi .slt v199 c0_i32_85
  let v264 : BitVec 32 := Scalar.extui v263
  let v265 : BitVec 32 := Scalar.subi v262 v264
  let c8_i32_83 : BitVec 32 := 8#32
  let c0_i32_86 : BitVec 32 := 0#32
  let v266 : BitVec 1 := Scalar.cmpi .sgt c8_i32_83 c0_i32_86
  let v267 : BitVec 32 := Scalar.extui v266
  let c0_i32_87 : BitVec 32 := 0#32
  let v268 : BitVec 1 := Scalar.cmpi .slt c8_i32_83 c0_i32_87
  let v269 : BitVec 32 := Scalar.extui v268
  let v270 : BitVec 32 := Scalar.subi v267 v269
  let v271 : BitVec 1 := Scalar.cmpi .ne v265 v270
  let v272 : BitVec 32 := Scalar.remsi v199 c8_i32_83
  let c0_i32_88 : BitVec 32 := 0#32
  let v273 : BitVec 1 := Scalar.cmpi .ne v272 c0_i32_88
  let v274 : BitVec 1 := Scalar.andi v271 v273
  let v260 : BitVec 32 := Scalar.divsi v199 c8_i32_83
  let c1_i32_89 : BitVec 32 := 1#32
  let v275 : BitVec 32 := Scalar.subi v260 c1_i32_89
  let v276 : BitVec 32 := Scalar.select v274 v275 v260
  let c8_i32_90 : BitVec 32 := 8#32
  let v277 : BitVec 32 := Scalar.muli v276 c8_i32_90
  let c16352_i32_91 : BitVec 32 := 16352#32
  let v278 : BitVec 32 := Scalar.minsi v277 c16352_i32_91
  let v279 : BitVec 32 := v278
  let v281 : Index := Scalar.indexCast v279
  let c0_92 : Index := 0#32
  ![v281.toNat, 0]
def k1_mult8 (v199 : BitVec 32) : BitVec 32 :=
  let c0_i32_107 : BitVec 32 := 0#32
  let v336 : BitVec 1 := Scalar.cmpi .sgt v199 c0_i32_107
  let v337 : BitVec 32 := Scalar.extui v336
  let c0_i32_108 : BitVec 32 := 0#32
  let v338 : BitVec 1 := Scalar.cmpi .slt v199 c0_i32_108
  let v339 : BitVec 32 := Scalar.extui v338
  let v340 : BitVec 32 := Scalar.subi v337 v339
  let c8_i32_106 : BitVec 32 := 8#32
  let c0_i32_109 : BitVec 32 := 0#32
  let v341 : BitVec 1 := Scalar.cmpi .sgt c8_i32_106 c0_i32_109
  let v342 : BitVec 32 := Scalar.extui v341
  let c0_i32_110 : BitVec 32 := 0#32
  let v343 : BitVec 1 := Scalar.cmpi .slt c8_i32_106 c0_i32_110
  let v344 : BitVec 32 := Scalar.extui v343
  let v345 : BitVec 32 := Scalar.subi v342 v344
  let v346 : BitVec 1 := Scalar.cmpi .ne v340 v345
  let v347 : BitVec 32 := Scalar.remsi v199 c8_i32_106
  let c0_i32_111 : BitVec 32 := 0#32
  let v348 : BitVec 1 := Scalar.cmpi .ne v347 c0_i32_111
  let v349 : BitVec 1 := Scalar.andi v346 v348
  let v335 : BitVec 32 := Scalar.divsi v199 c8_i32_106
  let c1_i32_112 : BitVec 32 := 1#32
  let v350 : BitVec 32 := Scalar.subi v335 c1_i32_112
  let v351 : BitVec 32 := Scalar.select v349 v350 v335
  let c8_i32_113 : BitVec 32 := 8#32
  let v352 : BitVec 32 := Scalar.muli v351 c8_i32_113
  let c16352_i32_114 : BitVec 32 := 16352#32
  let v353 : BitVec 32 := Scalar.minsi v352 c16352_i32_114
  v353

def k1_chk3 (v199 : BitVec 32) : Prop :=
  (8 ∣ (k1_mult6 v199).toNat) ∧
  (∀ a, (k1_off6 v199) a + S32x1.size a ≤ S16384x1.size a) ∧
  (8 ∣ (k1_mult7 v199).toNat) ∧
  (∀ a, (k1_off7 v199) a + S32x256.size a ≤ S16384x256.size a) ∧
  (8 ∣ (k1_mult8 v199).toNat)
theorem k1_mult6_dvd : ∀ (v199 : BitVec 32) (k1_hw3 : k1_chk3 v199), 8 ∣ (k1_mult6 v199).toNat := fun v199 k1_hw3 => k1_hw3.1
theorem k1_off6_inb : ∀ (v199 : BitVec 32) (k1_hw3 : k1_chk3 v199), ∀ a, (k1_off6 v199) a + S32x1.size a ≤ S16384x1.size a := fun v199 k1_hw3 => k1_hw3.2.1
theorem k1_mult7_dvd : ∀ (v199 : BitVec 32) (k1_hw3 : k1_chk3 v199), 8 ∣ (k1_mult7 v199).toNat := fun v199 k1_hw3 => k1_hw3.2.2.1
theorem k1_off7_inb : ∀ (v199 : BitVec 32) (k1_hw3 : k1_chk3 v199), ∀ a, (k1_off7 v199) a + S32x256.size a ≤ S16384x256.size a := fun v199 k1_hw3 => k1_hw3.2.2.2.1
theorem k1_mult8_dvd : ∀ (v199 : BitVec 32) (k1_hw3 : k1_chk3 v199), 8 ∣ (k1_mult8 v199).toNat := fun v199 k1_hw3 => k1_hw3.2.2.2.2

def k1_mult9 (v199 : BitVec 32) (v203 : BitVec 32) : BitVec 32 :=
  let c1_i32_68 : BitVec 32 := 1#32
  let v204 : BitVec 32 := Scalar.addi v203 c1_i32_68
  let v205 : BitVec 32 := Scalar.addi v199 v204
  let c1_i32_69 : BitVec 32 := 1#32
  let v206 : BitVec 32 := Scalar.subi v205 c1_i32_69
  let c0_i32_118 : BitVec 32 := 0#32
  let v362 : BitVec 1 := Scalar.cmpi .sgt v206 c0_i32_118
  let v363 : BitVec 32 := Scalar.extui v362
  let c0_i32_119 : BitVec 32 := 0#32
  let v364 : BitVec 1 := Scalar.cmpi .slt v206 c0_i32_119
  let v365 : BitVec 32 := Scalar.extui v364
  let v366 : BitVec 32 := Scalar.subi v363 v365
  let c8_i32_117 : BitVec 32 := 8#32
  let c0_i32_120 : BitVec 32 := 0#32
  let v367 : BitVec 1 := Scalar.cmpi .sgt c8_i32_117 c0_i32_120
  let v368 : BitVec 32 := Scalar.extui v367
  let c0_i32_121 : BitVec 32 := 0#32
  let v369 : BitVec 1 := Scalar.cmpi .slt c8_i32_117 c0_i32_121
  let v370 : BitVec 32 := Scalar.extui v369
  let v371 : BitVec 32 := Scalar.subi v368 v370
  let v372 : BitVec 1 := Scalar.cmpi .ne v366 v371
  let v373 : BitVec 32 := Scalar.remsi v206 c8_i32_117
  let c0_i32_122 : BitVec 32 := 0#32
  let v374 : BitVec 1 := Scalar.cmpi .ne v373 c0_i32_122
  let v375 : BitVec 1 := Scalar.andi v372 v374
  let v361 : BitVec 32 := Scalar.divsi v206 c8_i32_117
  let c1_i32_123 : BitVec 32 := 1#32
  let v376 : BitVec 32 := Scalar.subi v361 c1_i32_123
  let v377 : BitVec 32 := Scalar.select v375 v376 v361
  let c8_i32_124 : BitVec 32 := 8#32
  let v378 : BitVec 32 := Scalar.muli v377 c8_i32_124
  let c16352_i32_125 : BitVec 32 := 16352#32
  let v379 : BitVec 32 := Scalar.minsi v378 c16352_i32_125
  v379

def k1_off8 (v199 : BitVec 32) (v203 : BitVec 32) : Fin 2 → Nat :=
  let c1_i32_68 : BitVec 32 := 1#32
  let v204 : BitVec 32 := Scalar.addi v203 c1_i32_68
  let v205 : BitVec 32 := Scalar.addi v199 v204
  let c1_i32_69 : BitVec 32 := 1#32
  let v206 : BitVec 32 := Scalar.subi v205 c1_i32_69
  let c0_i32_118 : BitVec 32 := 0#32
  let v362 : BitVec 1 := Scalar.cmpi .sgt v206 c0_i32_118
  let v363 : BitVec 32 := Scalar.extui v362
  let c0_i32_119 : BitVec 32 := 0#32
  let v364 : BitVec 1 := Scalar.cmpi .slt v206 c0_i32_119
  let v365 : BitVec 32 := Scalar.extui v364
  let v366 : BitVec 32 := Scalar.subi v363 v365
  let c8_i32_117 : BitVec 32 := 8#32
  let c0_i32_120 : BitVec 32 := 0#32
  let v367 : BitVec 1 := Scalar.cmpi .sgt c8_i32_117 c0_i32_120
  let v368 : BitVec 32 := Scalar.extui v367
  let c0_i32_121 : BitVec 32 := 0#32
  let v369 : BitVec 1 := Scalar.cmpi .slt c8_i32_117 c0_i32_121
  let v370 : BitVec 32 := Scalar.extui v369
  let v371 : BitVec 32 := Scalar.subi v368 v370
  let v372 : BitVec 1 := Scalar.cmpi .ne v366 v371
  let v373 : BitVec 32 := Scalar.remsi v206 c8_i32_117
  let c0_i32_122 : BitVec 32 := 0#32
  let v374 : BitVec 1 := Scalar.cmpi .ne v373 c0_i32_122
  let v375 : BitVec 1 := Scalar.andi v372 v374
  let v361 : BitVec 32 := Scalar.divsi v206 c8_i32_117
  let c1_i32_123 : BitVec 32 := 1#32
  let v376 : BitVec 32 := Scalar.subi v361 c1_i32_123
  let v377 : BitVec 32 := Scalar.select v375 v376 v361
  let c8_i32_124 : BitVec 32 := 8#32
  let v378 : BitVec 32 := Scalar.muli v377 c8_i32_124
  let c16352_i32_125 : BitVec 32 := 16352#32
  let v379 : BitVec 32 := Scalar.minsi v378 c16352_i32_125
  let v380 : BitVec 32 := v379
  let v382 : Index := Scalar.indexCast v380
  let c0_126 : Index := 0#32
  ![v382.toNat, 0]

def k1_chk4 (v199 : BitVec 32) (v203 : BitVec 32) : Prop :=
  (8 ∣ (k1_mult9 v199 v203).toNat) ∧
  (∀ a, (k1_off8 v199 v203) a + S32x256.size a ≤ S16384x256.size a)
theorem k1_mult9_dvd : ∀ (v199 : BitVec 32) (v203 : BitVec 32) (k1_hw4 : k1_chk4 v199 v203), 8 ∣ (k1_mult9 v199 v203).toNat := fun v199 v203 k1_hw4 => k1_hw4.1
theorem k1_off8_inb : ∀ (v199 : BitVec 32) (v203 : BitVec 32) (k1_hw4 : k1_chk4 v199 v203), ∀ a, (k1_off8 v199 v203) a + S32x256.size a ≤ S16384x256.size a := fun v199 v203 k1_hw4 => k1_hw4.2

def k1_off9 (k1_t1 : Fin k1_t1_loop.trips) : Fin 3 → Nat :=
  let c0_130 : Index := 0#32
  let c0_131 : Index := 0#32
  let c0_i32 : BitVec 32 := 0#32
  let c1_i32 : BitVec 32 := 1#32
  let arg8 : BitVec 32 := Scf.iv c0_i32 c1_i32 k1_t1
  let c8_i32_128 : BitVec 32 := 8#32
  let v388 : BitVec 32 := Scalar.muli arg8 c8_i32_128
  let c2_i32_129 : BitVec 32 := 2#32
  let v389 : BitVec 32 := Scalar.addi v388 c2_i32_129
  let v390 : Index := Scalar.indexCast v389
  ![0, 0, v390.toNat]
def k1_mult10 (v391 : BitVec 32) : BitVec 32 :=
  let c0_i32_139 : BitVec 32 := 0#32
  let v400 : BitVec 1 := Scalar.cmpi .sgt v391 c0_i32_139
  let v401 : BitVec 32 := Scalar.extui v400
  let c0_i32_140 : BitVec 32 := 0#32
  let v402 : BitVec 1 := Scalar.cmpi .slt v391 c0_i32_140
  let v403 : BitVec 32 := Scalar.extui v402
  let v404 : BitVec 32 := Scalar.subi v401 v403
  let c8_i32_138 : BitVec 32 := 8#32
  let c0_i32_141 : BitVec 32 := 0#32
  let v405 : BitVec 1 := Scalar.cmpi .sgt c8_i32_138 c0_i32_141
  let v406 : BitVec 32 := Scalar.extui v405
  let c0_i32_142 : BitVec 32 := 0#32
  let v407 : BitVec 1 := Scalar.cmpi .slt c8_i32_138 c0_i32_142
  let v408 : BitVec 32 := Scalar.extui v407
  let v409 : BitVec 32 := Scalar.subi v406 v408
  let v410 : BitVec 1 := Scalar.cmpi .ne v404 v409
  let v411 : BitVec 32 := Scalar.remsi v391 c8_i32_138
  let c0_i32_143 : BitVec 32 := 0#32
  let v412 : BitVec 1 := Scalar.cmpi .ne v411 c0_i32_143
  let v413 : BitVec 1 := Scalar.andi v410 v412
  let v399 : BitVec 32 := Scalar.divsi v391 c8_i32_138
  let c1_i32_144 : BitVec 32 := 1#32
  let v414 : BitVec 32 := Scalar.subi v399 c1_i32_144
  let v415 : BitVec 32 := Scalar.select v413 v414 v399
  let c8_i32_145 : BitVec 32 := 8#32
  let v416 : BitVec 32 := Scalar.muli v415 c8_i32_145
  let c16352_i32_146 : BitVec 32 := 16352#32
  let v417 : BitVec 32 := Scalar.minsi v416 c16352_i32_146
  v417

def k1_off10 (v391 : BitVec 32) : Fin 2 → Nat :=
  let c0_i32_139 : BitVec 32 := 0#32
  let v400 : BitVec 1 := Scalar.cmpi .sgt v391 c0_i32_139
  let v401 : BitVec 32 := Scalar.extui v400
  let c0_i32_140 : BitVec 32 := 0#32
  let v402 : BitVec 1 := Scalar.cmpi .slt v391 c0_i32_140
  let v403 : BitVec 32 := Scalar.extui v402
  let v404 : BitVec 32 := Scalar.subi v401 v403
  let c8_i32_138 : BitVec 32 := 8#32
  let c0_i32_141 : BitVec 32 := 0#32
  let v405 : BitVec 1 := Scalar.cmpi .sgt c8_i32_138 c0_i32_141
  let v406 : BitVec 32 := Scalar.extui v405
  let c0_i32_142 : BitVec 32 := 0#32
  let v407 : BitVec 1 := Scalar.cmpi .slt c8_i32_138 c0_i32_142
  let v408 : BitVec 32 := Scalar.extui v407
  let v409 : BitVec 32 := Scalar.subi v406 v408
  let v410 : BitVec 1 := Scalar.cmpi .ne v404 v409
  let v411 : BitVec 32 := Scalar.remsi v391 c8_i32_138
  let c0_i32_143 : BitVec 32 := 0#32
  let v412 : BitVec 1 := Scalar.cmpi .ne v411 c0_i32_143
  let v413 : BitVec 1 := Scalar.andi v410 v412
  let v399 : BitVec 32 := Scalar.divsi v391 c8_i32_138
  let c1_i32_144 : BitVec 32 := 1#32
  let v414 : BitVec 32 := Scalar.subi v399 c1_i32_144
  let v415 : BitVec 32 := Scalar.select v413 v414 v399
  let c8_i32_145 : BitVec 32 := 8#32
  let v416 : BitVec 32 := Scalar.muli v415 c8_i32_145
  let c16352_i32_146 : BitVec 32 := 16352#32
  let v417 : BitVec 32 := Scalar.minsi v416 c16352_i32_146
  let v418 : BitVec 32 := v417
  let v420 : Index := Scalar.indexCast v418
  let c0_147 : Index := 0#32
  ![v420.toNat, 0]
def k1_mult11 (v391 : BitVec 32) : BitVec 32 :=
  let c0_i32_152 : BitVec 32 := 0#32
  let v453 : BitVec 1 := Scalar.cmpi .sgt v391 c0_i32_152
  let v454 : BitVec 32 := Scalar.extui v453
  let c0_i32_153 : BitVec 32 := 0#32
  let v455 : BitVec 1 := Scalar.cmpi .slt v391 c0_i32_153
  let v456 : BitVec 32 := Scalar.extui v455
  let v457 : BitVec 32 := Scalar.subi v454 v456
  let c8_i32_151 : BitVec 32 := 8#32
  let c0_i32_154 : BitVec 32 := 0#32
  let v458 : BitVec 1 := Scalar.cmpi .sgt c8_i32_151 c0_i32_154
  let v459 : BitVec 32 := Scalar.extui v458
  let c0_i32_155 : BitVec 32 := 0#32
  let v460 : BitVec 1 := Scalar.cmpi .slt c8_i32_151 c0_i32_155
  let v461 : BitVec 32 := Scalar.extui v460
  let v462 : BitVec 32 := Scalar.subi v459 v461
  let v463 : BitVec 1 := Scalar.cmpi .ne v457 v462
  let v464 : BitVec 32 := Scalar.remsi v391 c8_i32_151
  let c0_i32_156 : BitVec 32 := 0#32
  let v465 : BitVec 1 := Scalar.cmpi .ne v464 c0_i32_156
  let v466 : BitVec 1 := Scalar.andi v463 v465
  let v452 : BitVec 32 := Scalar.divsi v391 c8_i32_151
  let c1_i32_157 : BitVec 32 := 1#32
  let v467 : BitVec 32 := Scalar.subi v452 c1_i32_157
  let v468 : BitVec 32 := Scalar.select v466 v467 v452
  let c8_i32_158 : BitVec 32 := 8#32
  let v469 : BitVec 32 := Scalar.muli v468 c8_i32_158
  let c16352_i32_159 : BitVec 32 := 16352#32
  let v470 : BitVec 32 := Scalar.minsi v469 c16352_i32_159
  v470
def k1_off11 (v391 : BitVec 32) : Fin 2 → Nat :=
  let c0_i32_152 : BitVec 32 := 0#32
  let v453 : BitVec 1 := Scalar.cmpi .sgt v391 c0_i32_152
  let v454 : BitVec 32 := Scalar.extui v453
  let c0_i32_153 : BitVec 32 := 0#32
  let v455 : BitVec 1 := Scalar.cmpi .slt v391 c0_i32_153
  let v456 : BitVec 32 := Scalar.extui v455
  let v457 : BitVec 32 := Scalar.subi v454 v456
  let c8_i32_151 : BitVec 32 := 8#32
  let c0_i32_154 : BitVec 32 := 0#32
  let v458 : BitVec 1 := Scalar.cmpi .sgt c8_i32_151 c0_i32_154
  let v459 : BitVec 32 := Scalar.extui v458
  let c0_i32_155 : BitVec 32 := 0#32
  let v460 : BitVec 1 := Scalar.cmpi .slt c8_i32_151 c0_i32_155
  let v461 : BitVec 32 := Scalar.extui v460
  let v462 : BitVec 32 := Scalar.subi v459 v461
  let v463 : BitVec 1 := Scalar.cmpi .ne v457 v462
  let v464 : BitVec 32 := Scalar.remsi v391 c8_i32_151
  let c0_i32_156 : BitVec 32 := 0#32
  let v465 : BitVec 1 := Scalar.cmpi .ne v464 c0_i32_156
  let v466 : BitVec 1 := Scalar.andi v463 v465
  let v452 : BitVec 32 := Scalar.divsi v391 c8_i32_151
  let c1_i32_157 : BitVec 32 := 1#32
  let v467 : BitVec 32 := Scalar.subi v452 c1_i32_157
  let v468 : BitVec 32 := Scalar.select v466 v467 v452
  let c8_i32_158 : BitVec 32 := 8#32
  let v469 : BitVec 32 := Scalar.muli v468 c8_i32_158
  let c16352_i32_159 : BitVec 32 := 16352#32
  let v470 : BitVec 32 := Scalar.minsi v469 c16352_i32_159
  let v471 : BitVec 32 := v470
  let v473 : Index := Scalar.indexCast v471
  let c0_160 : Index := 0#32
  ![v473.toNat, 0]
def k1_mult12 (v391 : BitVec 32) : BitVec 32 :=
  let c0_i32_175 : BitVec 32 := 0#32
  let v528 : BitVec 1 := Scalar.cmpi .sgt v391 c0_i32_175
  let v529 : BitVec 32 := Scalar.extui v528
  let c0_i32_176 : BitVec 32 := 0#32
  let v530 : BitVec 1 := Scalar.cmpi .slt v391 c0_i32_176
  let v531 : BitVec 32 := Scalar.extui v530
  let v532 : BitVec 32 := Scalar.subi v529 v531
  let c8_i32_174 : BitVec 32 := 8#32
  let c0_i32_177 : BitVec 32 := 0#32
  let v533 : BitVec 1 := Scalar.cmpi .sgt c8_i32_174 c0_i32_177
  let v534 : BitVec 32 := Scalar.extui v533
  let c0_i32_178 : BitVec 32 := 0#32
  let v535 : BitVec 1 := Scalar.cmpi .slt c8_i32_174 c0_i32_178
  let v536 : BitVec 32 := Scalar.extui v535
  let v537 : BitVec 32 := Scalar.subi v534 v536
  let v538 : BitVec 1 := Scalar.cmpi .ne v532 v537
  let v539 : BitVec 32 := Scalar.remsi v391 c8_i32_174
  let c0_i32_179 : BitVec 32 := 0#32
  let v540 : BitVec 1 := Scalar.cmpi .ne v539 c0_i32_179
  let v541 : BitVec 1 := Scalar.andi v538 v540
  let v527 : BitVec 32 := Scalar.divsi v391 c8_i32_174
  let c1_i32_180 : BitVec 32 := 1#32
  let v542 : BitVec 32 := Scalar.subi v527 c1_i32_180
  let v543 : BitVec 32 := Scalar.select v541 v542 v527
  let c8_i32_181 : BitVec 32 := 8#32
  let v544 : BitVec 32 := Scalar.muli v543 c8_i32_181
  let c16352_i32_182 : BitVec 32 := 16352#32
  let v545 : BitVec 32 := Scalar.minsi v544 c16352_i32_182
  v545

def k1_chk5 (v391 : BitVec 32) : Prop :=
  (8 ∣ (k1_mult10 v391).toNat) ∧
  (∀ a, (k1_off10 v391) a + S32x1.size a ≤ S16384x1.size a) ∧
  (8 ∣ (k1_mult11 v391).toNat) ∧
  (∀ a, (k1_off11 v391) a + S32x256.size a ≤ S16384x256.size a) ∧
  (8 ∣ (k1_mult12 v391).toNat)
theorem k1_mult10_dvd : ∀ (v391 : BitVec 32) (k1_hw5 : k1_chk5 v391), 8 ∣ (k1_mult10 v391).toNat := fun v391 k1_hw5 => k1_hw5.1
theorem k1_off10_inb : ∀ (v391 : BitVec 32) (k1_hw5 : k1_chk5 v391), ∀ a, (k1_off10 v391) a + S32x1.size a ≤ S16384x1.size a := fun v391 k1_hw5 => k1_hw5.2.1
theorem k1_mult11_dvd : ∀ (v391 : BitVec 32) (k1_hw5 : k1_chk5 v391), 8 ∣ (k1_mult11 v391).toNat := fun v391 k1_hw5 => k1_hw5.2.2.1
theorem k1_off11_inb : ∀ (v391 : BitVec 32) (k1_hw5 : k1_chk5 v391), ∀ a, (k1_off11 v391) a + S32x256.size a ≤ S16384x256.size a := fun v391 k1_hw5 => k1_hw5.2.2.2.1
theorem k1_mult12_dvd : ∀ (v391 : BitVec 32) (k1_hw5 : k1_chk5 v391), 8 ∣ (k1_mult12 v391).toNat := fun v391 k1_hw5 => k1_hw5.2.2.2.2

def k1_mult13 (v391 : BitVec 32) (v395 : BitVec 32) : BitVec 32 :=
  let c1_i32_136 : BitVec 32 := 1#32
  let v396 : BitVec 32 := Scalar.addi v395 c1_i32_136
  let v397 : BitVec 32 := Scalar.addi v391 v396
  let c1_i32_137 : BitVec 32 := 1#32
  let v398 : BitVec 32 := Scalar.subi v397 c1_i32_137
  let c0_i32_186 : BitVec 32 := 0#32
  let v554 : BitVec 1 := Scalar.cmpi .sgt v398 c0_i32_186
  let v555 : BitVec 32 := Scalar.extui v554
  let c0_i32_187 : BitVec 32 := 0#32
  let v556 : BitVec 1 := Scalar.cmpi .slt v398 c0_i32_187
  let v557 : BitVec 32 := Scalar.extui v556
  let v558 : BitVec 32 := Scalar.subi v555 v557
  let c8_i32_185 : BitVec 32 := 8#32
  let c0_i32_188 : BitVec 32 := 0#32
  let v559 : BitVec 1 := Scalar.cmpi .sgt c8_i32_185 c0_i32_188
  let v560 : BitVec 32 := Scalar.extui v559
  let c0_i32_189 : BitVec 32 := 0#32
  let v561 : BitVec 1 := Scalar.cmpi .slt c8_i32_185 c0_i32_189
  let v562 : BitVec 32 := Scalar.extui v561
  let v563 : BitVec 32 := Scalar.subi v560 v562
  let v564 : BitVec 1 := Scalar.cmpi .ne v558 v563
  let v565 : BitVec 32 := Scalar.remsi v398 c8_i32_185
  let c0_i32_190 : BitVec 32 := 0#32
  let v566 : BitVec 1 := Scalar.cmpi .ne v565 c0_i32_190
  let v567 : BitVec 1 := Scalar.andi v564 v566
  let v553 : BitVec 32 := Scalar.divsi v398 c8_i32_185
  let c1_i32_191 : BitVec 32 := 1#32
  let v568 : BitVec 32 := Scalar.subi v553 c1_i32_191
  let v569 : BitVec 32 := Scalar.select v567 v568 v553
  let c8_i32_192 : BitVec 32 := 8#32
  let v570 : BitVec 32 := Scalar.muli v569 c8_i32_192
  let c16352_i32_193 : BitVec 32 := 16352#32
  let v571 : BitVec 32 := Scalar.minsi v570 c16352_i32_193
  v571

def k1_off12 (v391 : BitVec 32) (v395 : BitVec 32) : Fin 2 → Nat :=
  let c1_i32_136 : BitVec 32 := 1#32
  let v396 : BitVec 32 := Scalar.addi v395 c1_i32_136
  let v397 : BitVec 32 := Scalar.addi v391 v396
  let c1_i32_137 : BitVec 32 := 1#32
  let v398 : BitVec 32 := Scalar.subi v397 c1_i32_137
  let c0_i32_186 : BitVec 32 := 0#32
  let v554 : BitVec 1 := Scalar.cmpi .sgt v398 c0_i32_186
  let v555 : BitVec 32 := Scalar.extui v554
  let c0_i32_187 : BitVec 32 := 0#32
  let v556 : BitVec 1 := Scalar.cmpi .slt v398 c0_i32_187
  let v557 : BitVec 32 := Scalar.extui v556
  let v558 : BitVec 32 := Scalar.subi v555 v557
  let c8_i32_185 : BitVec 32 := 8#32
  let c0_i32_188 : BitVec 32 := 0#32
  let v559 : BitVec 1 := Scalar.cmpi .sgt c8_i32_185 c0_i32_188
  let v560 : BitVec 32 := Scalar.extui v559
  let c0_i32_189 : BitVec 32 := 0#32
  let v561 : BitVec 1 := Scalar.cmpi .slt c8_i32_185 c0_i32_189
  let v562 : BitVec 32 := Scalar.extui v561
  let v563 : BitVec 32 := Scalar.subi v560 v562
  let v564 : BitVec 1 := Scalar.cmpi .ne v558 v563
  let v565 : BitVec 32 := Scalar.remsi v398 c8_i32_185
  let c0_i32_190 : BitVec 32 := 0#32
  let v566 : BitVec 1 := Scalar.cmpi .ne v565 c0_i32_190
  let v567 : BitVec 1 := Scalar.andi v564 v566
  let v553 : BitVec 32 := Scalar.divsi v398 c8_i32_185
  let c1_i32_191 : BitVec 32 := 1#32
  let v568 : BitVec 32 := Scalar.subi v553 c1_i32_191
  let v569 : BitVec 32 := Scalar.select v567 v568 v553
  let c8_i32_192 : BitVec 32 := 8#32
  let v570 : BitVec 32 := Scalar.muli v569 c8_i32_192
  let c16352_i32_193 : BitVec 32 := 16352#32
  let v571 : BitVec 32 := Scalar.minsi v570 c16352_i32_193
  let v572 : BitVec 32 := v571
  let v574 : Index := Scalar.indexCast v572
  let c0_194 : Index := 0#32
  ![v574.toNat, 0]

def k1_chk6 (v391 : BitVec 32) (v395 : BitVec 32) : Prop :=
  (8 ∣ (k1_mult13 v391 v395).toNat) ∧
  (∀ a, (k1_off12 v391 v395) a + S32x256.size a ≤ S16384x256.size a)
theorem k1_mult13_dvd : ∀ (v391 : BitVec 32) (v395 : BitVec 32) (k1_hw6 : k1_chk6 v391 v395), 8 ∣ (k1_mult13 v391 v395).toNat := fun v391 v395 k1_hw6 => k1_hw6.1
theorem k1_off12_inb : ∀ (v391 : BitVec 32) (v395 : BitVec 32) (k1_hw6 : k1_chk6 v391 v395), ∀ a, (k1_off12 v391 v395) a + S32x256.size a ≤ S16384x256.size a := fun v391 v395 k1_hw6 => k1_hw6.2

def k1_off13 (k1_t1 : Fin k1_t1_loop.trips) : Fin 3 → Nat :=
  let c0_198 : Index := 0#32
  let c0_199 : Index := 0#32
  let c0_i32 : BitVec 32 := 0#32
  let c1_i32 : BitVec 32 := 1#32
  let arg8 : BitVec 32 := Scf.iv c0_i32 c1_i32 k1_t1
  let c8_i32_196 : BitVec 32 := 8#32
  let v580 : BitVec 32 := Scalar.muli arg8 c8_i32_196
  let c3_i32_197 : BitVec 32 := 3#32
  let v581 : BitVec 32 := Scalar.addi v580 c3_i32_197
  let v582 : Index := Scalar.indexCast v581
  ![0, 0, v582.toNat]
def k1_mult14 (v583 : BitVec 32) : BitVec 32 :=
  let c0_i32_207 : BitVec 32 := 0#32
  let v592 : BitVec 1 := Scalar.cmpi .sgt v583 c0_i32_207
  let v593 : BitVec 32 := Scalar.extui v592
  let c0_i32_208 : BitVec 32 := 0#32
  let v594 : BitVec 1 := Scalar.cmpi .slt v583 c0_i32_208
  let v595 : BitVec 32 := Scalar.extui v594
  let v596 : BitVec 32 := Scalar.subi v593 v595
  let c8_i32_206 : BitVec 32 := 8#32
  let c0_i32_209 : BitVec 32 := 0#32
  let v597 : BitVec 1 := Scalar.cmpi .sgt c8_i32_206 c0_i32_209
  let v598 : BitVec 32 := Scalar.extui v597
  let c0_i32_210 : BitVec 32 := 0#32
  let v599 : BitVec 1 := Scalar.cmpi .slt c8_i32_206 c0_i32_210
  let v600 : BitVec 32 := Scalar.extui v599
  let v601 : BitVec 32 := Scalar.subi v598 v600
  let v602 : BitVec 1 := Scalar.cmpi .ne v596 v601
  let v603 : BitVec 32 := Scalar.remsi v583 c8_i32_206
  let c0_i32_211 : BitVec 32 := 0#32
  let v604 : BitVec 1 := Scalar.cmpi .ne v603 c0_i32_211
  let v605 : BitVec 1 := Scalar.andi v602 v604
  let v591 : BitVec 32 := Scalar.divsi v583 c8_i32_206
  let c1_i32_212 : BitVec 32 := 1#32
  let v606 : BitVec 32 := Scalar.subi v591 c1_i32_212
  let v607 : BitVec 32 := Scalar.select v605 v606 v591
  let c8_i32_213 : BitVec 32 := 8#32
  let v608 : BitVec 32 := Scalar.muli v607 c8_i32_213
  let c16352_i32_214 : BitVec 32 := 16352#32
  let v609 : BitVec 32 := Scalar.minsi v608 c16352_i32_214
  v609

def k1_off14 (v583 : BitVec 32) : Fin 2 → Nat :=
  let c0_i32_207 : BitVec 32 := 0#32
  let v592 : BitVec 1 := Scalar.cmpi .sgt v583 c0_i32_207
  let v593 : BitVec 32 := Scalar.extui v592
  let c0_i32_208 : BitVec 32 := 0#32
  let v594 : BitVec 1 := Scalar.cmpi .slt v583 c0_i32_208
  let v595 : BitVec 32 := Scalar.extui v594
  let v596 : BitVec 32 := Scalar.subi v593 v595
  let c8_i32_206 : BitVec 32 := 8#32
  let c0_i32_209 : BitVec 32 := 0#32
  let v597 : BitVec 1 := Scalar.cmpi .sgt c8_i32_206 c0_i32_209
  let v598 : BitVec 32 := Scalar.extui v597
  let c0_i32_210 : BitVec 32 := 0#32
  let v599 : BitVec 1 := Scalar.cmpi .slt c8_i32_206 c0_i32_210
  let v600 : BitVec 32 := Scalar.extui v599
  let v601 : BitVec 32 := Scalar.subi v598 v600
  let v602 : BitVec 1 := Scalar.cmpi .ne v596 v601
  let v603 : BitVec 32 := Scalar.remsi v583 c8_i32_206
  let c0_i32_211 : BitVec 32 := 0#32
  let v604 : BitVec 1 := Scalar.cmpi .ne v603 c0_i32_211
  let v605 : BitVec 1 := Scalar.andi v602 v604
  let v591 : BitVec 32 := Scalar.divsi v583 c8_i32_206
  let c1_i32_212 : BitVec 32 := 1#32
  let v606 : BitVec 32 := Scalar.subi v591 c1_i32_212
  let v607 : BitVec 32 := Scalar.select v605 v606 v591
  let c8_i32_213 : BitVec 32 := 8#32
  let v608 : BitVec 32 := Scalar.muli v607 c8_i32_213
  let c16352_i32_214 : BitVec 32 := 16352#32
  let v609 : BitVec 32 := Scalar.minsi v608 c16352_i32_214
  let v610 : BitVec 32 := v609
  let v612 : Index := Scalar.indexCast v610
  let c0_215 : Index := 0#32
  ![v612.toNat, 0]
def k1_mult15 (v583 : BitVec 32) : BitVec 32 :=
  let c0_i32_220 : BitVec 32 := 0#32
  let v645 : BitVec 1 := Scalar.cmpi .sgt v583 c0_i32_220
  let v646 : BitVec 32 := Scalar.extui v645
  let c0_i32_221 : BitVec 32 := 0#32
  let v647 : BitVec 1 := Scalar.cmpi .slt v583 c0_i32_221
  let v648 : BitVec 32 := Scalar.extui v647
  let v649 : BitVec 32 := Scalar.subi v646 v648
  let c8_i32_219 : BitVec 32 := 8#32
  let c0_i32_222 : BitVec 32 := 0#32
  let v650 : BitVec 1 := Scalar.cmpi .sgt c8_i32_219 c0_i32_222
  let v651 : BitVec 32 := Scalar.extui v650
  let c0_i32_223 : BitVec 32 := 0#32
  let v652 : BitVec 1 := Scalar.cmpi .slt c8_i32_219 c0_i32_223
  let v653 : BitVec 32 := Scalar.extui v652
  let v654 : BitVec 32 := Scalar.subi v651 v653
  let v655 : BitVec 1 := Scalar.cmpi .ne v649 v654
  let v656 : BitVec 32 := Scalar.remsi v583 c8_i32_219
  let c0_i32_224 : BitVec 32 := 0#32
  let v657 : BitVec 1 := Scalar.cmpi .ne v656 c0_i32_224
  let v658 : BitVec 1 := Scalar.andi v655 v657
  let v644 : BitVec 32 := Scalar.divsi v583 c8_i32_219
  let c1_i32_225 : BitVec 32 := 1#32
  let v659 : BitVec 32 := Scalar.subi v644 c1_i32_225
  let v660 : BitVec 32 := Scalar.select v658 v659 v644
  let c8_i32_226 : BitVec 32 := 8#32
  let v661 : BitVec 32 := Scalar.muli v660 c8_i32_226
  let c16352_i32_227 : BitVec 32 := 16352#32
  let v662 : BitVec 32 := Scalar.minsi v661 c16352_i32_227
  v662
def k1_off15 (v583 : BitVec 32) : Fin 2 → Nat :=
  let c0_i32_220 : BitVec 32 := 0#32
  let v645 : BitVec 1 := Scalar.cmpi .sgt v583 c0_i32_220
  let v646 : BitVec 32 := Scalar.extui v645
  let c0_i32_221 : BitVec 32 := 0#32
  let v647 : BitVec 1 := Scalar.cmpi .slt v583 c0_i32_221
  let v648 : BitVec 32 := Scalar.extui v647
  let v649 : BitVec 32 := Scalar.subi v646 v648
  let c8_i32_219 : BitVec 32 := 8#32
  let c0_i32_222 : BitVec 32 := 0#32
  let v650 : BitVec 1 := Scalar.cmpi .sgt c8_i32_219 c0_i32_222
  let v651 : BitVec 32 := Scalar.extui v650
  let c0_i32_223 : BitVec 32 := 0#32
  let v652 : BitVec 1 := Scalar.cmpi .slt c8_i32_219 c0_i32_223
  let v653 : BitVec 32 := Scalar.extui v652
  let v654 : BitVec 32 := Scalar.subi v651 v653
  let v655 : BitVec 1 := Scalar.cmpi .ne v649 v654
  let v656 : BitVec 32 := Scalar.remsi v583 c8_i32_219
  let c0_i32_224 : BitVec 32 := 0#32
  let v657 : BitVec 1 := Scalar.cmpi .ne v656 c0_i32_224
  let v658 : BitVec 1 := Scalar.andi v655 v657
  let v644 : BitVec 32 := Scalar.divsi v583 c8_i32_219
  let c1_i32_225 : BitVec 32 := 1#32
  let v659 : BitVec 32 := Scalar.subi v644 c1_i32_225
  let v660 : BitVec 32 := Scalar.select v658 v659 v644
  let c8_i32_226 : BitVec 32 := 8#32
  let v661 : BitVec 32 := Scalar.muli v660 c8_i32_226
  let c16352_i32_227 : BitVec 32 := 16352#32
  let v662 : BitVec 32 := Scalar.minsi v661 c16352_i32_227
  let v663 : BitVec 32 := v662
  let v665 : Index := Scalar.indexCast v663
  let c0_228 : Index := 0#32
  ![v665.toNat, 0]
def k1_mult16 (v583 : BitVec 32) : BitVec 32 :=
  let c0_i32_243 : BitVec 32 := 0#32
  let v720 : BitVec 1 := Scalar.cmpi .sgt v583 c0_i32_243
  let v721 : BitVec 32 := Scalar.extui v720
  let c0_i32_244 : BitVec 32 := 0#32
  let v722 : BitVec 1 := Scalar.cmpi .slt v583 c0_i32_244
  let v723 : BitVec 32 := Scalar.extui v722
  let v724 : BitVec 32 := Scalar.subi v721 v723
  let c8_i32_242 : BitVec 32 := 8#32
  let c0_i32_245 : BitVec 32 := 0#32
  let v725 : BitVec 1 := Scalar.cmpi .sgt c8_i32_242 c0_i32_245
  let v726 : BitVec 32 := Scalar.extui v725
  let c0_i32_246 : BitVec 32 := 0#32
  let v727 : BitVec 1 := Scalar.cmpi .slt c8_i32_242 c0_i32_246
  let v728 : BitVec 32 := Scalar.extui v727
  let v729 : BitVec 32 := Scalar.subi v726 v728
  let v730 : BitVec 1 := Scalar.cmpi .ne v724 v729
  let v731 : BitVec 32 := Scalar.remsi v583 c8_i32_242
  let c0_i32_247 : BitVec 32 := 0#32
  let v732 : BitVec 1 := Scalar.cmpi .ne v731 c0_i32_247
  let v733 : BitVec 1 := Scalar.andi v730 v732
  let v719 : BitVec 32 := Scalar.divsi v583 c8_i32_242
  let c1_i32_248 : BitVec 32 := 1#32
  let v734 : BitVec 32 := Scalar.subi v719 c1_i32_248
  let v735 : BitVec 32 := Scalar.select v733 v734 v719
  let c8_i32_249 : BitVec 32 := 8#32
  let v736 : BitVec 32 := Scalar.muli v735 c8_i32_249
  let c16352_i32_250 : BitVec 32 := 16352#32
  let v737 : BitVec 32 := Scalar.minsi v736 c16352_i32_250
  v737

def k1_chk7 (v583 : BitVec 32) : Prop :=
  (8 ∣ (k1_mult14 v583).toNat) ∧
  (∀ a, (k1_off14 v583) a + S32x1.size a ≤ S16384x1.size a) ∧
  (8 ∣ (k1_mult15 v583).toNat) ∧
  (∀ a, (k1_off15 v583) a + S32x256.size a ≤ S16384x256.size a) ∧
  (8 ∣ (k1_mult16 v583).toNat)
theorem k1_mult14_dvd : ∀ (v583 : BitVec 32) (k1_hw7 : k1_chk7 v583), 8 ∣ (k1_mult14 v583).toNat := fun v583 k1_hw7 => k1_hw7.1
theorem k1_off14_inb : ∀ (v583 : BitVec 32) (k1_hw7 : k1_chk7 v583), ∀ a, (k1_off14 v583) a + S32x1.size a ≤ S16384x1.size a := fun v583 k1_hw7 => k1_hw7.2.1
theorem k1_mult15_dvd : ∀ (v583 : BitVec 32) (k1_hw7 : k1_chk7 v583), 8 ∣ (k1_mult15 v583).toNat := fun v583 k1_hw7 => k1_hw7.2.2.1
theorem k1_off15_inb : ∀ (v583 : BitVec 32) (k1_hw7 : k1_chk7 v583), ∀ a, (k1_off15 v583) a + S32x256.size a ≤ S16384x256.size a := fun v583 k1_hw7 => k1_hw7.2.2.2.1
theorem k1_mult16_dvd : ∀ (v583 : BitVec 32) (k1_hw7 : k1_chk7 v583), 8 ∣ (k1_mult16 v583).toNat := fun v583 k1_hw7 => k1_hw7.2.2.2.2

def k1_mult17 (v583 : BitVec 32) (v587 : BitVec 32) : BitVec 32 :=
  let c1_i32_204 : BitVec 32 := 1#32
  let v588 : BitVec 32 := Scalar.addi v587 c1_i32_204
  let v589 : BitVec 32 := Scalar.addi v583 v588
  let c1_i32_205 : BitVec 32 := 1#32
  let v590 : BitVec 32 := Scalar.subi v589 c1_i32_205
  let c0_i32_254 : BitVec 32 := 0#32
  let v746 : BitVec 1 := Scalar.cmpi .sgt v590 c0_i32_254
  let v747 : BitVec 32 := Scalar.extui v746
  let c0_i32_255 : BitVec 32 := 0#32
  let v748 : BitVec 1 := Scalar.cmpi .slt v590 c0_i32_255
  let v749 : BitVec 32 := Scalar.extui v748
  let v750 : BitVec 32 := Scalar.subi v747 v749
  let c8_i32_253 : BitVec 32 := 8#32
  let c0_i32_256 : BitVec 32 := 0#32
  let v751 : BitVec 1 := Scalar.cmpi .sgt c8_i32_253 c0_i32_256
  let v752 : BitVec 32 := Scalar.extui v751
  let c0_i32_257 : BitVec 32 := 0#32
  let v753 : BitVec 1 := Scalar.cmpi .slt c8_i32_253 c0_i32_257
  let v754 : BitVec 32 := Scalar.extui v753
  let v755 : BitVec 32 := Scalar.subi v752 v754
  let v756 : BitVec 1 := Scalar.cmpi .ne v750 v755
  let v757 : BitVec 32 := Scalar.remsi v590 c8_i32_253
  let c0_i32_258 : BitVec 32 := 0#32
  let v758 : BitVec 1 := Scalar.cmpi .ne v757 c0_i32_258
  let v759 : BitVec 1 := Scalar.andi v756 v758
  let v745 : BitVec 32 := Scalar.divsi v590 c8_i32_253
  let c1_i32_259 : BitVec 32 := 1#32
  let v760 : BitVec 32 := Scalar.subi v745 c1_i32_259
  let v761 : BitVec 32 := Scalar.select v759 v760 v745
  let c8_i32_260 : BitVec 32 := 8#32
  let v762 : BitVec 32 := Scalar.muli v761 c8_i32_260
  let c16352_i32_261 : BitVec 32 := 16352#32
  let v763 : BitVec 32 := Scalar.minsi v762 c16352_i32_261
  v763

def k1_off16 (v583 : BitVec 32) (v587 : BitVec 32) : Fin 2 → Nat :=
  let c1_i32_204 : BitVec 32 := 1#32
  let v588 : BitVec 32 := Scalar.addi v587 c1_i32_204
  let v589 : BitVec 32 := Scalar.addi v583 v588
  let c1_i32_205 : BitVec 32 := 1#32
  let v590 : BitVec 32 := Scalar.subi v589 c1_i32_205
  let c0_i32_254 : BitVec 32 := 0#32
  let v746 : BitVec 1 := Scalar.cmpi .sgt v590 c0_i32_254
  let v747 : BitVec 32 := Scalar.extui v746
  let c0_i32_255 : BitVec 32 := 0#32
  let v748 : BitVec 1 := Scalar.cmpi .slt v590 c0_i32_255
  let v749 : BitVec 32 := Scalar.extui v748
  let v750 : BitVec 32 := Scalar.subi v747 v749
  let c8_i32_253 : BitVec 32 := 8#32
  let c0_i32_256 : BitVec 32 := 0#32
  let v751 : BitVec 1 := Scalar.cmpi .sgt c8_i32_253 c0_i32_256
  let v752 : BitVec 32 := Scalar.extui v751
  let c0_i32_257 : BitVec 32 := 0#32
  let v753 : BitVec 1 := Scalar.cmpi .slt c8_i32_253 c0_i32_257
  let v754 : BitVec 32 := Scalar.extui v753
  let v755 : BitVec 32 := Scalar.subi v752 v754
  let v756 : BitVec 1 := Scalar.cmpi .ne v750 v755
  let v757 : BitVec 32 := Scalar.remsi v590 c8_i32_253
  let c0_i32_258 : BitVec 32 := 0#32
  let v758 : BitVec 1 := Scalar.cmpi .ne v757 c0_i32_258
  let v759 : BitVec 1 := Scalar.andi v756 v758
  let v745 : BitVec 32 := Scalar.divsi v590 c8_i32_253
  let c1_i32_259 : BitVec 32 := 1#32
  let v760 : BitVec 32 := Scalar.subi v745 c1_i32_259
  let v761 : BitVec 32 := Scalar.select v759 v760 v745
  let c8_i32_260 : BitVec 32 := 8#32
  let v762 : BitVec 32 := Scalar.muli v761 c8_i32_260
  let c16352_i32_261 : BitVec 32 := 16352#32
  let v763 : BitVec 32 := Scalar.minsi v762 c16352_i32_261
  let v764 : BitVec 32 := v763
  let v766 : Index := Scalar.indexCast v764
  let c0_262 : Index := 0#32
  ![v766.toNat, 0]

def k1_chk8 (v583 : BitVec 32) (v587 : BitVec 32) : Prop :=
  (8 ∣ (k1_mult17 v583 v587).toNat) ∧
  (∀ a, (k1_off16 v583 v587) a + S32x256.size a ≤ S16384x256.size a)
theorem k1_mult17_dvd : ∀ (v583 : BitVec 32) (v587 : BitVec 32) (k1_hw8 : k1_chk8 v583 v587), 8 ∣ (k1_mult17 v583 v587).toNat := fun v583 v587 k1_hw8 => k1_hw8.1
theorem k1_off16_inb : ∀ (v583 : BitVec 32) (v587 : BitVec 32) (k1_hw8 : k1_chk8 v583 v587), ∀ a, (k1_off16 v583 v587) a + S32x256.size a ≤ S16384x256.size a := fun v583 v587 k1_hw8 => k1_hw8.2

def k1_off17 (k1_t1 : Fin k1_t1_loop.trips) : Fin 3 → Nat :=
  let c0_266 : Index := 0#32
  let c0_267 : Index := 0#32
  let c0_i32 : BitVec 32 := 0#32
  let c1_i32 : BitVec 32 := 1#32
  let arg8 : BitVec 32 := Scf.iv c0_i32 c1_i32 k1_t1
  let c8_i32_264 : BitVec 32 := 8#32
  let v772 : BitVec 32 := Scalar.muli arg8 c8_i32_264
  let c4_i32_265 : BitVec 32 := 4#32
  let v773 : BitVec 32 := Scalar.addi v772 c4_i32_265
  let v774 : Index := Scalar.indexCast v773
  ![0, 0, v774.toNat]
def k1_mult18 (v775 : BitVec 32) : BitVec 32 :=
  let c0_i32_275 : BitVec 32 := 0#32
  let v784 : BitVec 1 := Scalar.cmpi .sgt v775 c0_i32_275
  let v785 : BitVec 32 := Scalar.extui v784
  let c0_i32_276 : BitVec 32 := 0#32
  let v786 : BitVec 1 := Scalar.cmpi .slt v775 c0_i32_276
  let v787 : BitVec 32 := Scalar.extui v786
  let v788 : BitVec 32 := Scalar.subi v785 v787
  let c8_i32_274 : BitVec 32 := 8#32
  let c0_i32_277 : BitVec 32 := 0#32
  let v789 : BitVec 1 := Scalar.cmpi .sgt c8_i32_274 c0_i32_277
  let v790 : BitVec 32 := Scalar.extui v789
  let c0_i32_278 : BitVec 32 := 0#32
  let v791 : BitVec 1 := Scalar.cmpi .slt c8_i32_274 c0_i32_278
  let v792 : BitVec 32 := Scalar.extui v791
  let v793 : BitVec 32 := Scalar.subi v790 v792
  let v794 : BitVec 1 := Scalar.cmpi .ne v788 v793
  let v795 : BitVec 32 := Scalar.remsi v775 c8_i32_274
  let c0_i32_279 : BitVec 32 := 0#32
  let v796 : BitVec 1 := Scalar.cmpi .ne v795 c0_i32_279
  let v797 : BitVec 1 := Scalar.andi v794 v796
  let v783 : BitVec 32 := Scalar.divsi v775 c8_i32_274
  let c1_i32_280 : BitVec 32 := 1#32
  let v798 : BitVec 32 := Scalar.subi v783 c1_i32_280
  let v799 : BitVec 32 := Scalar.select v797 v798 v783
  let c8_i32_281 : BitVec 32 := 8#32
  let v800 : BitVec 32 := Scalar.muli v799 c8_i32_281
  let c16352_i32_282 : BitVec 32 := 16352#32
  let v801 : BitVec 32 := Scalar.minsi v800 c16352_i32_282
  v801

def k1_off18 (v775 : BitVec 32) : Fin 2 → Nat :=
  let c0_i32_275 : BitVec 32 := 0#32
  let v784 : BitVec 1 := Scalar.cmpi .sgt v775 c0_i32_275
  let v785 : BitVec 32 := Scalar.extui v784
  let c0_i32_276 : BitVec 32 := 0#32
  let v786 : BitVec 1 := Scalar.cmpi .slt v775 c0_i32_276
  let v787 : BitVec 32 := Scalar.extui v786
  let v788 : BitVec 32 := Scalar.subi v785 v787
  let c8_i32_274 : BitVec 32 := 8#32
  let c0_i32_277 : BitVec 32 := 0#32
  let v789 : BitVec 1 := Scalar.cmpi .sgt c8_i32_274 c0_i32_277
  let v790 : BitVec 32 := Scalar.extui v789
  let c0_i32_278 : BitVec 32 := 0#32
  let v791 : BitVec 1 := Scalar.cmpi .slt c8_i32_274 c0_i32_278
  let v792 : BitVec 32 := Scalar.extui v791
  let v793 : BitVec 32 := Scalar.subi v790 v792
  let v794 : BitVec 1 := Scalar.cmpi .ne v788 v793
  let v795 : BitVec 32 := Scalar.remsi v775 c8_i32_274
  let c0_i32_279 : BitVec 32 := 0#32
  let v796 : BitVec 1 := Scalar.cmpi .ne v795 c0_i32_279
  let v797 : BitVec 1 := Scalar.andi v794 v796
  let v783 : BitVec 32 := Scalar.divsi v775 c8_i32_274
  let c1_i32_280 : BitVec 32 := 1#32
  let v798 : BitVec 32 := Scalar.subi v783 c1_i32_280
  let v799 : BitVec 32 := Scalar.select v797 v798 v783
  let c8_i32_281 : BitVec 32 := 8#32
  let v800 : BitVec 32 := Scalar.muli v799 c8_i32_281
  let c16352_i32_282 : BitVec 32 := 16352#32
  let v801 : BitVec 32 := Scalar.minsi v800 c16352_i32_282
  let v802 : BitVec 32 := v801
  let v804 : Index := Scalar.indexCast v802
  let c0_283 : Index := 0#32
  ![v804.toNat, 0]
def k1_mult19 (v775 : BitVec 32) : BitVec 32 :=
  let c0_i32_288 : BitVec 32 := 0#32
  let v837 : BitVec 1 := Scalar.cmpi .sgt v775 c0_i32_288
  let v838 : BitVec 32 := Scalar.extui v837
  let c0_i32_289 : BitVec 32 := 0#32
  let v839 : BitVec 1 := Scalar.cmpi .slt v775 c0_i32_289
  let v840 : BitVec 32 := Scalar.extui v839
  let v841 : BitVec 32 := Scalar.subi v838 v840
  let c8_i32_287 : BitVec 32 := 8#32
  let c0_i32_290 : BitVec 32 := 0#32
  let v842 : BitVec 1 := Scalar.cmpi .sgt c8_i32_287 c0_i32_290
  let v843 : BitVec 32 := Scalar.extui v842
  let c0_i32_291 : BitVec 32 := 0#32
  let v844 : BitVec 1 := Scalar.cmpi .slt c8_i32_287 c0_i32_291
  let v845 : BitVec 32 := Scalar.extui v844
  let v846 : BitVec 32 := Scalar.subi v843 v845
  let v847 : BitVec 1 := Scalar.cmpi .ne v841 v846
  let v848 : BitVec 32 := Scalar.remsi v775 c8_i32_287
  let c0_i32_292 : BitVec 32 := 0#32
  let v849 : BitVec 1 := Scalar.cmpi .ne v848 c0_i32_292
  let v850 : BitVec 1 := Scalar.andi v847 v849
  let v836 : BitVec 32 := Scalar.divsi v775 c8_i32_287
  let c1_i32_293 : BitVec 32 := 1#32
  let v851 : BitVec 32 := Scalar.subi v836 c1_i32_293
  let v852 : BitVec 32 := Scalar.select v850 v851 v836
  let c8_i32_294 : BitVec 32 := 8#32
  let v853 : BitVec 32 := Scalar.muli v852 c8_i32_294
  let c16352_i32_295 : BitVec 32 := 16352#32
  let v854 : BitVec 32 := Scalar.minsi v853 c16352_i32_295
  v854
def k1_off19 (v775 : BitVec 32) : Fin 2 → Nat :=
  let c0_i32_288 : BitVec 32 := 0#32
  let v837 : BitVec 1 := Scalar.cmpi .sgt v775 c0_i32_288
  let v838 : BitVec 32 := Scalar.extui v837
  let c0_i32_289 : BitVec 32 := 0#32
  let v839 : BitVec 1 := Scalar.cmpi .slt v775 c0_i32_289
  let v840 : BitVec 32 := Scalar.extui v839
  let v841 : BitVec 32 := Scalar.subi v838 v840
  let c8_i32_287 : BitVec 32 := 8#32
  let c0_i32_290 : BitVec 32 := 0#32
  let v842 : BitVec 1 := Scalar.cmpi .sgt c8_i32_287 c0_i32_290
  let v843 : BitVec 32 := Scalar.extui v842
  let c0_i32_291 : BitVec 32 := 0#32
  let v844 : BitVec 1 := Scalar.cmpi .slt c8_i32_287 c0_i32_291
  let v845 : BitVec 32 := Scalar.extui v844
  let v846 : BitVec 32 := Scalar.subi v843 v845
  let v847 : BitVec 1 := Scalar.cmpi .ne v841 v846
  let v848 : BitVec 32 := Scalar.remsi v775 c8_i32_287
  let c0_i32_292 : BitVec 32 := 0#32
  let v849 : BitVec 1 := Scalar.cmpi .ne v848 c0_i32_292
  let v850 : BitVec 1 := Scalar.andi v847 v849
  let v836 : BitVec 32 := Scalar.divsi v775 c8_i32_287
  let c1_i32_293 : BitVec 32 := 1#32
  let v851 : BitVec 32 := Scalar.subi v836 c1_i32_293
  let v852 : BitVec 32 := Scalar.select v850 v851 v836
  let c8_i32_294 : BitVec 32 := 8#32
  let v853 : BitVec 32 := Scalar.muli v852 c8_i32_294
  let c16352_i32_295 : BitVec 32 := 16352#32
  let v854 : BitVec 32 := Scalar.minsi v853 c16352_i32_295
  let v855 : BitVec 32 := v854
  let v857 : Index := Scalar.indexCast v855
  let c0_296 : Index := 0#32
  ![v857.toNat, 0]
def k1_mult20 (v775 : BitVec 32) : BitVec 32 :=
  let c0_i32_311 : BitVec 32 := 0#32
  let v912 : BitVec 1 := Scalar.cmpi .sgt v775 c0_i32_311
  let v913 : BitVec 32 := Scalar.extui v912
  let c0_i32_312 : BitVec 32 := 0#32
  let v914 : BitVec 1 := Scalar.cmpi .slt v775 c0_i32_312
  let v915 : BitVec 32 := Scalar.extui v914
  let v916 : BitVec 32 := Scalar.subi v913 v915
  let c8_i32_310 : BitVec 32 := 8#32
  let c0_i32_313 : BitVec 32 := 0#32
  let v917 : BitVec 1 := Scalar.cmpi .sgt c8_i32_310 c0_i32_313
  let v918 : BitVec 32 := Scalar.extui v917
  let c0_i32_314 : BitVec 32 := 0#32
  let v919 : BitVec 1 := Scalar.cmpi .slt c8_i32_310 c0_i32_314
  let v920 : BitVec 32 := Scalar.extui v919
  let v921 : BitVec 32 := Scalar.subi v918 v920
  let v922 : BitVec 1 := Scalar.cmpi .ne v916 v921
  let v923 : BitVec 32 := Scalar.remsi v775 c8_i32_310
  let c0_i32_315 : BitVec 32 := 0#32
  let v924 : BitVec 1 := Scalar.cmpi .ne v923 c0_i32_315
  let v925 : BitVec 1 := Scalar.andi v922 v924
  let v911 : BitVec 32 := Scalar.divsi v775 c8_i32_310
  let c1_i32_316 : BitVec 32 := 1#32
  let v926 : BitVec 32 := Scalar.subi v911 c1_i32_316
  let v927 : BitVec 32 := Scalar.select v925 v926 v911
  let c8_i32_317 : BitVec 32 := 8#32
  let v928 : BitVec 32 := Scalar.muli v927 c8_i32_317
  let c16352_i32_318 : BitVec 32 := 16352#32
  let v929 : BitVec 32 := Scalar.minsi v928 c16352_i32_318
  v929

def k1_chk9 (v775 : BitVec 32) : Prop :=
  (8 ∣ (k1_mult18 v775).toNat) ∧
  (∀ a, (k1_off18 v775) a + S32x1.size a ≤ S16384x1.size a) ∧
  (8 ∣ (k1_mult19 v775).toNat) ∧
  (∀ a, (k1_off19 v775) a + S32x256.size a ≤ S16384x256.size a) ∧
  (8 ∣ (k1_mult20 v775).toNat)
theorem k1_mult18_dvd : ∀ (v775 : BitVec 32) (k1_hw9 : k1_chk9 v775), 8 ∣ (k1_mult18 v775).toNat := fun v775 k1_hw9 => k1_hw9.1
theorem k1_off18_inb : ∀ (v775 : BitVec 32) (k1_hw9 : k1_chk9 v775), ∀ a, (k1_off18 v775) a + S32x1.size a ≤ S16384x1.size a := fun v775 k1_hw9 => k1_hw9.2.1
theorem k1_mult19_dvd : ∀ (v775 : BitVec 32) (k1_hw9 : k1_chk9 v775), 8 ∣ (k1_mult19 v775).toNat := fun v775 k1_hw9 => k1_hw9.2.2.1
theorem k1_off19_inb : ∀ (v775 : BitVec 32) (k1_hw9 : k1_chk9 v775), ∀ a, (k1_off19 v775) a + S32x256.size a ≤ S16384x256.size a := fun v775 k1_hw9 => k1_hw9.2.2.2.1
theorem k1_mult20_dvd : ∀ (v775 : BitVec 32) (k1_hw9 : k1_chk9 v775), 8 ∣ (k1_mult20 v775).toNat := fun v775 k1_hw9 => k1_hw9.2.2.2.2

def k1_mult21 (v775 : BitVec 32) (v779 : BitVec 32) : BitVec 32 :=
  let c1_i32_272 : BitVec 32 := 1#32
  let v780 : BitVec 32 := Scalar.addi v779 c1_i32_272
  let v781 : BitVec 32 := Scalar.addi v775 v780
  let c1_i32_273 : BitVec 32 := 1#32
  let v782 : BitVec 32 := Scalar.subi v781 c1_i32_273
  let c0_i32_322 : BitVec 32 := 0#32
  let v938 : BitVec 1 := Scalar.cmpi .sgt v782 c0_i32_322
  let v939 : BitVec 32 := Scalar.extui v938
  let c0_i32_323 : BitVec 32 := 0#32
  let v940 : BitVec 1 := Scalar.cmpi .slt v782 c0_i32_323
  let v941 : BitVec 32 := Scalar.extui v940
  let v942 : BitVec 32 := Scalar.subi v939 v941
  let c8_i32_321 : BitVec 32 := 8#32
  let c0_i32_324 : BitVec 32 := 0#32
  let v943 : BitVec 1 := Scalar.cmpi .sgt c8_i32_321 c0_i32_324
  let v944 : BitVec 32 := Scalar.extui v943
  let c0_i32_325 : BitVec 32 := 0#32
  let v945 : BitVec 1 := Scalar.cmpi .slt c8_i32_321 c0_i32_325
  let v946 : BitVec 32 := Scalar.extui v945
  let v947 : BitVec 32 := Scalar.subi v944 v946
  let v948 : BitVec 1 := Scalar.cmpi .ne v942 v947
  let v949 : BitVec 32 := Scalar.remsi v782 c8_i32_321
  let c0_i32_326 : BitVec 32 := 0#32
  let v950 : BitVec 1 := Scalar.cmpi .ne v949 c0_i32_326
  let v951 : BitVec 1 := Scalar.andi v948 v950
  let v937 : BitVec 32 := Scalar.divsi v782 c8_i32_321
  let c1_i32_327 : BitVec 32 := 1#32
  let v952 : BitVec 32 := Scalar.subi v937 c1_i32_327
  let v953 : BitVec 32 := Scalar.select v951 v952 v937
  let c8_i32_328 : BitVec 32 := 8#32
  let v954 : BitVec 32 := Scalar.muli v953 c8_i32_328
  let c16352_i32_329 : BitVec 32 := 16352#32
  let v955 : BitVec 32 := Scalar.minsi v954 c16352_i32_329
  v955

def k1_off20 (v775 : BitVec 32) (v779 : BitVec 32) : Fin 2 → Nat :=
  let c1_i32_272 : BitVec 32 := 1#32
  let v780 : BitVec 32 := Scalar.addi v779 c1_i32_272
  let v781 : BitVec 32 := Scalar.addi v775 v780
  let c1_i32_273 : BitVec 32 := 1#32
  let v782 : BitVec 32 := Scalar.subi v781 c1_i32_273
  let c0_i32_322 : BitVec 32 := 0#32
  let v938 : BitVec 1 := Scalar.cmpi .sgt v782 c0_i32_322
  let v939 : BitVec 32 := Scalar.extui v938
  let c0_i32_323 : BitVec 32 := 0#32
  let v940 : BitVec 1 := Scalar.cmpi .slt v782 c0_i32_323
  let v941 : BitVec 32 := Scalar.extui v940
  let v942 : BitVec 32 := Scalar.subi v939 v941
  let c8_i32_321 : BitVec 32 := 8#32
  let c0_i32_324 : BitVec 32 := 0#32
  let v943 : BitVec 1 := Scalar.cmpi .sgt c8_i32_321 c0_i32_324
  let v944 : BitVec 32 := Scalar.extui v943
  let c0_i32_325 : BitVec 32 := 0#32
  let v945 : BitVec 1 := Scalar.cmpi .slt c8_i32_321 c0_i32_325
  let v946 : BitVec 32 := Scalar.extui v945
  let v947 : BitVec 32 := Scalar.subi v944 v946
  let v948 : BitVec 1 := Scalar.cmpi .ne v942 v947
  let v949 : BitVec 32 := Scalar.remsi v782 c8_i32_321
  let c0_i32_326 : BitVec 32 := 0#32
  let v950 : BitVec 1 := Scalar.cmpi .ne v949 c0_i32_326
  let v951 : BitVec 1 := Scalar.andi v948 v950
  let v937 : BitVec 32 := Scalar.divsi v782 c8_i32_321
  let c1_i32_327 : BitVec 32 := 1#32
  let v952 : BitVec 32 := Scalar.subi v937 c1_i32_327
  let v953 : BitVec 32 := Scalar.select v951 v952 v937
  let c8_i32_328 : BitVec 32 := 8#32
  let v954 : BitVec 32 := Scalar.muli v953 c8_i32_328
  let c16352_i32_329 : BitVec 32 := 16352#32
  let v955 : BitVec 32 := Scalar.minsi v954 c16352_i32_329
  let v956 : BitVec 32 := v955
  let v958 : Index := Scalar.indexCast v956
  let c0_330 : Index := 0#32
  ![v958.toNat, 0]

def k1_chk10 (v775 : BitVec 32) (v779 : BitVec 32) : Prop :=
  (8 ∣ (k1_mult21 v775 v779).toNat) ∧
  (∀ a, (k1_off20 v775 v779) a + S32x256.size a ≤ S16384x256.size a)
theorem k1_mult21_dvd : ∀ (v775 : BitVec 32) (v779 : BitVec 32) (k1_hw10 : k1_chk10 v775 v779), 8 ∣ (k1_mult21 v775 v779).toNat := fun v775 v779 k1_hw10 => k1_hw10.1
theorem k1_off20_inb : ∀ (v775 : BitVec 32) (v779 : BitVec 32) (k1_hw10 : k1_chk10 v775 v779), ∀ a, (k1_off20 v775 v779) a + S32x256.size a ≤ S16384x256.size a := fun v775 v779 k1_hw10 => k1_hw10.2

def k1_off21 (k1_t1 : Fin k1_t1_loop.trips) : Fin 3 → Nat :=
  let c0_334 : Index := 0#32
  let c0_335 : Index := 0#32
  let c0_i32 : BitVec 32 := 0#32
  let c1_i32 : BitVec 32 := 1#32
  let arg8 : BitVec 32 := Scf.iv c0_i32 c1_i32 k1_t1
  let c8_i32_332 : BitVec 32 := 8#32
  let v964 : BitVec 32 := Scalar.muli arg8 c8_i32_332
  let c5_i32_333 : BitVec 32 := 5#32
  let v965 : BitVec 32 := Scalar.addi v964 c5_i32_333
  let v966 : Index := Scalar.indexCast v965
  ![0, 0, v966.toNat]
def k1_mult22 (v967 : BitVec 32) : BitVec 32 :=
  let c0_i32_343 : BitVec 32 := 0#32
  let v976 : BitVec 1 := Scalar.cmpi .sgt v967 c0_i32_343
  let v977 : BitVec 32 := Scalar.extui v976
  let c0_i32_344 : BitVec 32 := 0#32
  let v978 : BitVec 1 := Scalar.cmpi .slt v967 c0_i32_344
  let v979 : BitVec 32 := Scalar.extui v978
  let v980 : BitVec 32 := Scalar.subi v977 v979
  let c8_i32_342 : BitVec 32 := 8#32
  let c0_i32_345 : BitVec 32 := 0#32
  let v981 : BitVec 1 := Scalar.cmpi .sgt c8_i32_342 c0_i32_345
  let v982 : BitVec 32 := Scalar.extui v981
  let c0_i32_346 : BitVec 32 := 0#32
  let v983 : BitVec 1 := Scalar.cmpi .slt c8_i32_342 c0_i32_346
  let v984 : BitVec 32 := Scalar.extui v983
  let v985 : BitVec 32 := Scalar.subi v982 v984
  let v986 : BitVec 1 := Scalar.cmpi .ne v980 v985
  let v987 : BitVec 32 := Scalar.remsi v967 c8_i32_342
  let c0_i32_347 : BitVec 32 := 0#32
  let v988 : BitVec 1 := Scalar.cmpi .ne v987 c0_i32_347
  let v989 : BitVec 1 := Scalar.andi v986 v988
  let v975 : BitVec 32 := Scalar.divsi v967 c8_i32_342
  let c1_i32_348 : BitVec 32 := 1#32
  let v990 : BitVec 32 := Scalar.subi v975 c1_i32_348
  let v991 : BitVec 32 := Scalar.select v989 v990 v975
  let c8_i32_349 : BitVec 32 := 8#32
  let v992 : BitVec 32 := Scalar.muli v991 c8_i32_349
  let c16352_i32_350 : BitVec 32 := 16352#32
  let v993 : BitVec 32 := Scalar.minsi v992 c16352_i32_350
  v993

def k1_off22 (v967 : BitVec 32) : Fin 2 → Nat :=
  let c0_i32_343 : BitVec 32 := 0#32
  let v976 : BitVec 1 := Scalar.cmpi .sgt v967 c0_i32_343
  let v977 : BitVec 32 := Scalar.extui v976
  let c0_i32_344 : BitVec 32 := 0#32
  let v978 : BitVec 1 := Scalar.cmpi .slt v967 c0_i32_344
  let v979 : BitVec 32 := Scalar.extui v978
  let v980 : BitVec 32 := Scalar.subi v977 v979
  let c8_i32_342 : BitVec 32 := 8#32
  let c0_i32_345 : BitVec 32 := 0#32
  let v981 : BitVec 1 := Scalar.cmpi .sgt c8_i32_342 c0_i32_345
  let v982 : BitVec 32 := Scalar.extui v981
  let c0_i32_346 : BitVec 32 := 0#32
  let v983 : BitVec 1 := Scalar.cmpi .slt c8_i32_342 c0_i32_346
  let v984 : BitVec 32 := Scalar.extui v983
  let v985 : BitVec 32 := Scalar.subi v982 v984
  let v986 : BitVec 1 := Scalar.cmpi .ne v980 v985
  let v987 : BitVec 32 := Scalar.remsi v967 c8_i32_342
  let c0_i32_347 : BitVec 32 := 0#32
  let v988 : BitVec 1 := Scalar.cmpi .ne v987 c0_i32_347
  let v989 : BitVec 1 := Scalar.andi v986 v988
  let v975 : BitVec 32 := Scalar.divsi v967 c8_i32_342
  let c1_i32_348 : BitVec 32 := 1#32
  let v990 : BitVec 32 := Scalar.subi v975 c1_i32_348
  let v991 : BitVec 32 := Scalar.select v989 v990 v975
  let c8_i32_349 : BitVec 32 := 8#32
  let v992 : BitVec 32 := Scalar.muli v991 c8_i32_349
  let c16352_i32_350 : BitVec 32 := 16352#32
  let v993 : BitVec 32 := Scalar.minsi v992 c16352_i32_350
  let v994 : BitVec 32 := v993
  let v996 : Index := Scalar.indexCast v994
  let c0_351 : Index := 0#32
  ![v996.toNat, 0]
def k1_mult23 (v967 : BitVec 32) : BitVec 32 :=
  let c0_i32_356 : BitVec 32 := 0#32
  let v1029 : BitVec 1 := Scalar.cmpi .sgt v967 c0_i32_356
  let v1030 : BitVec 32 := Scalar.extui v1029
  let c0_i32_357 : BitVec 32 := 0#32
  let v1031 : BitVec 1 := Scalar.cmpi .slt v967 c0_i32_357
  let v1032 : BitVec 32 := Scalar.extui v1031
  let v1033 : BitVec 32 := Scalar.subi v1030 v1032
  let c8_i32_355 : BitVec 32 := 8#32
  let c0_i32_358 : BitVec 32 := 0#32
  let v1034 : BitVec 1 := Scalar.cmpi .sgt c8_i32_355 c0_i32_358
  let v1035 : BitVec 32 := Scalar.extui v1034
  let c0_i32_359 : BitVec 32 := 0#32
  let v1036 : BitVec 1 := Scalar.cmpi .slt c8_i32_355 c0_i32_359
  let v1037 : BitVec 32 := Scalar.extui v1036
  let v1038 : BitVec 32 := Scalar.subi v1035 v1037
  let v1039 : BitVec 1 := Scalar.cmpi .ne v1033 v1038
  let v1040 : BitVec 32 := Scalar.remsi v967 c8_i32_355
  let c0_i32_360 : BitVec 32 := 0#32
  let v1041 : BitVec 1 := Scalar.cmpi .ne v1040 c0_i32_360
  let v1042 : BitVec 1 := Scalar.andi v1039 v1041
  let v1028 : BitVec 32 := Scalar.divsi v967 c8_i32_355
  let c1_i32_361 : BitVec 32 := 1#32
  let v1043 : BitVec 32 := Scalar.subi v1028 c1_i32_361
  let v1044 : BitVec 32 := Scalar.select v1042 v1043 v1028
  let c8_i32_362 : BitVec 32 := 8#32
  let v1045 : BitVec 32 := Scalar.muli v1044 c8_i32_362
  let c16352_i32_363 : BitVec 32 := 16352#32
  let v1046 : BitVec 32 := Scalar.minsi v1045 c16352_i32_363
  v1046
def k1_off23 (v967 : BitVec 32) : Fin 2 → Nat :=
  let c0_i32_356 : BitVec 32 := 0#32
  let v1029 : BitVec 1 := Scalar.cmpi .sgt v967 c0_i32_356
  let v1030 : BitVec 32 := Scalar.extui v1029
  let c0_i32_357 : BitVec 32 := 0#32
  let v1031 : BitVec 1 := Scalar.cmpi .slt v967 c0_i32_357
  let v1032 : BitVec 32 := Scalar.extui v1031
  let v1033 : BitVec 32 := Scalar.subi v1030 v1032
  let c8_i32_355 : BitVec 32 := 8#32
  let c0_i32_358 : BitVec 32 := 0#32
  let v1034 : BitVec 1 := Scalar.cmpi .sgt c8_i32_355 c0_i32_358
  let v1035 : BitVec 32 := Scalar.extui v1034
  let c0_i32_359 : BitVec 32 := 0#32
  let v1036 : BitVec 1 := Scalar.cmpi .slt c8_i32_355 c0_i32_359
  let v1037 : BitVec 32 := Scalar.extui v1036
  let v1038 : BitVec 32 := Scalar.subi v1035 v1037
  let v1039 : BitVec 1 := Scalar.cmpi .ne v1033 v1038
  let v1040 : BitVec 32 := Scalar.remsi v967 c8_i32_355
  let c0_i32_360 : BitVec 32 := 0#32
  let v1041 : BitVec 1 := Scalar.cmpi .ne v1040 c0_i32_360
  let v1042 : BitVec 1 := Scalar.andi v1039 v1041
  let v1028 : BitVec 32 := Scalar.divsi v967 c8_i32_355
  let c1_i32_361 : BitVec 32 := 1#32
  let v1043 : BitVec 32 := Scalar.subi v1028 c1_i32_361
  let v1044 : BitVec 32 := Scalar.select v1042 v1043 v1028
  let c8_i32_362 : BitVec 32 := 8#32
  let v1045 : BitVec 32 := Scalar.muli v1044 c8_i32_362
  let c16352_i32_363 : BitVec 32 := 16352#32
  let v1046 : BitVec 32 := Scalar.minsi v1045 c16352_i32_363
  let v1047 : BitVec 32 := v1046
  let v1049 : Index := Scalar.indexCast v1047
  let c0_364 : Index := 0#32
  ![v1049.toNat, 0]
def k1_mult24 (v967 : BitVec 32) : BitVec 32 :=
  let c0_i32_379 : BitVec 32 := 0#32
  let v1104 : BitVec 1 := Scalar.cmpi .sgt v967 c0_i32_379
  let v1105 : BitVec 32 := Scalar.extui v1104
  let c0_i32_380 : BitVec 32 := 0#32
  let v1106 : BitVec 1 := Scalar.cmpi .slt v967 c0_i32_380
  let v1107 : BitVec 32 := Scalar.extui v1106
  let v1108 : BitVec 32 := Scalar.subi v1105 v1107
  let c8_i32_378 : BitVec 32 := 8#32
  let c0_i32_381 : BitVec 32 := 0#32
  let v1109 : BitVec 1 := Scalar.cmpi .sgt c8_i32_378 c0_i32_381
  let v1110 : BitVec 32 := Scalar.extui v1109
  let c0_i32_382 : BitVec 32 := 0#32
  let v1111 : BitVec 1 := Scalar.cmpi .slt c8_i32_378 c0_i32_382
  let v1112 : BitVec 32 := Scalar.extui v1111
  let v1113 : BitVec 32 := Scalar.subi v1110 v1112
  let v1114 : BitVec 1 := Scalar.cmpi .ne v1108 v1113
  let v1115 : BitVec 32 := Scalar.remsi v967 c8_i32_378
  let c0_i32_383 : BitVec 32 := 0#32
  let v1116 : BitVec 1 := Scalar.cmpi .ne v1115 c0_i32_383
  let v1117 : BitVec 1 := Scalar.andi v1114 v1116
  let v1103 : BitVec 32 := Scalar.divsi v967 c8_i32_378
  let c1_i32_384 : BitVec 32 := 1#32
  let v1118 : BitVec 32 := Scalar.subi v1103 c1_i32_384
  let v1119 : BitVec 32 := Scalar.select v1117 v1118 v1103
  let c8_i32_385 : BitVec 32 := 8#32
  let v1120 : BitVec 32 := Scalar.muli v1119 c8_i32_385
  let c16352_i32_386 : BitVec 32 := 16352#32
  let v1121 : BitVec 32 := Scalar.minsi v1120 c16352_i32_386
  v1121

def k1_chk11 (v967 : BitVec 32) : Prop :=
  (8 ∣ (k1_mult22 v967).toNat) ∧
  (∀ a, (k1_off22 v967) a + S32x1.size a ≤ S16384x1.size a) ∧
  (8 ∣ (k1_mult23 v967).toNat) ∧
  (∀ a, (k1_off23 v967) a + S32x256.size a ≤ S16384x256.size a) ∧
  (8 ∣ (k1_mult24 v967).toNat)
theorem k1_mult22_dvd : ∀ (v967 : BitVec 32) (k1_hw11 : k1_chk11 v967), 8 ∣ (k1_mult22 v967).toNat := fun v967 k1_hw11 => k1_hw11.1
theorem k1_off22_inb : ∀ (v967 : BitVec 32) (k1_hw11 : k1_chk11 v967), ∀ a, (k1_off22 v967) a + S32x1.size a ≤ S16384x1.size a := fun v967 k1_hw11 => k1_hw11.2.1
theorem k1_mult23_dvd : ∀ (v967 : BitVec 32) (k1_hw11 : k1_chk11 v967), 8 ∣ (k1_mult23 v967).toNat := fun v967 k1_hw11 => k1_hw11.2.2.1
theorem k1_off23_inb : ∀ (v967 : BitVec 32) (k1_hw11 : k1_chk11 v967), ∀ a, (k1_off23 v967) a + S32x256.size a ≤ S16384x256.size a := fun v967 k1_hw11 => k1_hw11.2.2.2.1
theorem k1_mult24_dvd : ∀ (v967 : BitVec 32) (k1_hw11 : k1_chk11 v967), 8 ∣ (k1_mult24 v967).toNat := fun v967 k1_hw11 => k1_hw11.2.2.2.2

def k1_mult25 (v967 : BitVec 32) (v971 : BitVec 32) : BitVec 32 :=
  let c1_i32_340 : BitVec 32 := 1#32
  let v972 : BitVec 32 := Scalar.addi v971 c1_i32_340
  let v973 : BitVec 32 := Scalar.addi v967 v972
  let c1_i32_341 : BitVec 32 := 1#32
  let v974 : BitVec 32 := Scalar.subi v973 c1_i32_341
  let c0_i32_390 : BitVec 32 := 0#32
  let v1130 : BitVec 1 := Scalar.cmpi .sgt v974 c0_i32_390
  let v1131 : BitVec 32 := Scalar.extui v1130
  let c0_i32_391 : BitVec 32 := 0#32
  let v1132 : BitVec 1 := Scalar.cmpi .slt v974 c0_i32_391
  let v1133 : BitVec 32 := Scalar.extui v1132
  let v1134 : BitVec 32 := Scalar.subi v1131 v1133
  let c8_i32_389 : BitVec 32 := 8#32
  let c0_i32_392 : BitVec 32 := 0#32
  let v1135 : BitVec 1 := Scalar.cmpi .sgt c8_i32_389 c0_i32_392
  let v1136 : BitVec 32 := Scalar.extui v1135
  let c0_i32_393 : BitVec 32 := 0#32
  let v1137 : BitVec 1 := Scalar.cmpi .slt c8_i32_389 c0_i32_393
  let v1138 : BitVec 32 := Scalar.extui v1137
  let v1139 : BitVec 32 := Scalar.subi v1136 v1138
  let v1140 : BitVec 1 := Scalar.cmpi .ne v1134 v1139
  let v1141 : BitVec 32 := Scalar.remsi v974 c8_i32_389
  let c0_i32_394 : BitVec 32 := 0#32
  let v1142 : BitVec 1 := Scalar.cmpi .ne v1141 c0_i32_394
  let v1143 : BitVec 1 := Scalar.andi v1140 v1142
  let v1129 : BitVec 32 := Scalar.divsi v974 c8_i32_389
  let c1_i32_395 : BitVec 32 := 1#32
  let v1144 : BitVec 32 := Scalar.subi v1129 c1_i32_395
  let v1145 : BitVec 32 := Scalar.select v1143 v1144 v1129
  let c8_i32_396 : BitVec 32 := 8#32
  let v1146 : BitVec 32 := Scalar.muli v1145 c8_i32_396
  let c16352_i32_397 : BitVec 32 := 16352#32
  let v1147 : BitVec 32 := Scalar.minsi v1146 c16352_i32_397
  v1147

def k1_off24 (v967 : BitVec 32) (v971 : BitVec 32) : Fin 2 → Nat :=
  let c1_i32_340 : BitVec 32 := 1#32
  let v972 : BitVec 32 := Scalar.addi v971 c1_i32_340
  let v973 : BitVec 32 := Scalar.addi v967 v972
  let c1_i32_341 : BitVec 32 := 1#32
  let v974 : BitVec 32 := Scalar.subi v973 c1_i32_341
  let c0_i32_390 : BitVec 32 := 0#32
  let v1130 : BitVec 1 := Scalar.cmpi .sgt v974 c0_i32_390
  let v1131 : BitVec 32 := Scalar.extui v1130
  let c0_i32_391 : BitVec 32 := 0#32
  let v1132 : BitVec 1 := Scalar.cmpi .slt v974 c0_i32_391
  let v1133 : BitVec 32 := Scalar.extui v1132
  let v1134 : BitVec 32 := Scalar.subi v1131 v1133
  let c8_i32_389 : BitVec 32 := 8#32
  let c0_i32_392 : BitVec 32 := 0#32
  let v1135 : BitVec 1 := Scalar.cmpi .sgt c8_i32_389 c0_i32_392
  let v1136 : BitVec 32 := Scalar.extui v1135
  let c0_i32_393 : BitVec 32 := 0#32
  let v1137 : BitVec 1 := Scalar.cmpi .slt c8_i32_389 c0_i32_393
  let v1138 : BitVec 32 := Scalar.extui v1137
  let v1139 : BitVec 32 := Scalar.subi v1136 v1138
  let v1140 : BitVec 1 := Scalar.cmpi .ne v1134 v1139
  let v1141 : BitVec 32 := Scalar.remsi v974 c8_i32_389
  let c0_i32_394 : BitVec 32 := 0#32
  let v1142 : BitVec 1 := Scalar.cmpi .ne v1141 c0_i32_394
  let v1143 : BitVec 1 := Scalar.andi v1140 v1142
  let v1129 : BitVec 32 := Scalar.divsi v974 c8_i32_389
  let c1_i32_395 : BitVec 32 := 1#32
  let v1144 : BitVec 32 := Scalar.subi v1129 c1_i32_395
  let v1145 : BitVec 32 := Scalar.select v1143 v1144 v1129
  let c8_i32_396 : BitVec 32 := 8#32
  let v1146 : BitVec 32 := Scalar.muli v1145 c8_i32_396
  let c16352_i32_397 : BitVec 32 := 16352#32
  let v1147 : BitVec 32 := Scalar.minsi v1146 c16352_i32_397
  let v1148 : BitVec 32 := v1147
  let v1150 : Index := Scalar.indexCast v1148
  let c0_398 : Index := 0#32
  ![v1150.toNat, 0]

def k1_chk12 (v967 : BitVec 32) (v971 : BitVec 32) : Prop :=
  (8 ∣ (k1_mult25 v967 v971).toNat) ∧
  (∀ a, (k1_off24 v967 v971) a + S32x256.size a ≤ S16384x256.size a)
theorem k1_mult25_dvd : ∀ (v967 : BitVec 32) (v971 : BitVec 32) (k1_hw12 : k1_chk12 v967 v971), 8 ∣ (k1_mult25 v967 v971).toNat := fun v967 v971 k1_hw12 => k1_hw12.1
theorem k1_off24_inb : ∀ (v967 : BitVec 32) (v971 : BitVec 32) (k1_hw12 : k1_chk12 v967 v971), ∀ a, (k1_off24 v967 v971) a + S32x256.size a ≤ S16384x256.size a := fun v967 v971 k1_hw12 => k1_hw12.2

def k1_off25 (k1_t1 : Fin k1_t1_loop.trips) : Fin 3 → Nat :=
  let c0_401 : Index := 0#32
  let c0_402 : Index := 0#32
  let c0_i32 : BitVec 32 := 0#32
  let c1_i32 : BitVec 32 := 1#32
  let arg8 : BitVec 32 := Scf.iv c0_i32 c1_i32 k1_t1
  let c8_i32_400 : BitVec 32 := 8#32
  let v1156 : BitVec 32 := Scalar.muli arg8 c8_i32_400
  let c6_i32 : BitVec 32 := 6#32
  let v1157 : BitVec 32 := Scalar.addi v1156 c6_i32
  let v1158 : Index := Scalar.indexCast v1157
  ![0, 0, v1158.toNat]
def k1_mult26 (v1159 : BitVec 32) : BitVec 32 :=
  let c0_i32_410 : BitVec 32 := 0#32
  let v1168 : BitVec 1 := Scalar.cmpi .sgt v1159 c0_i32_410
  let v1169 : BitVec 32 := Scalar.extui v1168
  let c0_i32_411 : BitVec 32 := 0#32
  let v1170 : BitVec 1 := Scalar.cmpi .slt v1159 c0_i32_411
  let v1171 : BitVec 32 := Scalar.extui v1170
  let v1172 : BitVec 32 := Scalar.subi v1169 v1171
  let c8_i32_409 : BitVec 32 := 8#32
  let c0_i32_412 : BitVec 32 := 0#32
  let v1173 : BitVec 1 := Scalar.cmpi .sgt c8_i32_409 c0_i32_412
  let v1174 : BitVec 32 := Scalar.extui v1173
  let c0_i32_413 : BitVec 32 := 0#32
  let v1175 : BitVec 1 := Scalar.cmpi .slt c8_i32_409 c0_i32_413
  let v1176 : BitVec 32 := Scalar.extui v1175
  let v1177 : BitVec 32 := Scalar.subi v1174 v1176
  let v1178 : BitVec 1 := Scalar.cmpi .ne v1172 v1177
  let v1179 : BitVec 32 := Scalar.remsi v1159 c8_i32_409
  let c0_i32_414 : BitVec 32 := 0#32
  let v1180 : BitVec 1 := Scalar.cmpi .ne v1179 c0_i32_414
  let v1181 : BitVec 1 := Scalar.andi v1178 v1180
  let v1167 : BitVec 32 := Scalar.divsi v1159 c8_i32_409
  let c1_i32_415 : BitVec 32 := 1#32
  let v1182 : BitVec 32 := Scalar.subi v1167 c1_i32_415
  let v1183 : BitVec 32 := Scalar.select v1181 v1182 v1167
  let c8_i32_416 : BitVec 32 := 8#32
  let v1184 : BitVec 32 := Scalar.muli v1183 c8_i32_416
  let c16352_i32_417 : BitVec 32 := 16352#32
  let v1185 : BitVec 32 := Scalar.minsi v1184 c16352_i32_417
  v1185

def k1_off26 (v1159 : BitVec 32) : Fin 2 → Nat :=
  let c0_i32_410 : BitVec 32 := 0#32
  let v1168 : BitVec 1 := Scalar.cmpi .sgt v1159 c0_i32_410
  let v1169 : BitVec 32 := Scalar.extui v1168
  let c0_i32_411 : BitVec 32 := 0#32
  let v1170 : BitVec 1 := Scalar.cmpi .slt v1159 c0_i32_411
  let v1171 : BitVec 32 := Scalar.extui v1170
  let v1172 : BitVec 32 := Scalar.subi v1169 v1171
  let c8_i32_409 : BitVec 32 := 8#32
  let c0_i32_412 : BitVec 32 := 0#32
  let v1173 : BitVec 1 := Scalar.cmpi .sgt c8_i32_409 c0_i32_412
  let v1174 : BitVec 32 := Scalar.extui v1173
  let c0_i32_413 : BitVec 32 := 0#32
  let v1175 : BitVec 1 := Scalar.cmpi .slt c8_i32_409 c0_i32_413
  let v1176 : BitVec 32 := Scalar.extui v1175
  let v1177 : BitVec 32 := Scalar.subi v1174 v1176
  let v1178 : BitVec 1 := Scalar.cmpi .ne v1172 v1177
  let v1179 : BitVec 32 := Scalar.remsi v1159 c8_i32_409
  let c0_i32_414 : BitVec 32 := 0#32
  let v1180 : BitVec 1 := Scalar.cmpi .ne v1179 c0_i32_414
  let v1181 : BitVec 1 := Scalar.andi v1178 v1180
  let v1167 : BitVec 32 := Scalar.divsi v1159 c8_i32_409
  let c1_i32_415 : BitVec 32 := 1#32
  let v1182 : BitVec 32 := Scalar.subi v1167 c1_i32_415
  let v1183 : BitVec 32 := Scalar.select v1181 v1182 v1167
  let c8_i32_416 : BitVec 32 := 8#32
  let v1184 : BitVec 32 := Scalar.muli v1183 c8_i32_416
  let c16352_i32_417 : BitVec 32 := 16352#32
  let v1185 : BitVec 32 := Scalar.minsi v1184 c16352_i32_417
  let v1186 : BitVec 32 := v1185
  let v1188 : Index := Scalar.indexCast v1186
  let c0_418 : Index := 0#32
  ![v1188.toNat, 0]
def k1_mult27 (v1159 : BitVec 32) : BitVec 32 :=
  let c0_i32_423 : BitVec 32 := 0#32
  let v1221 : BitVec 1 := Scalar.cmpi .sgt v1159 c0_i32_423
  let v1222 : BitVec 32 := Scalar.extui v1221
  let c0_i32_424 : BitVec 32 := 0#32
  let v1223 : BitVec 1 := Scalar.cmpi .slt v1159 c0_i32_424
  let v1224 : BitVec 32 := Scalar.extui v1223
  let v1225 : BitVec 32 := Scalar.subi v1222 v1224
  let c8_i32_422 : BitVec 32 := 8#32
  let c0_i32_425 : BitVec 32 := 0#32
  let v1226 : BitVec 1 := Scalar.cmpi .sgt c8_i32_422 c0_i32_425
  let v1227 : BitVec 32 := Scalar.extui v1226
  let c0_i32_426 : BitVec 32 := 0#32
  let v1228 : BitVec 1 := Scalar.cmpi .slt c8_i32_422 c0_i32_426
  let v1229 : BitVec 32 := Scalar.extui v1228
  let v1230 : BitVec 32 := Scalar.subi v1227 v1229
  let v1231 : BitVec 1 := Scalar.cmpi .ne v1225 v1230
  let v1232 : BitVec 32 := Scalar.remsi v1159 c8_i32_422
  let c0_i32_427 : BitVec 32 := 0#32
  let v1233 : BitVec 1 := Scalar.cmpi .ne v1232 c0_i32_427
  let v1234 : BitVec 1 := Scalar.andi v1231 v1233
  let v1220 : BitVec 32 := Scalar.divsi v1159 c8_i32_422
  let c1_i32_428 : BitVec 32 := 1#32
  let v1235 : BitVec 32 := Scalar.subi v1220 c1_i32_428
  let v1236 : BitVec 32 := Scalar.select v1234 v1235 v1220
  let c8_i32_429 : BitVec 32 := 8#32
  let v1237 : BitVec 32 := Scalar.muli v1236 c8_i32_429
  let c16352_i32_430 : BitVec 32 := 16352#32
  let v1238 : BitVec 32 := Scalar.minsi v1237 c16352_i32_430
  v1238
def k1_off27 (v1159 : BitVec 32) : Fin 2 → Nat :=
  let c0_i32_423 : BitVec 32 := 0#32
  let v1221 : BitVec 1 := Scalar.cmpi .sgt v1159 c0_i32_423
  let v1222 : BitVec 32 := Scalar.extui v1221
  let c0_i32_424 : BitVec 32 := 0#32
  let v1223 : BitVec 1 := Scalar.cmpi .slt v1159 c0_i32_424
  let v1224 : BitVec 32 := Scalar.extui v1223
  let v1225 : BitVec 32 := Scalar.subi v1222 v1224
  let c8_i32_422 : BitVec 32 := 8#32
  let c0_i32_425 : BitVec 32 := 0#32
  let v1226 : BitVec 1 := Scalar.cmpi .sgt c8_i32_422 c0_i32_425
  let v1227 : BitVec 32 := Scalar.extui v1226
  let c0_i32_426 : BitVec 32 := 0#32
  let v1228 : BitVec 1 := Scalar.cmpi .slt c8_i32_422 c0_i32_426
  let v1229 : BitVec 32 := Scalar.extui v1228
  let v1230 : BitVec 32 := Scalar.subi v1227 v1229
  let v1231 : BitVec 1 := Scalar.cmpi .ne v1225 v1230
  let v1232 : BitVec 32 := Scalar.remsi v1159 c8_i32_422
  let c0_i32_427 : BitVec 32 := 0#32
  let v1233 : BitVec 1 := Scalar.cmpi .ne v1232 c0_i32_427
  let v1234 : BitVec 1 := Scalar.andi v1231 v1233
  let v1220 : BitVec 32 := Scalar.divsi v1159 c8_i32_422
  let c1_i32_428 : BitVec 32 := 1#32
  let v1235 : BitVec 32 := Scalar.subi v1220 c1_i32_428
  let v1236 : BitVec 32 := Scalar.select v1234 v1235 v1220
  let c8_i32_429 : BitVec 32 := 8#32
  let v1237 : BitVec 32 := Scalar.muli v1236 c8_i32_429
  let c16352_i32_430 : BitVec 32 := 16352#32
  let v1238 : BitVec 32 := Scalar.minsi v1237 c16352_i32_430
  let v1239 : BitVec 32 := v1238
  let v1241 : Index := Scalar.indexCast v1239
  let c0_431 : Index := 0#32
  ![v1241.toNat, 0]
def k1_mult28 (v1159 : BitVec 32) : BitVec 32 :=
  let c0_i32_446 : BitVec 32 := 0#32
  let v1296 : BitVec 1 := Scalar.cmpi .sgt v1159 c0_i32_446
  let v1297 : BitVec 32 := Scalar.extui v1296
  let c0_i32_447 : BitVec 32 := 0#32
  let v1298 : BitVec 1 := Scalar.cmpi .slt v1159 c0_i32_447
  let v1299 : BitVec 32 := Scalar.extui v1298
  let v1300 : BitVec 32 := Scalar.subi v1297 v1299
  let c8_i32_445 : BitVec 32 := 8#32
  let c0_i32_448 : BitVec 32 := 0#32
  let v1301 : BitVec 1 := Scalar.cmpi .sgt c8_i32_445 c0_i32_448
  let v1302 : BitVec 32 := Scalar.extui v1301
  let c0_i32_449 : BitVec 32 := 0#32
  let v1303 : BitVec 1 := Scalar.cmpi .slt c8_i32_445 c0_i32_449
  let v1304 : BitVec 32 := Scalar.extui v1303
  let v1305 : BitVec 32 := Scalar.subi v1302 v1304
  let v1306 : BitVec 1 := Scalar.cmpi .ne v1300 v1305
  let v1307 : BitVec 32 := Scalar.remsi v1159 c8_i32_445
  let c0_i32_450 : BitVec 32 := 0#32
  let v1308 : BitVec 1 := Scalar.cmpi .ne v1307 c0_i32_450
  let v1309 : BitVec 1 := Scalar.andi v1306 v1308
  let v1295 : BitVec 32 := Scalar.divsi v1159 c8_i32_445
  let c1_i32_451 : BitVec 32 := 1#32
  let v1310 : BitVec 32 := Scalar.subi v1295 c1_i32_451
  let v1311 : BitVec 32 := Scalar.select v1309 v1310 v1295
  let c8_i32_452 : BitVec 32 := 8#32
  let v1312 : BitVec 32 := Scalar.muli v1311 c8_i32_452
  let c16352_i32_453 : BitVec 32 := 16352#32
  let v1313 : BitVec 32 := Scalar.minsi v1312 c16352_i32_453
  v1313

def k1_chk13 (v1159 : BitVec 32) : Prop :=
  (8 ∣ (k1_mult26 v1159).toNat) ∧
  (∀ a, (k1_off26 v1159) a + S32x1.size a ≤ S16384x1.size a) ∧
  (8 ∣ (k1_mult27 v1159).toNat) ∧
  (∀ a, (k1_off27 v1159) a + S32x256.size a ≤ S16384x256.size a) ∧
  (8 ∣ (k1_mult28 v1159).toNat)
theorem k1_mult26_dvd : ∀ (v1159 : BitVec 32) (k1_hw13 : k1_chk13 v1159), 8 ∣ (k1_mult26 v1159).toNat := fun v1159 k1_hw13 => k1_hw13.1
theorem k1_off26_inb : ∀ (v1159 : BitVec 32) (k1_hw13 : k1_chk13 v1159), ∀ a, (k1_off26 v1159) a + S32x1.size a ≤ S16384x1.size a := fun v1159 k1_hw13 => k1_hw13.2.1
theorem k1_mult27_dvd : ∀ (v1159 : BitVec 32) (k1_hw13 : k1_chk13 v1159), 8 ∣ (k1_mult27 v1159).toNat := fun v1159 k1_hw13 => k1_hw13.2.2.1
theorem k1_off27_inb : ∀ (v1159 : BitVec 32) (k1_hw13 : k1_chk13 v1159), ∀ a, (k1_off27 v1159) a + S32x256.size a ≤ S16384x256.size a := fun v1159 k1_hw13 => k1_hw13.2.2.2.1
theorem k1_mult28_dvd : ∀ (v1159 : BitVec 32) (k1_hw13 : k1_chk13 v1159), 8 ∣ (k1_mult28 v1159).toNat := fun v1159 k1_hw13 => k1_hw13.2.2.2.2

def k1_mult29 (v1159 : BitVec 32) (v1163 : BitVec 32) : BitVec 32 :=
  let c1_i32_407 : BitVec 32 := 1#32
  let v1164 : BitVec 32 := Scalar.addi v1163 c1_i32_407
  let v1165 : BitVec 32 := Scalar.addi v1159 v1164
  let c1_i32_408 : BitVec 32 := 1#32
  let v1166 : BitVec 32 := Scalar.subi v1165 c1_i32_408
  let c0_i32_457 : BitVec 32 := 0#32
  let v1322 : BitVec 1 := Scalar.cmpi .sgt v1166 c0_i32_457
  let v1323 : BitVec 32 := Scalar.extui v1322
  let c0_i32_458 : BitVec 32 := 0#32
  let v1324 : BitVec 1 := Scalar.cmpi .slt v1166 c0_i32_458
  let v1325 : BitVec 32 := Scalar.extui v1324
  let v1326 : BitVec 32 := Scalar.subi v1323 v1325
  let c8_i32_456 : BitVec 32 := 8#32
  let c0_i32_459 : BitVec 32 := 0#32
  let v1327 : BitVec 1 := Scalar.cmpi .sgt c8_i32_456 c0_i32_459
  let v1328 : BitVec 32 := Scalar.extui v1327
  let c0_i32_460 : BitVec 32 := 0#32
  let v1329 : BitVec 1 := Scalar.cmpi .slt c8_i32_456 c0_i32_460
  let v1330 : BitVec 32 := Scalar.extui v1329
  let v1331 : BitVec 32 := Scalar.subi v1328 v1330
  let v1332 : BitVec 1 := Scalar.cmpi .ne v1326 v1331
  let v1333 : BitVec 32 := Scalar.remsi v1166 c8_i32_456
  let c0_i32_461 : BitVec 32 := 0#32
  let v1334 : BitVec 1 := Scalar.cmpi .ne v1333 c0_i32_461
  let v1335 : BitVec 1 := Scalar.andi v1332 v1334
  let v1321 : BitVec 32 := Scalar.divsi v1166 c8_i32_456
  let c1_i32_462 : BitVec 32 := 1#32
  let v1336 : BitVec 32 := Scalar.subi v1321 c1_i32_462
  let v1337 : BitVec 32 := Scalar.select v1335 v1336 v1321
  let c8_i32_463 : BitVec 32 := 8#32
  let v1338 : BitVec 32 := Scalar.muli v1337 c8_i32_463
  let c16352_i32_464 : BitVec 32 := 16352#32
  let v1339 : BitVec 32 := Scalar.minsi v1338 c16352_i32_464
  v1339

def k1_off28 (v1159 : BitVec 32) (v1163 : BitVec 32) : Fin 2 → Nat :=
  let c1_i32_407 : BitVec 32 := 1#32
  let v1164 : BitVec 32 := Scalar.addi v1163 c1_i32_407
  let v1165 : BitVec 32 := Scalar.addi v1159 v1164
  let c1_i32_408 : BitVec 32 := 1#32
  let v1166 : BitVec 32 := Scalar.subi v1165 c1_i32_408
  let c0_i32_457 : BitVec 32 := 0#32
  let v1322 : BitVec 1 := Scalar.cmpi .sgt v1166 c0_i32_457
  let v1323 : BitVec 32 := Scalar.extui v1322
  let c0_i32_458 : BitVec 32 := 0#32
  let v1324 : BitVec 1 := Scalar.cmpi .slt v1166 c0_i32_458
  let v1325 : BitVec 32 := Scalar.extui v1324
  let v1326 : BitVec 32 := Scalar.subi v1323 v1325
  let c8_i32_456 : BitVec 32 := 8#32
  let c0_i32_459 : BitVec 32 := 0#32
  let v1327 : BitVec 1 := Scalar.cmpi .sgt c8_i32_456 c0_i32_459
  let v1328 : BitVec 32 := Scalar.extui v1327
  let c0_i32_460 : BitVec 32 := 0#32
  let v1329 : BitVec 1 := Scalar.cmpi .slt c8_i32_456 c0_i32_460
  let v1330 : BitVec 32 := Scalar.extui v1329
  let v1331 : BitVec 32 := Scalar.subi v1328 v1330
  let v1332 : BitVec 1 := Scalar.cmpi .ne v1326 v1331
  let v1333 : BitVec 32 := Scalar.remsi v1166 c8_i32_456
  let c0_i32_461 : BitVec 32 := 0#32
  let v1334 : BitVec 1 := Scalar.cmpi .ne v1333 c0_i32_461
  let v1335 : BitVec 1 := Scalar.andi v1332 v1334
  let v1321 : BitVec 32 := Scalar.divsi v1166 c8_i32_456
  let c1_i32_462 : BitVec 32 := 1#32
  let v1336 : BitVec 32 := Scalar.subi v1321 c1_i32_462
  let v1337 : BitVec 32 := Scalar.select v1335 v1336 v1321
  let c8_i32_463 : BitVec 32 := 8#32
  let v1338 : BitVec 32 := Scalar.muli v1337 c8_i32_463
  let c16352_i32_464 : BitVec 32 := 16352#32
  let v1339 : BitVec 32 := Scalar.minsi v1338 c16352_i32_464
  let v1340 : BitVec 32 := v1339
  let v1342 : Index := Scalar.indexCast v1340
  let c0_465 : Index := 0#32
  ![v1342.toNat, 0]

def k1_chk14 (v1159 : BitVec 32) (v1163 : BitVec 32) : Prop :=
  (8 ∣ (k1_mult29 v1159 v1163).toNat) ∧
  (∀ a, (k1_off28 v1159 v1163) a + S32x256.size a ≤ S16384x256.size a)
theorem k1_mult29_dvd : ∀ (v1159 : BitVec 32) (v1163 : BitVec 32) (k1_hw14 : k1_chk14 v1159 v1163), 8 ∣ (k1_mult29 v1159 v1163).toNat := fun v1159 v1163 k1_hw14 => k1_hw14.1
theorem k1_off28_inb : ∀ (v1159 : BitVec 32) (v1163 : BitVec 32) (k1_hw14 : k1_chk14 v1159 v1163), ∀ a, (k1_off28 v1159 v1163) a + S32x256.size a ≤ S16384x256.size a := fun v1159 v1163 k1_hw14 => k1_hw14.2

def k1_off29 (k1_t1 : Fin k1_t1_loop.trips) : Fin 3 → Nat :=
  let c0_468 : Index := 0#32
  let c0_469 : Index := 0#32
  let c0_i32 : BitVec 32 := 0#32
  let c1_i32 : BitVec 32 := 1#32
  let arg8 : BitVec 32 := Scf.iv c0_i32 c1_i32 k1_t1
  let c8_i32_467 : BitVec 32 := 8#32
  let v1348 : BitVec 32 := Scalar.muli arg8 c8_i32_467
  let c7_i32 : BitVec 32 := 7#32
  let v1349 : BitVec 32 := Scalar.addi v1348 c7_i32
  let v1350 : Index := Scalar.indexCast v1349
  ![0, 0, v1350.toNat]
def k1_mult30 (v1351 : BitVec 32) : BitVec 32 :=
  let c0_i32_477 : BitVec 32 := 0#32
  let v1360 : BitVec 1 := Scalar.cmpi .sgt v1351 c0_i32_477
  let v1361 : BitVec 32 := Scalar.extui v1360
  let c0_i32_478 : BitVec 32 := 0#32
  let v1362 : BitVec 1 := Scalar.cmpi .slt v1351 c0_i32_478
  let v1363 : BitVec 32 := Scalar.extui v1362
  let v1364 : BitVec 32 := Scalar.subi v1361 v1363
  let c8_i32_476 : BitVec 32 := 8#32
  let c0_i32_479 : BitVec 32 := 0#32
  let v1365 : BitVec 1 := Scalar.cmpi .sgt c8_i32_476 c0_i32_479
  let v1366 : BitVec 32 := Scalar.extui v1365
  let c0_i32_480 : BitVec 32 := 0#32
  let v1367 : BitVec 1 := Scalar.cmpi .slt c8_i32_476 c0_i32_480
  let v1368 : BitVec 32 := Scalar.extui v1367
  let v1369 : BitVec 32 := Scalar.subi v1366 v1368
  let v1370 : BitVec 1 := Scalar.cmpi .ne v1364 v1369
  let v1371 : BitVec 32 := Scalar.remsi v1351 c8_i32_476
  let c0_i32_481 : BitVec 32 := 0#32
  let v1372 : BitVec 1 := Scalar.cmpi .ne v1371 c0_i32_481
  let v1373 : BitVec 1 := Scalar.andi v1370 v1372
  let v1359 : BitVec 32 := Scalar.divsi v1351 c8_i32_476
  let c1_i32_482 : BitVec 32 := 1#32
  let v1374 : BitVec 32 := Scalar.subi v1359 c1_i32_482
  let v1375 : BitVec 32 := Scalar.select v1373 v1374 v1359
  let c8_i32_483 : BitVec 32 := 8#32
  let v1376 : BitVec 32 := Scalar.muli v1375 c8_i32_483
  let c16352_i32_484 : BitVec 32 := 16352#32
  let v1377 : BitVec 32 := Scalar.minsi v1376 c16352_i32_484
  v1377

def k1_off30 (v1351 : BitVec 32) : Fin 2 → Nat :=
  let c0_i32_477 : BitVec 32 := 0#32
  let v1360 : BitVec 1 := Scalar.cmpi .sgt v1351 c0_i32_477
  let v1361 : BitVec 32 := Scalar.extui v1360
  let c0_i32_478 : BitVec 32 := 0#32
  let v1362 : BitVec 1 := Scalar.cmpi .slt v1351 c0_i32_478
  let v1363 : BitVec 32 := Scalar.extui v1362
  let v1364 : BitVec 32 := Scalar.subi v1361 v1363
  let c8_i32_476 : BitVec 32 := 8#32
  let c0_i32_479 : BitVec 32 := 0#32
  let v1365 : BitVec 1 := Scalar.cmpi .sgt c8_i32_476 c0_i32_479
  let v1366 : BitVec 32 := Scalar.extui v1365
  let c0_i32_480 : BitVec 32 := 0#32
  let v1367 : BitVec 1 := Scalar.cmpi .slt c8_i32_476 c0_i32_480
  let v1368 : BitVec 32 := Scalar.extui v1367
  let v1369 : BitVec 32 := Scalar.subi v1366 v1368
  let v1370 : BitVec 1 := Scalar.cmpi .ne v1364 v1369
  let v1371 : BitVec 32 := Scalar.remsi v1351 c8_i32_476
  let c0_i32_481 : BitVec 32 := 0#32
  let v1372 : BitVec 1 := Scalar.cmpi .ne v1371 c0_i32_481
  let v1373 : BitVec 1 := Scalar.andi v1370 v1372
  let v1359 : BitVec 32 := Scalar.divsi v1351 c8_i32_476
  let c1_i32_482 : BitVec 32 := 1#32
  let v1374 : BitVec 32 := Scalar.subi v1359 c1_i32_482
  let v1375 : BitVec 32 := Scalar.select v1373 v1374 v1359
  let c8_i32_483 : BitVec 32 := 8#32
  let v1376 : BitVec 32 := Scalar.muli v1375 c8_i32_483
  let c16352_i32_484 : BitVec 32 := 16352#32
  let v1377 : BitVec 32 := Scalar.minsi v1376 c16352_i32_484
  let v1378 : BitVec 32 := v1377
  let v1380 : Index := Scalar.indexCast v1378
  let c0_485 : Index := 0#32
  ![v1380.toNat, 0]
def k1_mult31 (v1351 : BitVec 32) : BitVec 32 :=
  let c0_i32_490 : BitVec 32 := 0#32
  let v1413 : BitVec 1 := Scalar.cmpi .sgt v1351 c0_i32_490
  let v1414 : BitVec 32 := Scalar.extui v1413
  let c0_i32_491 : BitVec 32 := 0#32
  let v1415 : BitVec 1 := Scalar.cmpi .slt v1351 c0_i32_491
  let v1416 : BitVec 32 := Scalar.extui v1415
  let v1417 : BitVec 32 := Scalar.subi v1414 v1416
  let c8_i32_489 : BitVec 32 := 8#32
  let c0_i32_492 : BitVec 32 := 0#32
  let v1418 : BitVec 1 := Scalar.cmpi .sgt c8_i32_489 c0_i32_492
  let v1419 : BitVec 32 := Scalar.extui v1418
  let c0_i32_493 : BitVec 32 := 0#32
  let v1420 : BitVec 1 := Scalar.cmpi .slt c8_i32_489 c0_i32_493
  let v1421 : BitVec 32 := Scalar.extui v1420
  let v1422 : BitVec 32 := Scalar.subi v1419 v1421
  let v1423 : BitVec 1 := Scalar.cmpi .ne v1417 v1422
  let v1424 : BitVec 32 := Scalar.remsi v1351 c8_i32_489
  let c0_i32_494 : BitVec 32 := 0#32
  let v1425 : BitVec 1 := Scalar.cmpi .ne v1424 c0_i32_494
  let v1426 : BitVec 1 := Scalar.andi v1423 v1425
  let v1412 : BitVec 32 := Scalar.divsi v1351 c8_i32_489
  let c1_i32_495 : BitVec 32 := 1#32
  let v1427 : BitVec 32 := Scalar.subi v1412 c1_i32_495
  let v1428 : BitVec 32 := Scalar.select v1426 v1427 v1412
  let c8_i32_496 : BitVec 32 := 8#32
  let v1429 : BitVec 32 := Scalar.muli v1428 c8_i32_496
  let c16352_i32_497 : BitVec 32 := 16352#32
  let v1430 : BitVec 32 := Scalar.minsi v1429 c16352_i32_497
  v1430
def k1_off31 (v1351 : BitVec 32) : Fin 2 → Nat :=
  let c0_i32_490 : BitVec 32 := 0#32
  let v1413 : BitVec 1 := Scalar.cmpi .sgt v1351 c0_i32_490
  let v1414 : BitVec 32 := Scalar.extui v1413
  let c0_i32_491 : BitVec 32 := 0#32
  let v1415 : BitVec 1 := Scalar.cmpi .slt v1351 c0_i32_491
  let v1416 : BitVec 32 := Scalar.extui v1415
  let v1417 : BitVec 32 := Scalar.subi v1414 v1416
  let c8_i32_489 : BitVec 32 := 8#32
  let c0_i32_492 : BitVec 32 := 0#32
  let v1418 : BitVec 1 := Scalar.cmpi .sgt c8_i32_489 c0_i32_492
  let v1419 : BitVec 32 := Scalar.extui v1418
  let c0_i32_493 : BitVec 32 := 0#32
  let v1420 : BitVec 1 := Scalar.cmpi .slt c8_i32_489 c0_i32_493
  let v1421 : BitVec 32 := Scalar.extui v1420
  let v1422 : BitVec 32 := Scalar.subi v1419 v1421
  let v1423 : BitVec 1 := Scalar.cmpi .ne v1417 v1422
  let v1424 : BitVec 32 := Scalar.remsi v1351 c8_i32_489
  let c0_i32_494 : BitVec 32 := 0#32
  let v1425 : BitVec 1 := Scalar.cmpi .ne v1424 c0_i32_494
  let v1426 : BitVec 1 := Scalar.andi v1423 v1425
  let v1412 : BitVec 32 := Scalar.divsi v1351 c8_i32_489
  let c1_i32_495 : BitVec 32 := 1#32
  let v1427 : BitVec 32 := Scalar.subi v1412 c1_i32_495
  let v1428 : BitVec 32 := Scalar.select v1426 v1427 v1412
  let c8_i32_496 : BitVec 32 := 8#32
  let v1429 : BitVec 32 := Scalar.muli v1428 c8_i32_496
  let c16352_i32_497 : BitVec 32 := 16352#32
  let v1430 : BitVec 32 := Scalar.minsi v1429 c16352_i32_497
  let v1431 : BitVec 32 := v1430
  let v1433 : Index := Scalar.indexCast v1431
  let c0_498 : Index := 0#32
  ![v1433.toNat, 0]
def k1_mult32 (v1351 : BitVec 32) : BitVec 32 :=
  let c0_i32_513 : BitVec 32 := 0#32
  let v1488 : BitVec 1 := Scalar.cmpi .sgt v1351 c0_i32_513
  let v1489 : BitVec 32 := Scalar.extui v1488
  let c0_i32_514 : BitVec 32 := 0#32
  let v1490 : BitVec 1 := Scalar.cmpi .slt v1351 c0_i32_514
  let v1491 : BitVec 32 := Scalar.extui v1490
  let v1492 : BitVec 32 := Scalar.subi v1489 v1491
  let c8_i32_512 : BitVec 32 := 8#32
  let c0_i32_515 : BitVec 32 := 0#32
  let v1493 : BitVec 1 := Scalar.cmpi .sgt c8_i32_512 c0_i32_515
  let v1494 : BitVec 32 := Scalar.extui v1493
  let c0_i32_516 : BitVec 32 := 0#32
  let v1495 : BitVec 1 := Scalar.cmpi .slt c8_i32_512 c0_i32_516
  let v1496 : BitVec 32 := Scalar.extui v1495
  let v1497 : BitVec 32 := Scalar.subi v1494 v1496
  let v1498 : BitVec 1 := Scalar.cmpi .ne v1492 v1497
  let v1499 : BitVec 32 := Scalar.remsi v1351 c8_i32_512
  let c0_i32_517 : BitVec 32 := 0#32
  let v1500 : BitVec 1 := Scalar.cmpi .ne v1499 c0_i32_517
  let v1501 : BitVec 1 := Scalar.andi v1498 v1500
  let v1487 : BitVec 32 := Scalar.divsi v1351 c8_i32_512
  let c1_i32_518 : BitVec 32 := 1#32
  let v1502 : BitVec 32 := Scalar.subi v1487 c1_i32_518
  let v1503 : BitVec 32 := Scalar.select v1501 v1502 v1487
  let c8_i32_519 : BitVec 32 := 8#32
  let v1504 : BitVec 32 := Scalar.muli v1503 c8_i32_519
  let c16352_i32_520 : BitVec 32 := 16352#32
  let v1505 : BitVec 32 := Scalar.minsi v1504 c16352_i32_520
  v1505

def k1_chk15 (v1351 : BitVec 32) : Prop :=
  (8 ∣ (k1_mult30 v1351).toNat) ∧
  (∀ a, (k1_off30 v1351) a + S32x1.size a ≤ S16384x1.size a) ∧
  (8 ∣ (k1_mult31 v1351).toNat) ∧
  (∀ a, (k1_off31 v1351) a + S32x256.size a ≤ S16384x256.size a) ∧
  (8 ∣ (k1_mult32 v1351).toNat)
theorem k1_mult30_dvd : ∀ (v1351 : BitVec 32) (k1_hw15 : k1_chk15 v1351), 8 ∣ (k1_mult30 v1351).toNat := fun v1351 k1_hw15 => k1_hw15.1
theorem k1_off30_inb : ∀ (v1351 : BitVec 32) (k1_hw15 : k1_chk15 v1351), ∀ a, (k1_off30 v1351) a + S32x1.size a ≤ S16384x1.size a := fun v1351 k1_hw15 => k1_hw15.2.1
theorem k1_mult31_dvd : ∀ (v1351 : BitVec 32) (k1_hw15 : k1_chk15 v1351), 8 ∣ (k1_mult31 v1351).toNat := fun v1351 k1_hw15 => k1_hw15.2.2.1
theorem k1_off31_inb : ∀ (v1351 : BitVec 32) (k1_hw15 : k1_chk15 v1351), ∀ a, (k1_off31 v1351) a + S32x256.size a ≤ S16384x256.size a := fun v1351 k1_hw15 => k1_hw15.2.2.2.1
theorem k1_mult32_dvd : ∀ (v1351 : BitVec 32) (k1_hw15 : k1_chk15 v1351), 8 ∣ (k1_mult32 v1351).toNat := fun v1351 k1_hw15 => k1_hw15.2.2.2.2

def k1_mult33 (v1351 : BitVec 32) (v1355 : BitVec 32) : BitVec 32 :=
  let c1_i32_474 : BitVec 32 := 1#32
  let v1356 : BitVec 32 := Scalar.addi v1355 c1_i32_474
  let v1357 : BitVec 32 := Scalar.addi v1351 v1356
  let c1_i32_475 : BitVec 32 := 1#32
  let v1358 : BitVec 32 := Scalar.subi v1357 c1_i32_475
  let c0_i32_524 : BitVec 32 := 0#32
  let v1514 : BitVec 1 := Scalar.cmpi .sgt v1358 c0_i32_524
  let v1515 : BitVec 32 := Scalar.extui v1514
  let c0_i32_525 : BitVec 32 := 0#32
  let v1516 : BitVec 1 := Scalar.cmpi .slt v1358 c0_i32_525
  let v1517 : BitVec 32 := Scalar.extui v1516
  let v1518 : BitVec 32 := Scalar.subi v1515 v1517
  let c8_i32_523 : BitVec 32 := 8#32
  let c0_i32_526 : BitVec 32 := 0#32
  let v1519 : BitVec 1 := Scalar.cmpi .sgt c8_i32_523 c0_i32_526
  let v1520 : BitVec 32 := Scalar.extui v1519
  let c0_i32_527 : BitVec 32 := 0#32
  let v1521 : BitVec 1 := Scalar.cmpi .slt c8_i32_523 c0_i32_527
  let v1522 : BitVec 32 := Scalar.extui v1521
  let v1523 : BitVec 32 := Scalar.subi v1520 v1522
  let v1524 : BitVec 1 := Scalar.cmpi .ne v1518 v1523
  let v1525 : BitVec 32 := Scalar.remsi v1358 c8_i32_523
  let c0_i32_528 : BitVec 32 := 0#32
  let v1526 : BitVec 1 := Scalar.cmpi .ne v1525 c0_i32_528
  let v1527 : BitVec 1 := Scalar.andi v1524 v1526
  let v1513 : BitVec 32 := Scalar.divsi v1358 c8_i32_523
  let c1_i32_529 : BitVec 32 := 1#32
  let v1528 : BitVec 32 := Scalar.subi v1513 c1_i32_529
  let v1529 : BitVec 32 := Scalar.select v1527 v1528 v1513
  let c8_i32_530 : BitVec 32 := 8#32
  let v1530 : BitVec 32 := Scalar.muli v1529 c8_i32_530
  let c16352_i32_531 : BitVec 32 := 16352#32
  let v1531 : BitVec 32 := Scalar.minsi v1530 c16352_i32_531
  v1531

def k1_off32 (v1351 : BitVec 32) (v1355 : BitVec 32) : Fin 2 → Nat :=
  let c1_i32_474 : BitVec 32 := 1#32
  let v1356 : BitVec 32 := Scalar.addi v1355 c1_i32_474
  let v1357 : BitVec 32 := Scalar.addi v1351 v1356
  let c1_i32_475 : BitVec 32 := 1#32
  let v1358 : BitVec 32 := Scalar.subi v1357 c1_i32_475
  let c0_i32_524 : BitVec 32 := 0#32
  let v1514 : BitVec 1 := Scalar.cmpi .sgt v1358 c0_i32_524
  let v1515 : BitVec 32 := Scalar.extui v1514
  let c0_i32_525 : BitVec 32 := 0#32
  let v1516 : BitVec 1 := Scalar.cmpi .slt v1358 c0_i32_525
  let v1517 : BitVec 32 := Scalar.extui v1516
  let v1518 : BitVec 32 := Scalar.subi v1515 v1517
  let c8_i32_523 : BitVec 32 := 8#32
  let c0_i32_526 : BitVec 32 := 0#32
  let v1519 : BitVec 1 := Scalar.cmpi .sgt c8_i32_523 c0_i32_526
  let v1520 : BitVec 32 := Scalar.extui v1519
  let c0_i32_527 : BitVec 32 := 0#32
  let v1521 : BitVec 1 := Scalar.cmpi .slt c8_i32_523 c0_i32_527
  let v1522 : BitVec 32 := Scalar.extui v1521
  let v1523 : BitVec 32 := Scalar.subi v1520 v1522
  let v1524 : BitVec 1 := Scalar.cmpi .ne v1518 v1523
  let v1525 : BitVec 32 := Scalar.remsi v1358 c8_i32_523
  let c0_i32_528 : BitVec 32 := 0#32
  let v1526 : BitVec 1 := Scalar.cmpi .ne v1525 c0_i32_528
  let v1527 : BitVec 1 := Scalar.andi v1524 v1526
  let v1513 : BitVec 32 := Scalar.divsi v1358 c8_i32_523
  let c1_i32_529 : BitVec 32 := 1#32
  let v1528 : BitVec 32 := Scalar.subi v1513 c1_i32_529
  let v1529 : BitVec 32 := Scalar.select v1527 v1528 v1513
  let c8_i32_530 : BitVec 32 := 8#32
  let v1530 : BitVec 32 := Scalar.muli v1529 c8_i32_530
  let c16352_i32_531 : BitVec 32 := 16352#32
  let v1531 : BitVec 32 := Scalar.minsi v1530 c16352_i32_531
  let v1532 : BitVec 32 := v1531
  let v1534 : Index := Scalar.indexCast v1532
  let c0_532 : Index := 0#32
  ![v1534.toNat, 0]

def k1_chk16 (v1351 : BitVec 32) (v1355 : BitVec 32) : Prop :=
  (8 ∣ (k1_mult33 v1351 v1355).toNat) ∧
  (∀ a, (k1_off32 v1351 v1355) a + S32x256.size a ≤ S16384x256.size a)
theorem k1_mult33_dvd : ∀ (v1351 : BitVec 32) (v1355 : BitVec 32) (k1_hw16 : k1_chk16 v1351 v1355), 8 ∣ (k1_mult33 v1351 v1355).toNat := fun v1351 v1355 k1_hw16 => k1_hw16.1
theorem k1_off32_inb : ∀ (v1351 : BitVec 32) (v1355 : BitVec 32) (k1_hw16 : k1_chk16 v1351 v1355), ∀ a, (k1_off32 v1351 v1355) a + S32x256.size a ≤ S16384x256.size a := fun v1351 v1355 k1_hw16 => k1_hw16.2

def k1_off33 (k1_t1 : Fin k1_t1_loop.trips) : Fin 2 → Nat :=
  let c0_i32 : BitVec 32 := 0#32
  let c1_i32 : BitVec 32 := 1#32
  let arg8 : BitVec 32 := Scf.iv c0_i32 c1_i32 k1_t1
  let c8_i32 : BitVec 32 := 8#32
  let v2 : BitVec 32 := Scalar.muli arg8 c8_i32
  let v3 : BitVec 32 := v2
  let v1541 : Index := Scalar.indexCast v3
  let c0_534 : Index := 0#32
  ![v1541.toNat, 0]
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .smem S1x1x512 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .smem S1x1x512 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S16384x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16384x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S16384x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S16x20 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S512x788 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x150 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x150 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S150x150 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x150 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S150x1 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2048x1 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]
-- ==== ReferenceIdeal.lean ====
abbrev S16384x256 : Shape := ⟨2, ![16384, 256]⟩
abbrev S16384 : Shape := ⟨1, ![16384]⟩
abbrev S256x150 : Shape := ⟨2, ![256, 150]⟩
abbrev S150 : Shape := ⟨1, ![150]⟩
abbrev S150x150 : Shape := ⟨2, ![150, 150]⟩
abbrev S150x1 : Shape := ⟨2, ![150, 1]⟩
abbrev S1 : Shape := ⟨1, ![1]⟩
abbrev S788x150 : Shape := ⟨2, ![788, 150]⟩
abbrev S10x20 : Shape := ⟨2, ![10, 20]⟩
abbrev S_ : Shape := ⟨0, ![]⟩
abbrev S9 : Shape := ⟨1, ![9]⟩
abbrev S16384x150 : Shape := ⟨2, ![16384, 150]⟩
abbrev S1x150 : Shape := ⟨2, ![1, 150]⟩
abbrev S16384x1 : Shape := ⟨2, ![16384, 1]⟩
abbrev S1x1 : Shape := ⟨2, ![1, 1]⟩
abbrev S16 : Shape := ⟨1, ![16]⟩
abbrev S1x16 : Shape := ⟨2, ![1, 16]⟩
abbrev S16384x16 : Shape := ⟨2, ![16384, 16]⟩
abbrev S16384x16x1 : Shape := ⟨3, ![16384, 16, 1]⟩
abbrev S1x1x1 : Shape := ⟨3, ![1, 1, 1]⟩
abbrev S16384x16x256 : Shape := ⟨3, ![16384, 16, 256]⟩
abbrev S1x9 : Shape := ⟨2, ![1, 9]⟩
abbrev S16384x9 : Shape := ⟨2, ![16384, 9]⟩
abbrev S16384x20 : Shape := ⟨2, ![16384, 20]⟩
abbrev S16384x512 : Shape := ⟨2, ![16384, 512]⟩
abbrev S16384x788 : Shape := ⟨2, ![16384, 788]⟩

abbrev nBuf : Space → Nat
  | .hbm => 229
  | .vmem => 0
  | .smem => 0
  | _ => 0

abbrev hbmTy0_0 (i : Nat) : BufTy := match i % 128 with
  | 0 => ⟨S16384x256, .f32⟩
  | 1 => ⟨S16384x256, .f32⟩
  | 2 => ⟨S16384, .i32⟩
  | 3 => ⟨S16384, .i32⟩
  | 4 => ⟨S256x150, .f32⟩
  | 5 => ⟨S150, .f32⟩
  | 6 => ⟨S150x150, .f32⟩
  | 7 => ⟨S150, .f32⟩
  | 8 => ⟨S150x1, .f32⟩
  | 9 => ⟨S1, .f32⟩
  | 10 => ⟨S788x150, .f32⟩
  | 11 => ⟨S150, .f32⟩
  | 12 => ⟨S150x150, .f32⟩
  | 13 => ⟨S150, .f32⟩
  | 14 => ⟨S150x1, .f32⟩
  | 15 => ⟨S1, .f32⟩
  | 16 => ⟨S10x20, .f32⟩
  | 17 => ⟨S_, .i32⟩
  | 18 => ⟨S9, .i32⟩
  | 19 => ⟨S16384x150, .f32⟩
  | 20 => ⟨S1x150, .f32⟩
  | 21 => ⟨S16384x150, .f32⟩
  | 22 => ⟨S16384x150, .f32⟩
  | 23 => ⟨S_, .f32⟩
  | 24 => ⟨S16384x150, .f32⟩
  | 25 => ⟨S16384x150, .f32⟩
  | 26 => ⟨S16384x150, .f32⟩
  | 27 => ⟨S1x150, .f32⟩
  | 28 => ⟨S16384x150, .f32⟩
  | 29 => ⟨S16384x150, .f32⟩
  | 30 => ⟨S_, .f32⟩
  | 31 => ⟨S16384x150, .f32⟩
  | 32 => ⟨S16384x150, .f32⟩
  | 33 => ⟨S16384x1, .f32⟩
  | 34 => ⟨S1x1, .f32⟩
  | 35 => ⟨S16384x1, .f32⟩
  | 36 => ⟨S16384x1, .f32⟩
  | 37 => ⟨S_, .i32⟩
  | 38 => ⟨S16384, .i32⟩
  | 39 => ⟨S16384, .i32⟩
  | 40 => ⟨S16384, .i32⟩
  | 41 => ⟨S_, .i32⟩
  | 42 => ⟨S16384, .i32⟩
  | 43 => ⟨S16384, .i32⟩
  | 44 => ⟨S16, .i32⟩
  | 45 => ⟨S16384x1, .i32⟩
  | 46 => ⟨S1x16, .i32⟩
  | 47 => ⟨S16384x16, .i32⟩
  | 48 => ⟨S16384x16, .i32⟩
  | 49 => ⟨S16384x16, .i32⟩
  | 50 => ⟨S1x16, .i32⟩
  | 51 => ⟨S16384x1, .i32⟩
  | 52 => ⟨S16384x16, .i32⟩
  | 53 => ⟨S16384x16, .i32⟩
  | 54 => ⟨S16384x16, .i1⟩
  | 55 => ⟨S_, .i32⟩
  | 56 => ⟨S16384x16, .i32⟩
  | 57 => ⟨S16384x16, .i32⟩
  | 58 => ⟨S_, .i32⟩
  | 59 => ⟨S16384x16, .i32⟩
  | 60 => ⟨S16384x16, .i1⟩
  | 61 => ⟨S_, .i32⟩
  | 62 => ⟨S16384x16, .i32⟩
  | 63 => ⟨S16384x16, .i32⟩
  | 64 => ⟨S16384x16, .i32⟩
  | 65 => ⟨S16384x16x1, .i32⟩
  | 66 => ⟨S1, .i32⟩
  | 67 => ⟨S_, .i32⟩
  | 68 => ⟨S16384x16x1, .i32⟩
  | 69 => ⟨S16384x16x1, .i1⟩
  | 70 => ⟨S1x1x1, .i32⟩
  | 71 => ⟨S16384x16x1, .i32⟩
  | 72 => ⟨S16384x16x1, .i1⟩
  | 73 => ⟨S16384x16x1, .i1⟩
  | 74 => ⟨S_, .i1⟩
  | 75 => ⟨S16384x16, .i1⟩
  | 76 => ⟨S16384x16x1, .f32⟩
  | 77 => ⟨S16384x16x1, .i1⟩
  | 78 => ⟨S_, .f32⟩
  | 79 => ⟨S16384x16x1, .f32⟩
  | 80 => ⟨S16384x16x1, .f32⟩
  | 81 => ⟨S16384x16, .f32⟩
  | 82 => ⟨S_, .f32⟩
  | 83 => ⟨S_, .f32⟩
  | 84 => ⟨S16384x16, .f32⟩
  | 85 => ⟨S16384x16, .f32⟩
  | 86 => ⟨S_, .i32⟩
  | 87 => ⟨S16384x16, .i32⟩
  | 88 => ⟨S16384x16, .i1⟩
  | 89 => ⟨S_, .i32⟩
  | 90 => ⟨S16384x16, .i32⟩
  | 91 => ⟨S16384x16, .i32⟩
  | 92 => ⟨S16384x16, .i32⟩
  | 93 => ⟨S16384x16x1, .i32⟩
  | 94 => ⟨S1, .i32⟩
  | 95 => ⟨S_, .i32⟩
  | 96 => ⟨S16384x16x1, .i32⟩
  | 97 => ⟨S16384x16x1, .i1⟩
  | 98 => ⟨S1x1x1, .i32⟩
  | 99 => ⟨S16384x16x1, .i32⟩
  | 100 => ⟨S16384x16x1, .i1⟩
  | 101 => ⟨S16384x16x1, .i1⟩
  | 102 => ⟨S_, .i1⟩
  | 103 => ⟨S16384x16, .i1⟩
  | 104 => ⟨S16384x16x256, .f32⟩
  | 105 => ⟨S16384x16x256, .i1⟩
  | 106 => ⟨S_, .f32⟩
  | 107 => ⟨S16384x16x256, .f32⟩
  | 108 => ⟨S16384x16x256, .f32⟩
  | 109 => ⟨S16384x16x1, .i1⟩
  | 110 => ⟨S16384x16x1, .f32⟩
  | 111 => ⟨S16384x16x256, .f32⟩
  | 112 => ⟨S16384x16x256, .f32⟩
  | 113 => ⟨S_, .f32⟩
  | 114 => ⟨S16384, .f32⟩
  | 115 => ⟨S_, .f32⟩
  | 116 => ⟨S16384, .f32⟩
  | 117 => ⟨S16384, .f32⟩
  | 118 => ⟨S16384x1, .f32⟩
  | 119 => ⟨S16384x16, .f32⟩
  | 120 => ⟨S16384x16, .f32⟩
  | 121 => ⟨S16384x16, .f32⟩
  | 122 => ⟨S_, .f32⟩
  | 123 => ⟨S16384, .f32⟩
  | 124 => ⟨S16384x1, .f32⟩
  | 125 => ⟨S16384x16, .f32⟩
  | 126 => ⟨S16384x16, .f32⟩
  | 127 => ⟨S16384x16x1, .f32⟩
  | _ => ⟨S16384x256, .f32⟩

abbrev hbmTy0_1 (i : Nat) : BufTy := match i % 128 with
  | 0 => ⟨S16384x16x256, .f32⟩
  | 1 => ⟨S16384x16x256, .f32⟩
  | 2 => ⟨S_, .f32⟩
  | 3 => ⟨S16384x256, .f32⟩
  | 4 => ⟨S16384x1, .i32⟩
  | 5 => ⟨S1x9, .i32⟩
  | 6 => ⟨S16384x9, .i32⟩
  | 7 => ⟨S16384x9, .i32⟩
  | 8 => ⟨S16384x9, .i1⟩
  | 9 => ⟨S16384x9, .i32⟩
  | 10 => ⟨S_, .i32⟩
  | 11 => ⟨S16384, .i32⟩
  | 12 => ⟨S_, .i32⟩
  | 13 => ⟨S16384, .i32⟩
  | 14 => ⟨S16384, .i1⟩
  | 15 => ⟨S_, .i32⟩
  | 16 => ⟨S16384, .i32⟩
  | 17 => ⟨S16384, .i32⟩
  | 18 => ⟨S16384, .i32⟩
  | 19 => ⟨S16384x1, .i32⟩
  | 20 => ⟨S1, .i32⟩
  | 21 => ⟨S_, .i32⟩
  | 22 => ⟨S16384x1, .i32⟩
  | 23 => ⟨S16384x1, .i1⟩
  | 24 => ⟨S1x1, .i32⟩
  | 25 => ⟨S16384x1, .i32⟩
  | 26 => ⟨S16384x1, .i1⟩
  | 27 => ⟨S16384x1, .i1⟩
  | 28 => ⟨S_, .i1⟩
  | 29 => ⟨S16384, .i1⟩
  | 30 => ⟨S16384x20, .f32⟩
  | 31 => ⟨S16384x20, .i1⟩
  | 32 => ⟨S_, .f32⟩
  | 33 => ⟨S16384x20, .f32⟩
  | 34 => ⟨S16384x20, .f32⟩
  | 35 => ⟨S_, .i32⟩
  | 36 => ⟨S16384, .i32⟩
  | 37 => ⟨S16384, .i1⟩
  | 38 => ⟨S_, .i32⟩
  | 39 => ⟨S16384, .i32⟩
  | 40 => ⟨S16384, .i32⟩
  | 41 => ⟨S16384, .i32⟩
  | 42 => ⟨S16384x1, .i32⟩
  | 43 => ⟨S1, .i32⟩
  | 44 => ⟨S_, .i32⟩
  | 45 => ⟨S16384x1, .i32⟩
  | 46 => ⟨S16384x1, .i1⟩
  | 47 => ⟨S1x1, .i32⟩
  | 48 => ⟨S16384x1, .i32⟩
  | 49 => ⟨S16384x1, .i1⟩
  | 50 => ⟨S16384x1, .i1⟩
  | 51 => ⟨S_, .i1⟩
  | 52 => ⟨S16384, .i1⟩
  | 53 => ⟨S16384x256, .f32⟩
  | 54 => ⟨S16384x256, .i1⟩
  | 55 => ⟨S_, .f32⟩
  | 56 => ⟨S16384x256, .f32⟩
  | 57 => ⟨S16384x256, .f32⟩
  | 58 => ⟨S_, .i32⟩
  | 59 => ⟨S16384, .i32⟩
  | 60 => ⟨S16384, .i1⟩
  | 61 => ⟨S_, .i32⟩
  | 62 => ⟨S16384, .i32⟩
  | 63 => ⟨S16384, .i32⟩
  | 64 => ⟨S16384, .i32⟩
  | 65 => ⟨S16384x1, .i32⟩
  | 66 => ⟨S1, .i32⟩
  | 67 => ⟨S_, .i32⟩
  | 68 => ⟨S16384x1, .i32⟩
  | 69 => ⟨S16384x1, .i1⟩
  | 70 => ⟨S1x1, .i32⟩
  | 71 => ⟨S16384x1, .i32⟩
  | 72 => ⟨S16384x1, .i1⟩
  | 73 => ⟨S16384x1, .i1⟩
  | 74 => ⟨S_, .i1⟩
  | 75 => ⟨S16384, .i1⟩
  | 76 => ⟨S16384x256, .f32⟩
  | 77 => ⟨S16384x256, .i1⟩
  | 78 => ⟨S_, .f32⟩
  | 79 => ⟨S16384x256, .f32⟩
  | 80 => ⟨S16384x256, .f32⟩
  | 81 => ⟨S16384x512, .f32⟩
  | 82 => ⟨S16384x788, .f32⟩
  | 83 => ⟨S16384x150, .f32⟩
  | 84 => ⟨S1x150, .f32⟩
  | 85 => ⟨S16384x150, .f32⟩
  | 86 => ⟨S16384x150, .f32⟩
  | 87 => ⟨S_, .f32⟩
  | 88 => ⟨S16384x150, .f32⟩
  | 89 => ⟨S16384x150, .f32⟩
  | 90 => ⟨S16384x150, .f32⟩
  | 91 => ⟨S1x150, .f32⟩
  | 92 => ⟨S16384x150, .f32⟩
  | 93 => ⟨S16384x150, .f32⟩
  | 94 => ⟨S_, .f32⟩
  | 95 => ⟨S16384x150, .f32⟩
  | 96 => ⟨S16384x150, .f32⟩
  | 97 => ⟨S16384x1, .f32⟩
  | 98 => ⟨S1x1, .f32⟩
  | 99 => ⟨S16384x1, .f32⟩
  | 100 => ⟨S16384x1, .f32⟩
  | _ => ⟨S16384x256, .f32⟩

abbrev hbmTy (i : Nat) : BufTy := match i / 128 with
  | 0 => hbmTy0_0 i
  | 1 => hbmTy0_1 i
  | _ => ⟨S16384x256, .f32⟩

abbrev bufTy : (tb : Table) → Fin (tcTables nBuf tb) → BufTy
  | .hbm, ⟨i, _⟩ => hbmTy i
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_c : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_call0_cst : Ref sig .tc := ⟨.hbm, 23, rfl⟩
abbrev main_call0_v0 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_call1_cst : Ref sig .tc := ⟨.hbm, 30, rfl⟩
abbrev main_call1_v0 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_c_0 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_c_1 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_c_2 : Ref sig .tc := ⟨.hbm, 55, rfl⟩
abbrev main_v30 : Ref sig .tc := ⟨.hbm, 56, rfl⟩
abbrev main_v31 : Ref sig .tc := ⟨.hbm, 57, rfl⟩
abbrev main_call2_c : Ref sig .tc := ⟨.hbm, 58, rfl⟩
abbrev main_call2_v0 : Ref sig .tc := ⟨.hbm, 59, rfl⟩
abbrev main_call2_v1 : Ref sig .tc := ⟨.hbm, 60, rfl⟩
abbrev main_call2_c_0 : Ref sig .tc := ⟨.hbm, 61, rfl⟩
abbrev main_call2_v2 : Ref sig .tc := ⟨.hbm, 62, rfl⟩
abbrev main_call2_v3 : Ref sig .tc := ⟨.hbm, 63, rfl⟩
abbrev main_call2_v4 : Ref sig .tc := ⟨.hbm, 64, rfl⟩
abbrev main_call2_v5 : Ref sig .tc := ⟨.hbm, 65, rfl⟩
abbrev main_call2_c_1 : Ref sig .tc := ⟨.hbm, 66, rfl⟩
abbrev main_call2_c_2 : Ref sig .tc := ⟨.hbm, 67, rfl⟩
abbrev main_call2_v6 : Ref sig .tc := ⟨.hbm, 68, rfl⟩
abbrev main_call2_v7 : Ref sig .tc := ⟨.hbm, 69, rfl⟩
abbrev main_call2_v8 : Ref sig .tc := ⟨.hbm, 70, rfl⟩
abbrev main_call2_v9 : Ref sig .tc := ⟨.hbm, 71, rfl⟩
abbrev main_call2_v10 : Ref sig .tc := ⟨.hbm, 72, rfl⟩
abbrev main_call2_v11 : Ref sig .tc := ⟨.hbm, 73, rfl⟩
abbrev main_call2_c_3 : Ref sig .tc := ⟨.hbm, 74, rfl⟩
abbrev main_call2_v12 : Ref sig .tc := ⟨.hbm, 75, rfl⟩
abbrev main_call2_v13 : Ref sig .tc := ⟨.hbm, 76, rfl⟩
abbrev main_call2_v14 : Ref sig .tc := ⟨.hbm, 77, rfl⟩
abbrev main_call2_cst : Ref sig .tc := ⟨.hbm, 78, rfl⟩
abbrev main_call2_v15 : Ref sig .tc := ⟨.hbm, 79, rfl⟩
abbrev main_v32 : Ref sig .tc := ⟨.hbm, 80, rfl⟩
abbrev main_v33 : Ref sig .tc := ⟨.hbm, 81, rfl⟩
abbrev main_cst : Ref sig .tc := ⟨.hbm, 82, rfl⟩
abbrev main_call3_v0 : Ref sig .tc := ⟨.hbm, 83, rfl⟩
abbrev main_call3_v1 : Ref sig .tc := ⟨.hbm, 84, rfl⟩
abbrev main_v34 : Ref sig .tc := ⟨.hbm, 85, rfl⟩
abbrev main_call4_c : Ref sig .tc := ⟨.hbm, 86, rfl⟩
abbrev main_call4_v0 : Ref sig .tc := ⟨.hbm, 87, rfl⟩
abbrev main_call4_v1 : Ref sig .tc := ⟨.hbm, 88, rfl⟩
abbrev main_call4_c_0 : Ref sig .tc := ⟨.hbm, 89, rfl⟩
abbrev main_call4_v2 : Ref sig .tc := ⟨.hbm, 90, rfl⟩
abbrev main_call4_v3 : Ref sig .tc := ⟨.hbm, 91, rfl⟩
abbrev main_call4_v4 : Ref sig .tc := ⟨.hbm, 92, rfl⟩
abbrev main_call4_v5 : Ref sig .tc := ⟨.hbm, 93, rfl⟩
abbrev main_call4_c_1 : Ref sig .tc := ⟨.hbm, 94, rfl⟩
abbrev main_call4_c_2 : Ref sig .tc := ⟨.hbm, 95, rfl⟩
abbrev main_call4_v6 : Ref sig .tc := ⟨.hbm, 96, rfl⟩
abbrev main_call4_v7 : Ref sig .tc := ⟨.hbm, 97, rfl⟩
abbrev main_call4_v8 : Ref sig .tc := ⟨.hbm, 98, rfl⟩
abbrev main_call4_v9 : Ref sig .tc := ⟨.hbm, 99, rfl⟩
abbrev main_call4_v10 : Ref sig .tc := ⟨.hbm, 100, rfl⟩
abbrev main_call4_v11 : Ref sig .tc := ⟨.hbm, 101, rfl⟩
abbrev main_call4_c_3 : Ref sig .tc := ⟨.hbm, 102, rfl⟩
abbrev main_call4_v12 : Ref sig .tc := ⟨.hbm, 103, rfl⟩
abbrev main_call4_v13 : Ref sig .tc := ⟨.hbm, 104, rfl⟩
abbrev main_call4_v14 : Ref sig .tc := ⟨.hbm, 105, rfl⟩
abbrev main_call4_cst : Ref sig .tc := ⟨.hbm, 106, rfl⟩
abbrev main_call4_v15 : Ref sig .tc := ⟨.hbm, 107, rfl⟩
abbrev main_v35 : Ref sig .tc := ⟨.hbm, 108, rfl⟩
abbrev main_v36 : Ref sig .tc := ⟨.hbm, 109, rfl⟩
abbrev main_v37 : Ref sig .tc := ⟨.hbm, 110, rfl⟩
abbrev main_v38 : Ref sig .tc := ⟨.hbm, 111, rfl⟩
abbrev main_v39 : Ref sig .tc := ⟨.hbm, 112, rfl⟩
abbrev main_cst_3 : Ref sig .tc := ⟨.hbm, 113, rfl⟩
abbrev main_v40 : Ref sig .tc := ⟨.hbm, 114, rfl⟩
abbrev main_cst_4 : Ref sig .tc := ⟨.hbm, 115, rfl⟩
abbrev main_v41 : Ref sig .tc := ⟨.hbm, 116, rfl⟩
abbrev main_v42 : Ref sig .tc := ⟨.hbm, 117, rfl⟩
abbrev main_v43 : Ref sig .tc := ⟨.hbm, 118, rfl⟩
abbrev main_v44 : Ref sig .tc := ⟨.hbm, 119, rfl⟩
abbrev main_v45 : Ref sig .tc := ⟨.hbm, 120, rfl⟩
abbrev main_v46 : Ref sig .tc := ⟨.hbm, 121, rfl⟩
abbrev main_cst_5 : Ref sig .tc := ⟨.hbm, 122, rfl⟩
abbrev main_v47 : Ref sig .tc := ⟨.hbm, 123, rfl⟩
abbrev main_v48 : Ref sig .tc := ⟨.hbm, 124, rfl⟩
abbrev main_v49 : Ref sig .tc := ⟨.hbm, 125, rfl⟩
abbrev main_v50 : Ref sig .tc := ⟨.hbm, 126, rfl⟩
abbrev main_v51 : Ref sig .tc := ⟨.hbm, 127, rfl⟩
abbrev main_v52 : Ref sig .tc := ⟨.hbm, 128, rfl⟩
abbrev main_v53 : Ref sig .tc := ⟨.hbm, 129, rfl⟩
abbrev main_cst_6 : Ref sig .tc := ⟨.hbm, 130, rfl⟩
abbrev main_v54 : Ref sig .tc := ⟨.hbm, 131, rfl⟩
abbrev main_v55 : Ref sig .tc := ⟨.hbm, 132, rfl⟩
abbrev main_v56 : Ref sig .tc := ⟨.hbm, 133, rfl⟩
abbrev main_v57 : Ref sig .tc := ⟨.hbm, 134, rfl⟩
abbrev main_v58 : Ref sig .tc := ⟨.hbm, 135, rfl⟩
abbrev main_v59 : Ref sig .tc := ⟨.hbm, 136, rfl⟩
abbrev main_v60 : Ref sig .tc := ⟨.hbm, 137, rfl⟩
abbrev main_c_7 : Ref sig .tc := ⟨.hbm, 138, rfl⟩
abbrev main_v61 : Ref sig .tc := ⟨.hbm, 139, rfl⟩
abbrev main_call5_c : Ref sig .tc := ⟨.hbm, 140, rfl⟩
abbrev main_call5_v0 : Ref sig .tc := ⟨.hbm, 141, rfl⟩
abbrev main_call5_v1 : Ref sig .tc := ⟨.hbm, 142, rfl⟩
abbrev main_call5_c_0 : Ref sig .tc := ⟨.hbm, 143, rfl⟩
abbrev main_call5_v2 : Ref sig .tc := ⟨.hbm, 144, rfl⟩
abbrev main_call5_v3 : Ref sig .tc := ⟨.hbm, 145, rfl⟩
abbrev main_call5_v4 : Ref sig .tc := ⟨.hbm, 146, rfl⟩
abbrev main_call5_v5 : Ref sig .tc := ⟨.hbm, 147, rfl⟩
abbrev main_call5_c_1 : Ref sig .tc := ⟨.hbm, 148, rfl⟩
abbrev main_call5_c_2 : Ref sig .tc := ⟨.hbm, 149, rfl⟩
abbrev main_call5_v6 : Ref sig .tc := ⟨.hbm, 150, rfl⟩
abbrev main_call5_v7 : Ref sig .tc := ⟨.hbm, 151, rfl⟩
abbrev main_call5_v8 : Ref sig .tc := ⟨.hbm, 152, rfl⟩
abbrev main_call5_v9 : Ref sig .tc := ⟨.hbm, 153, rfl⟩
abbrev main_call5_v10 : Ref sig .tc := ⟨.hbm, 154, rfl⟩
abbrev main_call5_v11 : Ref sig .tc := ⟨.hbm, 155, rfl⟩
abbrev main_call5_c_3 : Ref sig .tc := ⟨.hbm, 156, rfl⟩
abbrev main_call5_v12 : Ref sig .tc := ⟨.hbm, 157, rfl⟩
abbrev main_call5_v13 : Ref sig .tc := ⟨.hbm, 158, rfl⟩
abbrev main_call5_v14 : Ref sig .tc := ⟨.hbm, 159, rfl⟩
abbrev main_call5_cst : Ref sig .tc := ⟨.hbm, 160, rfl⟩
abbrev main_call5_v15 : Ref sig .tc := ⟨.hbm, 161, rfl⟩
abbrev main_v62 : Ref sig .tc := ⟨.hbm, 162, rfl⟩
abbrev main_call6_c : Ref sig .tc := ⟨.hbm, 163, rfl⟩
abbrev main_call6_v0 : Ref sig .tc := ⟨.hbm, 164, rfl⟩
abbrev main_call6_v1 : Ref sig .tc := ⟨.hbm, 165, rfl⟩
abbrev main_call6_c_0 : Ref sig .tc := ⟨.hbm, 166, rfl⟩
abbrev main_call6_v2 : Ref sig .tc := ⟨.hbm, 167, rfl⟩
abbrev main_call6_v3 : Ref sig .tc := ⟨.hbm, 168, rfl⟩
abbrev main_call6_v4 : Ref sig .tc := ⟨.hbm, 169, rfl⟩
abbrev main_call6_v5 : Ref sig .tc := ⟨.hbm, 170, rfl⟩
abbrev main_call6_c_1 : Ref sig .tc := ⟨.hbm, 171, rfl⟩
abbrev main_call6_c_2 : Ref sig .tc := ⟨.hbm, 172, rfl⟩
abbrev main_call6_v6 : Ref sig .tc := ⟨.hbm, 173, rfl⟩
abbrev main_call6_v7 : Ref sig .tc := ⟨.hbm, 174, rfl⟩
abbrev main_call6_v8 : Ref sig .tc := ⟨.hbm, 175, rfl⟩
abbrev main_call6_v9 : Ref sig .tc := ⟨.hbm, 176, rfl⟩
abbrev main_call6_v10 : Ref sig .tc := ⟨.hbm, 177, rfl⟩
abbrev main_call6_v11 : Ref sig .tc := ⟨.hbm, 178, rfl⟩
abbrev main_call6_c_3 : Ref sig .tc := ⟨.hbm, 179, rfl⟩
abbrev main_call6_v12 : Ref sig .tc := ⟨.hbm, 180, rfl⟩
abbrev main_call6_v13 : Ref sig .tc := ⟨.hbm, 181, rfl⟩
abbrev main_call6_v14 : Ref sig .tc := ⟨.hbm, 182, rfl⟩
abbrev main_call6_cst : Ref sig .tc := ⟨.hbm, 183, rfl⟩
abbrev main_call6_v15 : Ref sig .tc := ⟨.hbm, 184, rfl⟩
abbrev main_v63 : Ref sig .tc := ⟨.hbm, 185, rfl⟩
abbrev main_call7_c : Ref sig .tc := ⟨.hbm, 186, rfl⟩
abbrev main_call7_v0 : Ref sig .tc := ⟨.hbm, 187, rfl⟩
abbrev main_call7_v1 : Ref sig .tc := ⟨.hbm, 188, rfl⟩
abbrev main_call7_c_0 : Ref sig .tc := ⟨.hbm, 189, rfl⟩
abbrev main_call7_v2 : Ref sig .tc := ⟨.hbm, 190, rfl⟩
abbrev main_call7_v3 : Ref sig .tc := ⟨.hbm, 191, rfl⟩
abbrev main_call7_v4 : Ref sig .tc := ⟨.hbm, 192, rfl⟩
abbrev main_call7_v5 : Ref sig .tc := ⟨.hbm, 193, rfl⟩
abbrev main_call7_c_1 : Ref sig .tc := ⟨.hbm, 194, rfl⟩
abbrev main_call7_c_2 : Ref sig .tc := ⟨.hbm, 195, rfl⟩
abbrev main_call7_v6 : Ref sig .tc := ⟨.hbm, 196, rfl⟩
abbrev main_call7_v7 : Ref sig .tc := ⟨.hbm, 197, rfl⟩
abbrev main_call7_v8 : Ref sig .tc := ⟨.hbm, 198, rfl⟩
abbrev main_call7_v9 : Ref sig .tc := ⟨.hbm, 199, rfl⟩
abbrev main_call7_v10 : Ref sig .tc := ⟨.hbm, 200, rfl⟩
abbrev main_call7_v11 : Ref sig .tc := ⟨.hbm, 201, rfl⟩
abbrev main_call7_c_3 : Ref sig .tc := ⟨.hbm, 202, rfl⟩
abbrev main_call7_v12 : Ref sig .tc := ⟨.hbm, 203, rfl⟩
abbrev main_call7_v13 : Ref sig .tc := ⟨.hbm, 204, rfl⟩
abbrev main_call7_v14 : Ref sig .tc := ⟨.hbm, 205, rfl⟩
abbrev main_call7_cst : Ref sig .tc := ⟨.hbm, 206, rfl⟩
abbrev main_call7_v15 : Ref sig .tc := ⟨.hbm, 207, rfl⟩
abbrev main_v64 : Ref sig .tc := ⟨.hbm, 208, rfl⟩
abbrev main_v65 : Ref sig .tc := ⟨.hbm, 209, rfl⟩
abbrev main_v66 : Ref sig .tc := ⟨.hbm, 210, rfl⟩
abbrev main_v67 : Ref sig .tc := ⟨.hbm, 211, rfl⟩
abbrev main_v68 : Ref sig .tc := ⟨.hbm, 212, rfl⟩
abbrev main_v69 : Ref sig .tc := ⟨.hbm, 213, rfl⟩
abbrev main_v70 : Ref sig .tc := ⟨.hbm, 214, rfl⟩
abbrev main_call8_cst : Ref sig .tc := ⟨.hbm, 215, rfl⟩
abbrev main_call8_v0 : Ref sig .tc := ⟨.hbm, 216, rfl⟩
abbrev main_v71 : Ref sig .tc := ⟨.hbm, 217, rfl⟩
abbrev main_v72 : Ref sig .tc := ⟨.hbm, 218, rfl⟩
abbrev main_v73 : Ref sig .tc := ⟨.hbm, 219, rfl⟩
abbrev main_v74 : Ref sig .tc := ⟨.hbm, 220, rfl⟩
abbrev main_v75 : Ref sig .tc := ⟨.hbm, 221, rfl⟩
abbrev main_call9_cst : Ref sig .tc := ⟨.hbm, 222, rfl⟩
abbrev main_call9_v0 : Ref sig .tc := ⟨.hbm, 223, rfl⟩
abbrev main_v76 : Ref sig .tc := ⟨.hbm, 224, rfl⟩
abbrev main_v77 : Ref sig .tc := ⟨.hbm, 225, rfl⟩
abbrev main_v78 : Ref sig .tc := ⟨.hbm, 226, rfl⟩
abbrev main_v79 : Ref sig .tc := ⟨.hbm, 227, rfl⟩
abbrev main_v80 : Ref sig .tc := ⟨.hbm, 228, rfl⟩

abbrev nD : Nat := 1
abbrev τ : Topo := Topo.v7x

variable {F : FTy → Type} [FloatOps F]
-- ==== Kernel2.lean ====
abbrev S16384x1 : Shape := ⟨2, ![16384, 1]⟩
abbrev S1x16384 : Shape := ⟨2, ![1, 16384]⟩
abbrev S1024x1 : Shape := ⟨2, ![1024, 1]⟩
abbrev S1x1024 : Shape := ⟨2, ![1, 1024]⟩
abbrev S1024x1024 : Shape := ⟨2, ![1024, 1024]⟩
abbrev S1024 : Shape := ⟨1, ![1024]⟩
abbrev S1x7168 : Shape := ⟨2, ![1, 7168]⟩
abbrev S7168 : Shape := ⟨1, ![7168]⟩
abbrev S6553 : Shape := ⟨1, ![6553]⟩

abbrev nBuf : Space → Nat
  | .hbm => 6
  | .vmem => 8
  | .smem => 0
  | _ => 0

abbrev bufTy : (tb : Table) → Fin (tcTables nBuf tb) → BufTy
  | .hbm, ⟨0, _⟩ => ⟨S16384x1, .f32⟩
  | .hbm, ⟨1, _⟩ => ⟨S1x16384, .f32⟩
  | .hbm, ⟨2, _⟩ => ⟨S16384x1, .i32⟩
  | .hbm, ⟨3, _⟩ => ⟨S1x7168, .i32⟩
  | .hbm, ⟨4, _⟩ => ⟨S7168, .i32⟩
  | .hbm, ⟨5, _⟩ => ⟨S6553, .i32⟩
  | .local _ .vmem, ⟨0, _⟩ => ⟨S1024x1, .f32⟩
  | .local _ .vmem, ⟨1, _⟩ => ⟨S1024x1, .f32⟩
  | .local _ .vmem, ⟨2, _⟩ => ⟨S1x16384, .f32⟩
  | .local _ .vmem, ⟨3, _⟩ => ⟨S1024x1, .i32⟩
  | .local _ .vmem, ⟨4, _⟩ => ⟨S1024x1, .i32⟩
  | .local _ .vmem, ⟨5, _⟩ => ⟨S16384x1, .i32⟩
  | .local _ .vmem, ⟨6, _⟩ => ⟨S1x1024, .i32⟩
  | .local _ .vmem, ⟨7, _⟩ => ⟨S1x1024, .i32⟩
  | _, _ => ⟨S16384x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7

abbrev nD : Nat := 1
abbrev τ : Topo := Topo.v7x

variable {F : FTy → Type} [BitOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x16384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![7], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S16384x1 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1x1024 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]
-- ==== Reference2.lean ====
abbrev S16384x1 : Shape := ⟨2, ![16384, 1]⟩
abbrev S16384 : Shape := ⟨1, ![16384]⟩
abbrev S6553 : Shape := ⟨1, ![6553]⟩

abbrev nBuf : Space → Nat
  | .hbm => 4
  | .vmem => 0
  | .smem => 0
  | _ => 0

abbrev bufTy : (tb : Table) → Fin (tcTables nBuf tb) → BufTy
  | .hbm, ⟨0, _⟩ => ⟨S16384x1, .f32⟩
  | .hbm, ⟨1, _⟩ => ⟨S16384, .f32⟩
  | .hbm, ⟨2, _⟩ => ⟨S6553, .f32⟩
  | .hbm, ⟨3, _⟩ => ⟨S6553, .i32⟩
  | _, _ => ⟨S16384x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_values : Ref sig .tc := ⟨.hbm, 2, rfl⟩
abbrev main_indices : Ref sig .tc := ⟨.hbm, 3, rfl⟩

abbrev nD : Nat := 1
abbrev τ : Topo := Topo.v7x

variable {F : FTy → Type} [FloatOps F]
-- ==== Proof.Shared.PreWords.lean ====
/- What the stated precondition says of the span words. -/
module

public import proofs.«01_k».proof.Pre_spans_in_range
public import proofs.«01_k».proof.Proof.Gen.Pre_spans_in_range
public import Idealize.ShloMosaic.Lib.WordCmp

@[expose] public section

noncomputable section

namespace Cert.PreWords

open Idealize.ShloMosaic Idealize.ShloMosaic.WordCmp

/-- A conjunction of two bits is set only when both are. -/
theorem both {a b : BitVec 1} (h : IntOp.andi a b = 1#1) : a = 1#1 ∧ b = 1#1 := by
  revert h; revert a b; decide

/-- A word whose signed value is in `[0, k)` is below `k`. -/
theorem below (x : BitVec 32) (k : Nat) (hk : k < 2 ^ 31) (h0 : IntOp.cmpi .sge x 0#32 = 1#1) (h1 : IntOp.cmpi .slt x (BitVec.ofNat 32 k) = 1#1) :
    x.toNat < k := by
  have h := andi_sge_zero_slt_ofNat (w := 32) hk x
  rw [h0, h1] at h
  by_contra hc
  rw [decide_eq_false hc] at h
  exact absurd h (by decide)

variable {F : FTy → Type} [FloatOps F]

/-- Where the precondition holds every start word is below 16368 and every width word below 16. -/
theorem words (a0 a1 : FVec F Cert.Pre_spans_in_range.S16384x256 .f32) (a2 a3 : IVec Cert.Pre_spans_in_range.S16384 32) (a4 a5 a6 a7 a8 a9 a10 a11 a12 a13 a14 a15 a16 a17)
    (h : Cert.Pre_spans_in_range.fn (F := F) a0 a1 a2 a3 a4 a5 a6 a7 a8 a9 a10 a11 a12 a13 a14 a15 a16 a17 = fun _ => 1#1) (y : Cert.Pre_spans_in_range.S16384.Idx) :
    (a2 y).toNat < 16368 ∧ (a3 y).toNat < 16 := by
  have h' := congrFun h y
  obtain ⟨h1, h4⟩ := both h'
  obtain ⟨h2, h3⟩ := both h1
  obtain ⟨ha, hb⟩ := both h2
  exact ⟨below _ 16368 (by decide) ha hb, below _ 16 (by decide) h3 h4⟩

end Cert.PreWords

end
-- ==== Proof.KernelIdeal.Attn.lean ====
/- The first pipeline, the attention scores of blocks of rows: its body and its obligation, from any entry contents. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at grid point `t`, read from the array `V` holds for that window. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S2048x256 := Rect.unit (s := S2048x256) ![0, 0] S2048x256.size inb_S2048x256_S2048x256_0_0
abbrev r0_1 : Rect S256x150 := Rect.unit (s := S256x150) ![0, 0] S256x150.size inb_S256x150_S256x150_0_0
abbrev r0_2 : Rect S1x150 := Rect.unit (s := S1x150) ![0, 0] S1x150.size inb_S1x150_S1x150_0_0
abbrev r0_3 : Rect S150x150 := Rect.unit (s := S150x150) ![0, 0] S150x150.size inb_S150x150_S150x150_0_0
abbrev r0_4 : Rect S1x150 := Rect.unit (s := S1x150) ![0, 0] S1x150.size inb_S1x150_S1x150_0_0
abbrev r0_5 : Rect S150x1 := Rect.unit (s := S150x1) ![0, 0] S150x1.size inb_S150x1_S150x1_0_0
abbrev r0_6 : Rect S1x1 := Rect.unit (s := S1x1) ![0, 0] S1x1.size inb_S1x1_S1x1_0_0
abbrev r0_7 : Rect S2048x1 := Rect.unit (s := S2048x1) ![0, 0] S2048x1.size inb_S2048x1_S2048x1_0_0

/-- What the body leaves in the output's buffer: the value of its one store, which fills the buffer. -/
def out0 (x0 : Vec F S2048x256 .f32) (x1 : Vec F S256x150 .f32) (x2 : Vec F S1x150 .f32) (x3 : Vec F S150x150 .f32) (x4 : Vec F S1x150 .f32) (x5 : Vec F S150x1 .bf16) (x6 : Vec F S1x1 .f32) : Vec F S2048x1 .f32 :=
  View.canon [⟨r0_7, k0_pay1 (View.ld x0 r0_0) (View.ld x1 r0_1) (View.ld x2 r0_2) (View.ld x3 r0_3) (View.ld x4 r0_4) (View.ld x5 r0_5) (View.ld x6 r0_6)⟩]

/-- That store covers the buffer. -/
theorem cover0 (p0 : Vec F S2048x1 .f32) (y : S2048x1.Idx) :
    ∃ pc ∈ ([⟨r0_7, p0⟩] : List (View.Piece (Elt F) S2048x1 .f32)), y ∈ pc.1.set :=
  View.cover_of_tiled [⟨r0_7, p0⟩] S2048x1.size (by rfl) y

set_option maxHeartbeats 1000000 in
/-- The body on whole buffers, the inputs' at `x0`, `x1`, …: it leaves the inputs as they were and the output at `out0` of them. -/
theorem sound_kernel0 (c : Dev nD) (E : Set ℕ) (i : grid0.Coords) (arg1 : Memref sig .tc .vmem S2048x256 .f32) (harg1 : arg1.IsWhole) (arg2 : Memref sig .tc .vmem S256x150 .f32) (harg2 : arg2.IsWhole) (arg3 : Memref sig .tc .vmem S1x150 .f32) (harg3 : arg3.IsWhole) (arg4 : Memref sig .tc .vmem S150x150 .f32) (harg4 : arg4.IsWhole) (arg5 : Memref sig .tc .vmem S1x150 .f32) (harg5 : arg5.IsWhole) (arg6 : Memref sig .tc .vmem S150x1 .bf16) (harg6 : arg6.IsWhole) (arg7 : Memref sig .tc .vmem S1x1 .f32) (harg7 : arg7.IsWhole) (arg8 : Memref sig .tc .vmem S2048x1 .f32) (harg8 : arg8.IsWhole)
    (x0 : Vec F S2048x256 .f32) (x1 : Vec F S256x150 .f32) (x2 : Vec F S1x150 .f32) (x3 : Vec F S150x150 .f32) (x4 : Vec F S1x150 .f32) (x5 : Vec F S150x1 .bf16) (x6 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0 x0 x1 x2 x3 x4 x5 x6)) -∗ K ⟨⟩))
      ⊢ wp frame (wpE (defs₀ (F := F)) Variants.none c none) E (cc0__attns_body i arg1 harg1 arg2 harg2 arg3 harg3 arg4 harg4 arg5 harg5 arg6 harg6 arg7 harg7 arg8 harg8) K := by
  simp only [cc0__attns_body_eq_skeleton]; unfold cc0__attns_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0 _)

/-- The proof data of the pipeline on device `c`: its arrays are those found at entry, an input's buffer keeps its block,
    the output's buffer ends at what the body computes of the input blocks; nothing is owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

/-- The arrays of the proof data are the entry contents. -/
theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
/-- The output's buffer after the body. -/
theorem after0_7 (c : Dev nD) (t : Fin cfg0.N) : (dat0 V c).after 7 t = out0 (iblk0 V c 0 t) (iblk0 V c 1 t) (iblk0 V c 2 t) (iblk0 V c 3 t) (iblk0 V c 4 t) (iblk0 V c 5 t) (iblk0 V c 6 t) := by dsimp only [dat0]

-- each input's buffer holds its block when the body is called, whether it was fetched at this point or earlier
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl)
    (fun t => by rw [after0_5]; unfold Dat.blockOf iblk0; rw [A_eq0]; try rfl) t d).trans
    (by unfold Dat.fetched Dat.blockOf iblk0; rw [A_eq0]; try rfl)
theorem before0_6 (c : Dev nD) (t : Fin cfg0.N) (d) : (dat0 V c).before 6 t d = iblk0 V c 6 t :=
  ((dat0 V c).before_in_eq_fetched 6 rfl (fun _ => rfl) (fun _ _ _ => rfl)
    (fun t => by rw [after0_6]; unfold Dat.blockOf iblk0; rw [A_eq0]; try rfl) t d).trans
    (by unfold Dat.fetched Dat.blockOf iblk0; rw [A_eq0]; try rfl)

/-- What the body is called with at grid point `t`. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- What the body gives back at grid point `t`. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any grid point: the inputs hold their blocks, and what stands beside the buffers passes through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ (grid0.coords t) _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at the slots of grid point `t`. -/
theorem defs₀_row0 (t : Fin cfg0.N) :
    defs₀ (F := F) .tc cfg0.body (cfg0.bodyArgs t (cfg0.slots t)) = bodyAt0 t := by
  unfold defs₀; rw [Defs.onTc_tc]

/-- The pipeline's body obligation. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Run

end
-- ==== Proof.KernelIdeal.Ment.lean ====
/- The third pipeline, the last two layers of the mention scores: its body and its obligation, from any entry contents. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at grid point `t`, read from the array `V` holds for that window. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S2048x150 := Rect.unit (s := S2048x150) ![0, 0] S2048x150.size inb_S2048x150_S2048x150_0_0
abbrev r2_1 : Rect S1x150 := Rect.unit (s := S1x150) ![0, 0] S1x150.size inb_S1x150_S1x150_0_0
abbrev r2_2 : Rect S150x150 := Rect.unit (s := S150x150) ![0, 0] S150x150.size inb_S150x150_S150x150_0_0
abbrev r2_3 : Rect S1x150 := Rect.unit (s := S1x150) ![0, 0] S1x150.size inb_S1x150_S1x150_0_0
abbrev r2_4 : Rect S150x1 := Rect.unit (s := S150x1) ![0, 0] S150x1.size inb_S150x1_S150x1_0_0
abbrev r2_5 : Rect S1x1 := Rect.unit (s := S1x1) ![0, 0] S1x1.size inb_S1x1_S1x1_0_0
abbrev r2_6 : Rect S2048x1 := Rect.unit (s := S2048x1) ![0, 0] S2048x1.size inb_S2048x1_S2048x1_0_0

/-- What the body leaves in the output's buffer: the value of its one store, which fills the buffer. -/
def out2 (x0 : Vec F S2048x150 .f32) (x1 : Vec F S1x150 .f32) (x2 : Vec F S150x150 .f32) (x3 : Vec F S1x150 .f32) (x4 : Vec F S150x1 .bf16) (x5 : Vec F S1x1 .f32) : Vec F S2048x1 .f32 :=
  View.canon [⟨r2_6, k2_pay1 (View.ld x0 r2_0) (View.ld x1 r2_1) (View.ld x2 r2_2) (View.ld x3 r2_3) (View.ld x4 r2_4) (View.ld x5 r2_5)⟩]

/-- That store covers the buffer. -/
theorem cover2 (p0 : Vec F S2048x1 .f32) (y : S2048x1.Idx) :
    ∃ pc ∈ ([⟨r2_6, p0⟩] : List (View.Piece (Elt F) S2048x1 .f32)), y ∈ pc.1.set :=
  View.cover_of_tiled [⟨r2_6, p0⟩] S2048x1.size (by rfl) y

set_option maxHeartbeats 1000000 in
/-- The body on whole buffers, the inputs' at `x0`, `x1`, …: it leaves the inputs as they were and the output at `out2` of them. -/
theorem sound_kernel2 (c : Dev nD) (E : Set ℕ) (i : grid2.Coords) (arg1 : Memref sig .tc .vmem S2048x150 .f32) (harg1 : arg1.IsWhole) (arg2 : Memref sig .tc .vmem S1x150 .f32) (harg2 : arg2.IsWhole) (arg3 : Memref sig .tc .vmem S150x150 .f32) (harg3 : arg3.IsWhole) (arg4 : Memref sig .tc .vmem S1x150 .f32) (harg4 : arg4.IsWhole) (arg5 : Memref sig .tc .vmem S150x1 .bf16) (harg5 : arg5.IsWhole) (arg6 : Memref sig .tc .vmem S1x1 .f32) (harg6 : arg6.IsWhole) (arg7 : Memref sig .tc .vmem S2048x1 .f32) (harg7 : arg7.IsWhole)
    (x0 : Vec F S2048x150 .f32) (x1 : Vec F S1x150 .f32) (x2 : Vec F S150x150 .f32) (x3 : Vec F S1x150 .f32) (x4 : Vec F S150x1 .bf16) (x5 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2 x0 x1 x2 x3 x4 x5)) -∗ K ⟨⟩))
      ⊢ wp frame (wpE (defs₀ (F := F)) Variants.none c none) E (cc2__ment23_body i arg1 harg1 arg2 harg2 arg3 harg3 arg4 harg4 arg5 harg5 arg6 harg6 arg7 harg7) K := by
  simp only [cc2__ment23_body_eq_skeleton]; unfold cc2__ment23_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2 _)

/-- The proof data of the pipeline on device `c`: its arrays are those found at entry, an input's buffer keeps its block,
    the output's buffer ends at what the body computes of the input blocks; nothing is owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2 (iblk2 V c 0 t) (iblk2 V c 1 t) (iblk2 V c 2 t) (iblk2 V c 3 t) (iblk2 V c 4 t) (iblk2 V c 5 t)
  Φ _ := Pipeline.ΦA spec2 c
  q _ := fullShare
  owed _ := 0

/-- The arrays of the proof data are the entry contents. -/
theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
/-- The output's buffer after the body. -/
theorem after2_6 (c : Dev nD) (t : Fin cfg2.N) : (dat2 V c).after 6 t = out2 (iblk2 V c 0 t) (iblk2 V c 1 t) (iblk2 V c 2 t) (iblk2 V c 3 t) (iblk2 V c 4 t) (iblk2 V c 5 t) := by dsimp only [dat2]

-- each input's buffer holds its block when the body is called, whether it was fetched at this point or earlier
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl)
    (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl)
    (fun t => by rw [after2_4]; unfold Dat.blockOf iblk2; rw [A_eq2]; try rfl) t d).trans
    (by unfold Dat.fetched Dat.blockOf iblk2; rw [A_eq2]; try rfl)
theorem before2_5 (c : Dev nD) (t : Fin cfg2.N) (d) : (dat2 V c).before 5 t d = iblk2 V c 5 t :=
  ((dat2 V c).before_in_eq_fetched 5 rfl (fun _ => rfl) (fun _ _ _ => rfl)
    (fun t => by rw [after2_5]; unfold Dat.blockOf iblk2; rw [A_eq2]; try rfl) t d).trans
    (by unfold Dat.fetched Dat.blockOf iblk2; rw [A_eq2]; try rfl)

/-- What the body is called with at grid point `t`. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- What the body gives back at grid point `t`. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any grid point: the inputs hold their blocks, and what stands beside the buffers passes through. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ (grid2.coords t) _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at the slots of grid point `t`. -/
theorem defs₀_row2 (t : Fin cfg2.N) :
    defs₀ (F := F) .tc cfg2.body (cfg2.bodyArgs t (cfg2.slots t)) = bodyAt2 t := by
  unfold defs₀; rw [Defs.onTc_tc]

/-- The pipeline's body obligation. -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Cert.KernelIdeal.Run

end
-- ==== Proof.KernelIdeal.Words.lean ====
/- Words of the span kernel: what the aligned row number is, and that every access it addresses is in bounds. -/
module

public import proofs.«01_k».proof.Proof.Gen.KernelIdeal.Skeleton

@[expose] public section

set_option maxRecDepth 16384

noncomputable section

namespace Cert.KernelIdeal.Run

open Cert.KernelIdeal Cert.KernelIdeal.Gen
open Idealize.ShloMosaic

/-- The row number that a load starts at for a row `n` below 16384: `n` rounded down to a multiple of 8, at most 16352. -/
theorem aligned_ofNat : ∀ a b : Fin 128, k1_mult2 (BitVec.ofNat 32 (128 * a.val + b.val)) = BitVec.ofNat 32 (min ((128 * a.val + b.val) / 8 * 8) 16352) := by
  decide +kernel

/-- The same of a word. -/
theorem aligned_toNat (s : BitVec 32) (h : s.toNat < 16384) : (k1_mult2 s).toNat = min (s.toNat / 8 * 8) 16352 := by
  have e := aligned_ofNat ⟨s.toNat / 128, by omega⟩ ⟨s.toNat % 128, by omega⟩
  have e' : 128 * (s.toNat / 128) + s.toNat % 128 = s.toNat := by omega
  simp only [e'] at e
  rw [BitVec.ofNat_toNat, BitVec.setWidth_eq] at e
  rw [e, BitVec.toNat_ofNat]
  omega

/-- The end row's word is the sum of the start word and the width word. -/
theorem end_word (s w : BitVec 32) : Scalar.subi (Scalar.addi s (Scalar.addi w 1#32)) 1#32 = s + w := by
  show s + (w + 1#32) - 1#32 = s + w
  rw [← BitVec.add_assoc, BitVec.add_sub_cancel]

theorem aligned_dvd (s : BitVec 32) (h : s.toNat < 16384) : 8 ∣ (k1_mult2 s).toNat := by
  rw [aligned_toNat s h]; omega

theorem aligned_le (s : BitVec 32) (h : s.toNat < 16384) : (k1_mult2 s).toNat + 32 ≤ 16384 := by
  rw [aligned_toNat s h]; omega

/-- A start word in range meets the side conditions of the three loads it addresses. -/
theorem start_ok (s : BitVec 32) (h : s.toNat < 16384) : k1_chk1 s := by
  refine ⟨aligned_dvd s h, ?_, aligned_dvd s h, ?_, aligned_dvd s h⟩
  · intro a; match a with
    | ⟨0, _⟩ => exact aligned_le s h
    | ⟨1, _⟩ => exact Nat.le_refl 1
  · intro a; match a with
    | ⟨0, _⟩ => exact aligned_le s h
    | ⟨1, _⟩ => exact Nat.le_refl 256

/-- A start word and a width word whose sum is in range meet the side conditions of the load of the end row. -/
theorem end_ok (s w : BitVec 32) (h : s.toNat + w.toNat < 16384) : k1_chk2 s w := by
  have h' : (Scalar.subi (Scalar.addi s (Scalar.addi w 1#32)) 1#32).toNat < 16384 := by
    rw [end_word, BitVec.toNat_add]; omega
  refine ⟨aligned_dvd _ h', ?_⟩
  intro a; match a with
  | ⟨0, _⟩ => exact aligned_le _ h'
  | ⟨1, _⟩ => exact Nat.le_refl 256

end Cert.KernelIdeal.Run

end
-- ==== Proof.KernelIdeal.SpanRun.lean ====
/- The second pipeline, the span embeddings: its body and its obligation, from any entry contents whose span words are in range. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.WholeRead
public import proofs.«01_k».proof.Proof.Gen.KernelIdeal.Loops
public import proofs.«01_k».proof.Proof.KernelIdeal.Words
@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The span words of a block are in range: starts below 16368, widths below 16. -/
def SpanOK (x0 x1 : Vec F S1x1x512 .i32) : Prop :=
  (∀ y, BitVec.toNat (w := 32) (x0 y) < 16368) ∧ ∀ y, BitVec.toNat (w := 32) (x1 y) < 16

/-- A start word read out of a block in range is a row number. -/
theorem start_lt {x0 x1 : Vec F S1x1x512 .i32} {M : Memref sig .tc .smem S1x1x512 .i32} (h : M.IsWhole) (hS : SpanOK x0 x1)
    {B : LoadRect S1x1x512} (y : B.shape.Idx) : BitVec.toNat (w := 32) (M.view.readAt (Elt F) B (h.unread x0) y) < 16384 := by
  rw [h.readAt_unread]; have h1 := hS.1 (B.idx y); omega

/-- The last row of a span read out of blocks in range is a row number. -/
theorem sum_lt {x0 x1 : Vec F S1x1x512 .i32} {M M' : Memref sig .tc .smem S1x1x512 .i32} (h : M.IsWhole) (h' : M'.IsWhole)
    (hS : SpanOK x0 x1) {B B' : LoadRect S1x1x512} (y : B.shape.Idx) (y' : B'.shape.Idx) :
    BitVec.toNat (w := 32) (M.view.readAt (Elt F) B (h.unread x0) y) + BitVec.toNat (w := 32) (M'.view.readAt (Elt F) B' (h'.unread x1) y') < 16384 := by
  rw [h.readAt_unread, h'.readAt_unread]; have h1 := hS.1 (B.idx y); have h2 := hS.2 (B'.idx y'); omega

set_option maxHeartbeats 1000000 in
/-- The stores the body makes on whole buffers whose words meet the side conditions of the loads, with the statement that it runs, leaves the inputs
    as they were and makes these stores. -/
noncomputable def spanRunOf (c : Dev nD) (i : grid1.Coords) (arg1 : Memref sig .tc .smem S1x1x512 .i32) (harg1 : arg1.IsWhole) (arg2 : Memref sig .tc .smem S1x1x512 .i32) (harg2 : arg2.IsWhole) (arg3 : Memref sig .tc .vmem S16384x256 .f32) (harg3 : arg3.IsWhole) (arg4 : Memref sig .tc .vmem S16384x256 .f32) (harg4 : arg4.IsWhole) (arg5 : Memref sig .tc .vmem S16384x1 .f32) (harg5 : arg5.IsWhole) (arg6 : Memref sig .tc .vmem S16x20 .f32) (harg6 : arg6.IsWhole) (arg7 : Memref sig .tc .vmem S512x788 .f32) (harg7 : arg7.IsWhole)
    (x0 : Vec F S1x1x512 .i32) (x1 : Vec F S1x1x512 .i32) (x2 : Vec F S16384x256 .f32) (x3 : Vec F S16384x256 .f32) (x4 : Vec F S16384x1 .f32) (x5 : Vec F S16x20 .f32)
    (k1_hw1L : ∀ (kq : ℕ) (hkq : kq < k1_t1_loop.trips), k1_chk1 (arg1.view.readAt (Elt F) (Rect.unit (s := S1x1x512) (k1_off1 ⟨kq, hkq⟩) S1x1x1.size (k1_off1_inb ⟨kq, hkq⟩)).toLoadRect (harg1.unread x0) (Shape.Idx.first (numel1_S1x1x1.symm ▸ Nat.one_pos))))
    (k1_hw2L : ∀ (kq : ℕ) (hkq : kq < k1_t1_loop.trips), k1_chk2 (arg1.view.readAt (Elt F) (Rect.unit (s := S1x1x512) (k1_off1 ⟨kq, hkq⟩) S1x1x1.size (k1_off1_inb ⟨kq, hkq⟩)).toLoadRect (harg1.unread x0) (Shape.Idx.first (numel1_S1x1x1.symm ▸ Nat.one_pos))) (arg2.view.readAt (Elt F) (Rect.unit (s := S1x1x512) (k1_off1 ⟨kq, hkq⟩) S1x1x1.size (k1_off1_inb ⟨kq, hkq⟩)).toLoadRect (harg2.unread x1) (Shape.Idx.first (numel1_S1x1x1.symm ▸ Nat.one_pos))))
    (k1_hw3L : ∀ (kq : ℕ) (hkq : kq < k1_t1_loop.trips), k1_chk3 (arg1.view.readAt (Elt F) (Rect.unit (s := S1x1x512) (k1_off5 ⟨kq, hkq⟩) S1x1x1.size (k1_off5_inb ⟨kq, hkq⟩)).toLoadRect (harg1.unread x0) (Shape.Idx.first (numel1_S1x1x1.symm ▸ Nat.one_pos))))
    (k1_hw4L : ∀ (kq : ℕ) (hkq : kq < k1_t1_loop.trips), k1_chk4 (arg1.view.readAt (Elt F) (Rect.unit (s := S1x1x512) (k1_off5 ⟨kq, hkq⟩) S1x1x1.size (k1_off5_inb ⟨kq, hkq⟩)).toLoadRect (harg1.unread x0) (Shape.Idx.first (numel1_S1x1x1.symm ▸ Nat.one_pos))) (arg2.view.readAt (Elt F) (Rect.unit (s := S1x1x512) (k1_off5 ⟨kq, hkq⟩) S1x1x1.size (k1_off5_inb ⟨kq, hkq⟩)).toLoadRect (harg2.unread x1) (Shape.Idx.first (numel1_S1x1x1.symm ▸ Nat.one_pos))))
    (k1_hw5L : ∀ (kq : ℕ) (hkq : kq < k1_t1_loop.trips), k1_chk5 (arg1.view.readAt (Elt F) (Rect.unit (s := S1x1x512) (k1_off9 ⟨kq, hkq⟩) S1x1x1.size (k1_off9_inb ⟨kq, hkq⟩)).toLoadRect (harg1.unread x0) (Shape.Idx.first (numel1_S1x1x1.symm ▸ Nat.one_pos))))
    (k1_hw6L : ∀ (kq : ℕ) (hkq : kq < k1_t1_loop.trips), k1_chk6 (arg1.view.readAt (Elt F) (Rect.unit (s := S1x1x512) (k1_off9 ⟨kq, hkq⟩) S1x1x1.size (k1_off9_inb ⟨kq, hkq⟩)).toLoadRect (harg1.unread x0) (Shape.Idx.first (numel1_S1x1x1.symm ▸ Nat.one_pos))) (arg2.view.readAt (Elt F) (Rect.unit (s := S1x1x512) (k1_off9 ⟨kq, hkq⟩) S1x1x1.size (k1_off9_inb ⟨kq, hkq⟩)).toLoadRect (harg2.unread x1) (Shape.Idx.first (numel1_S1x1x1.symm ▸ Nat.one_pos))))
    (k1_hw7L : ∀ (kq : ℕ) (hkq : kq < k1_t1_loop.trips), k1_chk7 (arg1.view.readAt (Elt F) (Rect.unit (s := S1x1x512) (k1_off13 ⟨kq, hkq⟩) S1x1x1.size (k1_off13_inb ⟨kq, hkq⟩)).toLoadRect (harg1.unread x0) (Shape.Idx.first (numel1_S1x1x1.symm ▸ Nat.one_pos))))
    (k1_hw8L : ∀ (kq : ℕ) (hkq : kq < k1_t1_loop.trips), k1_chk8 (arg1.view.readAt (Elt F) (Rect.unit (s := S1x1x512) (k1_off13 ⟨kq, hkq⟩) S1x1x1.size (k1_off13_inb ⟨kq, hkq⟩)).toLoadRect (harg1.unread x0) (Shape.Idx.first (numel1_S1x1x1.symm ▸ Nat.one_pos))) (arg2.view.readAt (Elt F) (Rect.unit (s := S1x1x512) (k1_off13 ⟨kq, hkq⟩) S1x1x1.size (k1_off13_inb ⟨kq, hkq⟩)).toLoadRect (harg2.unread x1) (Shape.Idx.first (numel1_S1x1x1.symm ▸ Nat.one_pos))))
    (k1_hw9L : ∀ (kq : ℕ) (hkq : kq < k1_t1_loop.trips), k1_chk9 (arg1.view.readAt (Elt F) (Rect.unit (s := S1x1x512) (k1_off17 ⟨kq, hkq⟩) S1x1x1.size (k1_off17_inb ⟨kq, hkq⟩)).toLoadRect (harg1.unread x0) (Shape.Idx.first (numel1_S1x1x1.symm ▸ Nat.one_pos))))
    (k1_hw10L : ∀ (kq : ℕ) (hkq : kq < k1_t1_loop.trips), k1_chk10 (arg1.view.readAt (Elt F) (Rect.unit (s := S1x1x512) (k1_off17 ⟨kq, hkq⟩) S1x1x1.size (k1_off17_inb ⟨kq, hkq⟩)).toLoadRect (harg1.unread x0) (Shape.Idx.first (numel1_S1x1x1.symm ▸ Nat.one_pos))) (arg2.view.readAt (Elt F) (Rect.unit (s := S1x1x512) (k1_off17 ⟨kq, hkq⟩) S1x1x1.size (k1_off17_inb ⟨kq, hkq⟩)).toLoadRect (harg2.unread x1) (Shape.Idx.first (numel1_S1x1x1.symm ▸ Nat.one_pos))))
    (k1_hw11L : ∀ (kq : ℕ) (hkq : kq < k1_t1_loop.trips), k1_chk11 (arg1.view.readAt (Elt F) (Rect.unit (s := S1x1x512) (k1_off21 ⟨kq, hkq⟩) S1x1x1.size (k1_off21_inb ⟨kq, hkq⟩)).toLoadRect (harg1.unread x0) (Shape.Idx.first (numel1_S1x1x1.symm ▸ Nat.one_pos))))
    (k1_hw12L : ∀ (kq : ℕ) (hkq : kq < k1_t1_loop.trips), k1_chk12 (arg1.view.readAt (Elt F) (Rect.unit (s := S1x1x512) (k1_off21 ⟨kq, hkq⟩) S1x1x1.size (k1_off21_inb ⟨kq, hkq⟩)).toLoadRect (harg1.unread x0) (Shape.Idx.first (numel1_S1x1x1.symm ▸ Nat.one_pos))) (arg2.view.readAt (Elt F) (Rect.unit (s := S1x1x512) (k1_off21 ⟨kq, hkq⟩) S1x1x1.size (k1_off21_inb ⟨kq, hkq⟩)).toLoadRect (harg2.unread x1) (Shape.Idx.first (numel1_S1x1x1.symm ▸ Nat.one_pos))))
    (k1_hw13L : ∀ (kq : ℕ) (hkq : kq < k1_t1_loop.trips), k1_chk13 (arg1.view.readAt (Elt F) (Rect.unit (s := S1x1x512) (k1_off25 ⟨kq, hkq⟩) S1x1x1.size (k1_off25_inb ⟨kq, hkq⟩)).toLoadRect (harg1.unread x0) (Shape.Idx.first (numel1_S1x1x1.symm ▸ Nat.one_pos))))
    (k1_hw14L : ∀ (kq : ℕ) (hkq : kq < k1_t1_loop.trips), k1_chk14 (arg1.view.readAt (Elt F) (Rect.unit (s := S1x1x512) (k1_off25 ⟨kq, hkq⟩) S1x1x1.size (k1_off25_inb ⟨kq, hkq⟩)).toLoadRect (harg1.unread x0) (Shape.Idx.first (numel1_S1x1x1.symm ▸ Nat.one_pos))) (arg2.view.readAt (Elt F) (Rect.unit (s := S1x1x512) (k1_off25 ⟨kq, hkq⟩) S1x1x1.size (k1_off25_inb ⟨kq, hkq⟩)).toLoadRect (harg2.unread x1) (Shape.Idx.first (numel1_S1x1x1.symm ▸ Nat.one_pos))))
    (k1_hw15L : ∀ (kq : ℕ) (hkq : kq < k1_t1_loop.trips), k1_chk15 (arg1.view.readAt (Elt F) (Rect.unit (s := S1x1x512) (k1_off29 ⟨kq, hkq⟩) S1x1x1.size (k1_off29_inb ⟨kq, hkq⟩)).toLoadRect (harg1.unread x0) (Shape.Idx.first (numel1_S1x1x1.symm ▸ Nat.one_pos))))
    (k1_hw16L : ∀ (kq : ℕ) (hkq : kq < k1_t1_loop.trips), k1_chk16 (arg1.view.readAt (Elt F) (Rect.unit (s := S1x1x512) (k1_off29 ⟨kq, hkq⟩) S1x1x1.size (k1_off29_inb ⟨kq, hkq⟩)).toLoadRect (harg1.unread x0) (Shape.Idx.first (numel1_S1x1x1.symm ▸ Nat.one_pos))) (arg2.view.readAt (Elt F) (Rect.unit (s := S1x1x512) (k1_off29 ⟨kq, hkq⟩) S1x1x1.size (k1_off29_inb ⟨kq, hkq⟩)).toLoadRect (harg2.unread x1) (Shape.Idx.first (numel1_S1x1x1.symm ▸ Nat.one_pos)))) :
    { L6 : List (View.Piece (Elt F) S512x788 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6)) -∗ K ⟨⟩))
          ⊢ wp frame (wpE (defs₀ (F := F)) Variants.none c none) E (cc1__span_body i arg1 harg1 arg2 harg2 arg3 harg3 arg4 harg4 arg5 harg5 arg6 harg6 arg7 harg7) K } := by
  refine ⟨?_, fun E K => ?run⟩
  case run =>
    simp only [cc1__span_body_eq_skeleton]; unfold cc1__span_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact H6

/-- The same on whole buffers whose words are in range. -/
noncomputable abbrev spanRun (c : Dev nD) (i : grid1.Coords) (arg1 : Memref sig .tc .smem S1x1x512 .i32) (harg1 : arg1.IsWhole) (arg2 : Memref sig .tc .smem S1x1x512 .i32) (harg2 : arg2.IsWhole) (arg3 : Memref sig .tc .vmem S16384x256 .f32) (harg3 : arg3.IsWhole) (arg4 : Memref sig .tc .vmem S16384x256 .f32) (harg4 : arg4.IsWhole) (arg5 : Memref sig .tc .vmem S16384x1 .f32) (harg5 : arg5.IsWhole) (arg6 : Memref sig .tc .vmem S16x20 .f32) (harg6 : arg6.IsWhole) (arg7 : Memref sig .tc .vmem S512x788 .f32) (harg7 : arg7.IsWhole)
    (x0 : Vec F S1x1x512 .i32) (x1 : Vec F S1x1x512 .i32) (x2 : Vec F S16384x256 .f32) (x3 : Vec F S16384x256 .f32) (x4 : Vec F S16384x1 .f32) (x5 : Vec F S16x20 .f32) (hS : SpanOK x0 x1) :=
  spanRunOf (F := F) c i arg1 harg1 arg2 harg2 arg3 harg3 arg4 harg4 arg5 harg5 arg6 harg6 arg7 harg7 x0 x1 x2 x3 x4 x5
    (fun _ _ => start_ok _ (start_lt harg1 hS _)) (fun _ _ => end_ok _ _ (sum_lt harg1 harg2 hS _ _))
    (fun _ _ => start_ok _ (start_lt harg1 hS _)) (fun _ _ => end_ok _ _ (sum_lt harg1 harg2 hS _ _))
    (fun _ _ => start_ok _ (start_lt harg1 hS _)) (fun _ _ => end_ok _ _ (sum_lt harg1 harg2 hS _ _))
    (fun _ _ => start_ok _ (start_lt harg1 hS _)) (fun _ _ => end_ok _ _ (sum_lt harg1 harg2 hS _ _))
    (fun _ _ => start_ok _ (start_lt harg1 hS _)) (fun _ _ => end_ok _ _ (sum_lt harg1 harg2 hS _ _))
    (fun _ _ => start_ok _ (start_lt harg1 hS _)) (fun _ _ => end_ok _ _ (sum_lt harg1 harg2 hS _ _))
    (fun _ _ => start_ok _ (start_lt harg1 hS _)) (fun _ _ => end_ok _ _ (sum_lt harg1 harg2 hS _ _))
    (fun _ _ => start_ok _ (start_lt harg1 hS _)) (fun _ _ => end_ok _ _ (sum_lt harg1 harg2 hS _ _))

end Cert.KernelIdeal.Run

end
-- ==== Proof.KernelIdeal.Span.lean ====
/- The second pipeline, the span embeddings: its proof data and its obligation, from any entry contents whose span words are in range. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.KernelIdeal.SpanRun
@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at grid point `t`, read from the array `V` holds for that window. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The stores of one grid point cover the output's buffer: 64 stores of 8 rows each. -/
theorem span_cover (c : Dev nD) (i : grid1.Coords) (arg1 : Memref sig .tc .smem S1x1x512 .i32) (harg1 : arg1.IsWhole) (arg2 : Memref sig .tc .smem S1x1x512 .i32) (harg2 : arg2.IsWhole) (arg3 : Memref sig .tc .vmem S16384x256 .f32) (harg3 : arg3.IsWhole) (arg4 : Memref sig .tc .vmem S16384x256 .f32) (harg4 : arg4.IsWhole) (arg5 : Memref sig .tc .vmem S16384x1 .f32) (harg5 : arg5.IsWhole) (arg6 : Memref sig .tc .vmem S16x20 .f32) (harg6 : arg6.IsWhole) (arg7 : Memref sig .tc .vmem S512x788 .f32) (harg7 : arg7.IsWhole)
    (x0 : Vec F S1x1x512 .i32) (x1 : Vec F S1x1x512 .i32) (x2 : Vec F S16384x256 .f32) (x3 : Vec F S16384x256 .f32) (x4 : Vec F S16384x1 .f32) (x5 : Vec F S16x20 .f32) (hS : SpanOK x0 x1) (y : S512x788.Idx) :
    ∃ pc ∈ (spanRun c i arg1 harg1 arg2 harg2 arg3 harg3 arg4 harg4 arg5 harg5 arg6 harg6 arg7 harg7 x0 x1 x2 x3 x4 x5 hS).1, y ∈ pc.1.set :=
  View.cover_of_tiledL (spanRun c i arg1 harg1 arg2 harg2 arg3 harg3 arg4 harg4 arg5 harg5 arg6 harg6 arg7 harg7 x0 x1 x2 x3 x4 x5 hS).1 S8x788.size (by sl_kernel_rfl) y

/-- One buffer of the output's shape, through which stores are read back. -/
abbrev VO : View sig .tc .vmem S512x788 .f32 := (Memref.whole cc1_stg6_0 : Memref sig .tc .vmem S512x788 .f32).view

open Classical in
/-- What the body leaves in the output's buffer at grid point `t`, for input blocks whose words are in range. -/
def out1 (c : Dev nD) (t : Fin cfg1.N) (x0 : Vec F S1x1x512 .i32) (x1 : Vec F S1x1x512 .i32) (x2 : Vec F S16384x256 .f32) (x3 : Vec F S16384x256 .f32) (x4 : Vec F S16384x1 .f32) (x5 : Vec F S16x20 .f32) : Vec F S512x788 .f32 :=
  if hS : SpanOK x0 x1 then
    VO.read (Elt F) (VO.writes (Elt F) VO.junk (spanRun c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) x0 x1 x2 x3 x4 x5 hS).1)
  else VO.read (Elt F) VO.junk

/-- The proof data of the pipeline on device `c`: its arrays are those found at entry, an input's buffer keeps its block,
    the output's buffer ends at what the body computes of the input blocks; nothing is owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1 c t (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The arrays of the proof data are the entry contents. -/
theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
/-- The output's buffer after the body. -/
theorem after1_6 (c : Dev nD) (t : Fin cfg1.N) : (dat1 V c).after 6 t = out1 c t (iblk1 V c 0 t) (iblk1 V c 1 t) (iblk1 V c 2 t) (iblk1 V c 3 t) (iblk1 V c 4 t) (iblk1 V c 5 t) := by dsimp only [dat1]

-- each input's buffer holds its block when the body is called, whether it was fetched at this point or earlier
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)

/-- What the body is called with at grid point `t`. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- What the body gives back at grid point `t`. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any grid point whose words are in range: the inputs hold their blocks, and what stands beside the buffers passes through. -/
theorem sound_body1 (hV : ∀ c t, SpanOK (iblk1 V c 0 t) (iblk1 V c 1 t)) (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  unfold out1
  rw [dif_pos (hV c t)]
  iintro ⟨HΦ, Ho, ⟨%d0, H0⟩, ⟨%d1, H1⟩, ⟨%d2, H2⟩, ⟨%d3, H3⟩, ⟨%d4, H4⟩, ⟨%d5, H5⟩, ⟨%d6, H6⟩⟩
  iapply ((spanRun c (grid1.coords t) _ _ _ _ _ _ _ _ _ _ _ _ _ _ (iblk1 V c 0 t) (iblk1 V c 1 t) (iblk1 V c 2 t) (iblk1 V c 3 t) (iblk1 V c 4 t) (iblk1 V c 5 t) (hV c t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, ⟨%e6, H6⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro; exact View.read_writes_of_cover _ _ _ _ _ (span_cover c _ _ _ _ _ _ _ _ _ _ _ _ _ _ _ _ _ _ _ _ _ (hV c t))

/-- The body table's row at the slots of grid point `t`. -/
theorem defs₀_row1 (t : Fin cfg1.N) :
    defs₀ (F := F) .tc cfg1.body (cfg1.bodyArgs t (cfg1.slots t)) = bodyAt1 t := by
  unfold defs₀; rw [Defs.onTc_tc]

/-- The pipeline's body obligation. -/
theorem body_obligation1 (hV : ∀ c t, SpanOK (iblk1 V c 0 t) (iblk1 V c 1 t)) (c : Dev nD) : BodyObligation (dat1 (F := F) V c) (defs₀ (F := F)) Variants.none () Set.univ := fun t => by
  rw [bigSep_W1, bigSep_W1, defs₀_row1]
  exact triple_restated (sound_body1 V hV c t) rfl .rfl fun _ => .rfl

end Cert.KernelIdeal.Run

end
-- ==== Proof.KernelIdeal.Contents.lean ====
/- The buffer contents between the items of the program: after each host stretch and after each pipeline. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.Gen.KernelIdeal.Regions
public import proofs.«01_k».proof.Proof.KernelIdeal.Attn
public import proofs.«01_k».proof.Proof.KernelIdeal.Ment
public import proofs.«01_k».proof.Proof.KernelIdeal.Span
@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The program's argument arrays. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17]

/-- The contents at launch. -/
abbrev U0 : Dev nD → Valuation τ sig (Elt F) := fun c b => m (c, b)
theorem U0_args (c : Dev nD) : ∀ a ∈ argRefs, U0 m c (Proc.devRef .tc a) = m ((c : Thread nD τ).loc a) := fun _ _ => rfl

/-- The contents after the host stretch number 0. -/
abbrev U1 : Dev nD → Valuation τ sig (Elt F) := fun c => StableHlo.after hostOps0 (U0 m c)
/-- A buffer which that stretch does not write keeps its contents. -/
theorem U1_of (c : Dev nD) (r : Ref sig .tc) (h : r ∉ hostOps0_W) : U1 m c (Proc.devRef .tc r) = U0 m c (Proc.devRef .tc r) :=
  StableHlo.after_of_writes_sub hostOps0 _ hostOps0_writes h
theorem U1_args (c : Dev nD) : ∀ a ∈ argRefs, U1 m c (Proc.devRef .tc a) = m ((c : Thread nD τ).loc a) :=
  fun a ha => (U1_of m c a ((ListAll.forall_mem_of_all_decide (by decide +kernel) : ∀ a ∈ argRefs, a ∉ hostOps0_W) a ha)).trans (U0_args m c a ha)

/-- The contents a region is entered with, by reference. -/
abbrev T1 : (c : Dev nD) → (b : Ref sig .tc) → Buf (Elt F) ((c : Thread nD τ).loc b) := fun c b => U1 m c b
/-- The contents after pipeline 0: its arrays at what its write-backs leave, every other buffer as before. -/
def U2 (c : Dev nD) : Valuation τ sig (Elt F) :=
  Pipeline.withArrays spec0 c (U1 m c) fun w => (dat0 (T1 m) c).arrAt w cfg0.N
theorem U2_arr (c : Dev nD) (w : Fin cfg0.W) :
    U2 m c (Proc.devRef .tc (Pipeline.arrRef spec0 w)) = (dat0 (T1 m) c).arrAt w cfg0.N := by
  unfold U2; exact Pipeline.withArrays_arr spec0 launch0.win.arr_inj c _ _ w
theorem U2_of_ne (c : Dev nD) (b : Ref sig .tc) (hb : ∀ w, Pipeline.arrRef spec0 w ≠ b) :
    U2 m c (Proc.devRef .tc b) = U1 m c (Proc.devRef .tc b) := by
  unfold U2; exact Pipeline.withArrays_of_ne spec0 c _ _ b hb
/-- A buffer that is not the output array of pipeline 0 keeps its contents. -/
theorem U2_of (c : Dev nD) (r : Ref sig .tc) (h : ∀ w : Fin cfg0.W, Pipeline.arrRef spec0 w = r → (cfg0.win w).isOut = false) :
    U2 m c (Proc.devRef .tc r) = U1 m c (Proc.devRef .tc r) := by
  by_cases hw : ∃ w : Fin cfg0.W, Pipeline.arrRef spec0 w = r
  · obtain ⟨w, rfl⟩ := hw
    exact (U2_arr m c w).trans (((dat0 (T1 m) c).arrAt_in w (h w rfl) _).trans (A_eq0 (T1 m) c w))
  · exact U2_of_ne m c r fun w e => hw ⟨w, e⟩
theorem U2_args (c : Dev nD) : ∀ a ∈ argRefs, U2 m c (Proc.devRef .tc a) = m ((c : Thread nD τ).loc a) :=
  fun a ha => (U2_of m c a ((ListAll.forall_mem_of_all_decide (by decide +kernel) :
    ∀ a ∈ argRefs, ∀ w : Fin cfg0.W, Pipeline.arrRef spec0 w = a → (cfg0.win w).isOut = false) a ha)).trans (U1_args m c a ha)
abbrev T2 : (c : Dev nD) → (b : Ref sig .tc) → Buf (Elt F) ((c : Thread nD τ).loc b) := fun c b => U2 m c b
theorem hF0 (c : Dev nD) (w : Fin cfg0.W) : (dat0 (T1 m) c).arrAt w cfg0.N = T2 m c (Pipeline.arrRef spec0 w) :=
  (U2_arr m c w).symm
theorem hrest0 (c : Dev nD) : ∀ b, b ∉ Finset.univ.image (Pipeline.arrRef spec0) → T2 m c b = T1 m c b :=
  fun b hb => U2_of_ne m c b fun w e => hb (Finset.mem_image.mpr ⟨w, Finset.mem_univ _, e⟩)

/-- The contents after the host stretch number 1. -/
abbrev U3 : Dev nD → Valuation τ sig (Elt F) := fun c => StableHlo.after hostOps1 (U2 m c)
/-- A buffer which that stretch does not write keeps its contents. -/
theorem U3_of (c : Dev nD) (r : Ref sig .tc) (h : r ∉ hostOps1_W) : U3 m c (Proc.devRef .tc r) = U2 m c (Proc.devRef .tc r) :=
  StableHlo.after_of_writes_sub hostOps1 _ hostOps1_writes h
theorem U3_args (c : Dev nD) : ∀ a ∈ argRefs, U3 m c (Proc.devRef .tc a) = m ((c : Thread nD τ).loc a) :=
  fun a ha => (U3_of m c a ((ListAll.forall_mem_of_all_decide (by decide +kernel) : ∀ a ∈ argRefs, a ∉ hostOps1_W) a ha)).trans (U2_args m c a ha)

/-- The contents after the host stretch number 1.1. -/
abbrev U4 : Dev nD → Valuation τ sig (Elt F) := fun c => StableHlo.after hostOps1_1 (U3 m c)
/-- A buffer which that stretch does not write keeps its contents. -/
theorem U4_of (c : Dev nD) (r : Ref sig .tc) (h : r ∉ hostOps1_1_W) : U4 m c (Proc.devRef .tc r) = U3 m c (Proc.devRef .tc r) :=
  StableHlo.after_of_writes_sub hostOps1_1 _ hostOps1_1_writes h
theorem U4_args (c : Dev nD) : ∀ a ∈ argRefs, U4 m c (Proc.devRef .tc a) = m ((c : Thread nD τ).loc a) :=
  fun a ha => (U4_of m c a ((ListAll.forall_mem_of_all_decide (by decide +kernel) : ∀ a ∈ argRefs, a ∉ hostOps1_1_W) a ha)).trans (U3_args m c a ha)

/-- The contents a region is entered with, by reference. -/
abbrev T4 : (c : Dev nD) → (b : Ref sig .tc) → Buf (Elt F) ((c : Thread nD τ).loc b) := fun c b => U4 m c b
/-- The contents after pipeline 1: its arrays at what its write-backs leave, every other buffer as before. -/
def U5 (c : Dev nD) : Valuation τ sig (Elt F) :=
  Pipeline.withArrays spec1 c (U4 m c) fun w => (dat1 (T4 m) c).arrAt w cfg1.N
theorem U5_arr (c : Dev nD) (w : Fin cfg1.W) :
    U5 m c (Proc.devRef .tc (Pipeline.arrRef spec1 w)) = (dat1 (T4 m) c).arrAt w cfg1.N := by
  unfold U5; exact Pipeline.withArrays_arr spec1 launch1.win.arr_inj c _ _ w
theorem U5_of_ne (c : Dev nD) (b : Ref sig .tc) (hb : ∀ w, Pipeline.arrRef spec1 w ≠ b) :
    U5 m c (Proc.devRef .tc b) = U4 m c (Proc.devRef .tc b) := by
  unfold U5; exact Pipeline.withArrays_of_ne spec1 c _ _ b hb
/-- A buffer that is not the output array of pipeline 1 keeps its contents. -/
theorem U5_of (c : Dev nD) (r : Ref sig .tc) (h : ∀ w : Fin cfg1.W, Pipeline.arrRef spec1 w = r → (cfg1.win w).isOut = false) :
    U5 m c (Proc.devRef .tc r) = U4 m c (Proc.devRef .tc r) := by
  by_cases hw : ∃ w : Fin cfg1.W, Pipeline.arrRef spec1 w = r
  · obtain ⟨w, rfl⟩ := hw
    exact (U5_arr m c w).trans (((dat1 (T4 m) c).arrAt_in w (h w rfl) _).trans (A_eq1 (T4 m) c w))
  · exact U5_of_ne m c r fun w e => hw ⟨w, e⟩
theorem U5_args (c : Dev nD) : ∀ a ∈ argRefs, U5 m c (Proc.devRef .tc a) = m ((c : Thread nD τ).loc a) :=
  fun a ha => (U5_of m c a ((ListAll.forall_mem_of_all_decide (by decide +kernel) :
    ∀ a ∈ argRefs, ∀ w : Fin cfg1.W, Pipeline.arrRef spec1 w = a → (cfg1.win w).isOut = false) a ha)).trans (U4_args m c a ha)
abbrev T5 : (c : Dev nD) → (b : Ref sig .tc) → Buf (Elt F) ((c : Thread nD τ).loc b) := fun c b => U5 m c b
theorem hF1 (c : Dev nD) (w : Fin cfg1.W) : (dat1 (T4 m) c).arrAt w cfg1.N = T5 m c (Pipeline.arrRef spec1 w) :=
  (U5_arr m c w).symm
theorem hrest1 (c : Dev nD) : ∀ b, b ∉ Finset.univ.image (Pipeline.arrRef spec1) → T5 m c b = T4 m c b :=
  fun b hb => U5_of_ne m c b fun w e => hb (Finset.mem_image.mpr ⟨w, Finset.mem_univ _, e⟩)

/-- The contents after the host stretch number 2. -/
abbrev U6 : Dev nD → Valuation τ sig (Elt F) := fun c => StableHlo.after hostOps2 (U5 m c)
/-- A buffer which that stretch does not write keeps its contents. -/
theorem U6_of (c : Dev nD) (r : Ref sig .tc) (h : r ∉ hostOps2_W) : U6 m c (Proc.devRef .tc r) = U5 m c (Proc.devRef .tc r) :=
  StableHlo.after_of_writes_sub hostOps2 _ hostOps2_writes h
theorem U6_args (c : Dev nD) : ∀ a ∈ argRefs, U6 m c (Proc.devRef .tc a) = m ((c : Thread nD τ).loc a) :=
  fun a ha => (U6_of m c a ((ListAll.forall_mem_of_all_decide (by decide +kernel) : ∀ a ∈ argRefs, a ∉ hostOps2_W) a ha)).trans (U5_args m c a ha)

/-- The contents a region is entered with, by reference. -/
abbrev T6 : (c : Dev nD) → (b : Ref sig .tc) → Buf (Elt F) ((c : Thread nD τ).loc b) := fun c b => U6 m c b
/-- The contents after pipeline 2: its arrays at what its write-backs leave, every other buffer as before. -/
def U7 (c : Dev nD) : Valuation τ sig (Elt F) :=
  Pipeline.withArrays spec2 c (U6 m c) fun w => (dat2 (T6 m) c).arrAt w cfg2.N
theorem U7_arr (c : Dev nD) (w : Fin cfg2.W) :
    U7 m c (Proc.devRef .tc (Pipeline.arrRef spec2 w)) = (dat2 (T6 m) c).arrAt w cfg2.N := by
  unfold U7; exact Pipeline.withArrays_arr spec2 launch2.win.arr_inj c _ _ w
theorem U7_of_ne (c : Dev nD) (b : Ref sig .tc) (hb : ∀ w, Pipeline.arrRef spec2 w ≠ b) :
    U7 m c (Proc.devRef .tc b) = U6 m c (Proc.devRef .tc b) := by
  unfold U7; exact Pipeline.withArrays_of_ne spec2 c _ _ b hb
/-- A buffer that is not the output array of pipeline 2 keeps its contents. -/
theorem U7_of (c : Dev nD) (r : Ref sig .tc) (h : ∀ w : Fin cfg2.W, Pipeline.arrRef spec2 w = r → (cfg2.win w).isOut = false) :
    U7 m c (Proc.devRef .tc r) = U6 m c (Proc.devRef .tc r) := by
  by_cases hw : ∃ w : Fin cfg2.W, Pipeline.arrRef spec2 w = r
  · obtain ⟨w, rfl⟩ := hw
    exact (U7_arr m c w).trans (((dat2 (T6 m) c).arrAt_in w (h w rfl) _).trans (A_eq2 (T6 m) c w))
  · exact U7_of_ne m c r fun w e => hw ⟨w, e⟩
theorem U7_args (c : Dev nD) : ∀ a ∈ argRefs, U7 m c (Proc.devRef .tc a) = m ((c : Thread nD τ).loc a) :=
  fun a ha => (U7_of m c a ((ListAll.forall_mem_of_all_decide (by decide +kernel) :
    ∀ a ∈ argRefs, ∀ w : Fin cfg2.W, Pipeline.arrRef spec2 w = a → (cfg2.win w).isOut = false) a ha)).trans (U6_args m c a ha)
abbrev T7 : (c : Dev nD) → (b : Ref sig .tc) → Buf (Elt F) ((c : Thread nD τ).loc b) := fun c b => U7 m c b
theorem hF2 (c : Dev nD) (w : Fin cfg2.W) : (dat2 (T6 m) c).arrAt w cfg2.N = T7 m c (Pipeline.arrRef spec2 w) :=
  (U7_arr m c w).symm
theorem hrest2 (c : Dev nD) : ∀ b, b ∉ Finset.univ.image (Pipeline.arrRef spec2) → T7 m c b = T6 m c b :=
  fun b hb => U7_of_ne m c b fun w e => hb (Finset.mem_image.mpr ⟨w, Finset.mem_univ _, e⟩)

/-- The span words that the second pipeline reads at each of its grid points are in range. -/
def SpansOK : Prop := ∀ (c : Dev nD) (t : Fin cfg1.N), SpanOK (iblk1 (T4 m) c 0 t) (iblk1 (T4 m) c 1 t)

end Cert.KernelIdeal.Run

end
-- ==== Proof.KernelIdeal.Launch.lean ====
/- The run of the program: its segments, and what every final state holds. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.KernelIdeal.Contents
@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every pipeline's proof data, at the contents its region is entered with. -/
def pdats : (p : Fin 3) → (c : Dev nD) → Dat τ (Elt F) Unit ℕ (UR sig nD τ) ℕ (Pipeline.pin (pcfgs (F := F)) adm p) c
  | ⟨0, _⟩ => fun c => dat0 (T1 m) c
  | ⟨1, _⟩ => fun c => dat1 (T4 m) c
  | ⟨2, _⟩ => fun c => dat2 (T6 m) c
abbrev 𝒱₀ : Variants := Variants.none
abbrev L : GSem nD τ sig → Finset Unit := fun _ => ∅
abbrev lv : GSem nD τ sig → Unit → ℕ := fun _ _ => 0
/-- What stands beside the buffers through every segment: the generator register and nothing owed. -/
abbrev R (c : Dev nD) : sProp 𝕄 := iprop((∃ r, prngReg c r) ∗ ∃ W, owes (c : Thread nD τ) (0 : CellTallies nD τ sig Unit) W)
/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped reference is among those the run speaks of. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state of the thread, without what it owes. -/
abbrev Tₙ (c : Dev nD) : sProp 𝕄 := iprop(StableHlo.held (c : Thread nD τ) (Pipeline.ucRefs τ sig) (U7 m c) ∗ ∃ r, prngReg c r)

set_option backward.isDefEq.respectTransparency.types false in
/-- Pipeline 0 as a segment: entered with the contents `U1`, left with the contents `U2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (T1 m) c).loose
  hwaits := Pipeline.hwaits_of_owed_zero _ _ _ _ L lv 0 fun _ _ => rfl
  pre c := iprop(StableHlo.held (c : Thread nD τ) (Pipeline.ucRefs τ sig) (U1 m c) ∗ R c)
  post c := iprop(StableHlo.held (c : Thread nD τ) (Pipeline.ucRefs τ sig) (U2 m c) ∗ R c)
  X c := iprop(∃ r, prngReg c r)
  Y c := iprop(∃ r, prngReg c r)
  Z c := Pipeline.unscopedRest (Ix := Unit) (Name := ℕ) (U := UR sig nD τ) (Lvl := ℕ) spec0 c (T1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (T1 m c) (A_eq0 (T1 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (T1 m c) (T2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pipeline 1 as a segment: entered with the contents `U4`, left with the contents `U5`. -/
def reg1 (hV : SpansOK m) : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (T4 m) hV c).loose
  hwaits := Pipeline.hwaits_of_owed_zero _ _ _ _ L lv 1 fun _ _ => rfl
  pre c := iprop(StableHlo.held (c : Thread nD τ) (Pipeline.ucRefs τ sig) (U4 m c) ∗ R c)
  post c := iprop(StableHlo.held (c : Thread nD τ) (Pipeline.ucRefs τ sig) (U5 m c) ∗ R c)
  X c := iprop(∃ r, prngReg c r)
  Y c := iprop(∃ r, prngReg c r)
  Z c := Pipeline.unscopedRest (Ix := Unit) (Name := ℕ) (U := UR sig nD τ) (Lvl := ℕ) spec1 c (T4 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (T4 m c) (A_eq1 (T4 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (T4 m c) (T5 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pipeline 2 as a segment: entered with the contents `U6`, left with the contents `U7`. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (T6 m) c).loose
  hwaits := Pipeline.hwaits_of_owed_zero _ _ _ _ L lv 2 fun _ _ => rfl
  pre c := iprop(StableHlo.held (c : Thread nD τ) (Pipeline.ucRefs τ sig) (U6 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (T6 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (T6 m c) (A_eq2 (T6 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (T6 m c) (T7 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program's segments, in order. -/
abbrev segs (hV : SpansOK m) : List (Pipeline.Seg (pcfgs (F := F)) adm (pdats m) () defs₀ 𝒱₀ L lv) :=
  [ .host (hseg hostOps0 hostOps0_sub hostOps0_fresh (U0 m)),
    .region (reg0 m),
    .host (hseg hostOps1 hostOps1_sub hostOps1_fresh (U2 m)),
    .host (hseg hostOps1_1 hostOps1_1_sub hostOps1_1_fresh (U3 m)),
    .region (reg1 m hV),
    .host (hseg hostOps2 hostOps2_sub hostOps2_fresh (U5 m)),
    .region (reg2 m) ]
/-- The program is the run of its segments. -/
theorem main_run (hV : SpansOK m) (c : Dev nD) : main (F := F) c = Pipeline.Seg.run (segs m hV) := (main_chain c).trans (by chain_rfl)

set_option backward.isDefEq.respectTransparency.types false in
/-- From any memory whose span words are in range, with zero counters, every execution ends, nothing faulting; every final
    state holds the contents `U7` and has every counter at zero. -/
theorem run (hV : SpansOK m) : θ_run defs (onTc (τ := τ) (main (F := F))) ⟨m, fun _ => 0, ρ⟩ (fun r =>
      (∀ c : Dev nD, ∀ b ∈ Pipeline.ucRefs τ sig, r.2.mem (c, b) = U7 m c b) ∧ r.2.sem = fun _ => 0) :=
  Pipeline.θ_run_regions_kit_sems (pcfgs (F := F)) adm (pdats m) () cellOf_inj emb₁ defs₀ 𝒱₀ L lv m ρ main (segs m hV)
    (fun c Q => by rw [main_run m hV c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (U0 m c) ∗ R c)) (Tₙ := Tₙ m)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (U0 m c)
        from Pipeline.unscopedBufs_held c (U0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U7 m c b)
    (hfin := fun c s' => by
      iintro ⟨⟨Hh, -⟩, HSI⟩
      unfold StableHlo.held
      imodintro
      iapply (pointsTo_read_all (Pipeline.ucRefs τ sig) (fun b => (((c : Thread nD τ)).1, b)) (U7 m c) s')
      isplitl [Hh] <;> iassumption)
    (hQ := fun s h hz => ⟨fun c => h c, funext fun g => hz g (.inr (regions_no_unscoped g.2))⟩)

/-- What the run leaves in an unscoped buffer. -/
theorem read_final {μ : (ℓ : Loc nD τ sig) → Buf (Elt F) ℓ} (h : ∀ c : Dev nD, ∀ b ∈ Pipeline.ucRefs τ sig, μ (c, b) = U7 m c b) (c : Dev nD)
    (a : Ref sig .tc) (ha : ¬ (Proc.devRef .tc a : DevRef τ sig).isScoped) : μ ((c : Thread nD τ).loc a) = U7 m c (Proc.devRef .tc a) :=
  h c _ (mem_uc a ha)

/-- An argument array ends as it was. -/
theorem arg_final {μ : (ℓ : Loc nD τ sig) → Buf (Elt F) ℓ} (h : ∀ c : Dev nD, ∀ b ∈ Pipeline.ucRefs τ sig, μ (c, b) = U7 m c b) (c : Dev nD)
    (a : Ref sig .tc) (ha : ¬ (Proc.devRef .tc a : DevRef τ sig).isScoped) (hm : a ∈ argRefs) :
    μ ((c : Thread nD τ).loc a) = m ((c : Thread nD τ).loc a) :=
  (read_final m h c a ha).trans (U7_args m c a hm)

/-- The frame: from any memory whose span words are in range every execution ends, the arguments unchanged, every counter at zero. -/
theorem frame (hV : SpansOK m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.sem = fun _ => 0) :=
  (θ_run defs _ _).mono (fun r h => ⟨fun c => ⟨arg_final m h.1 c main_arg0 (by decide) (by decide), arg_final m h.1 c main_arg1 (by decide) (by decide), arg_final m h.1 c main_arg2 (by decide) (by decide), arg_final m h.1 c main_arg3 (by decide) (by decide), arg_final m h.1 c main_arg4 (by decide) (by decide), arg_final m h.1 c main_arg5 (by decide) (by decide), arg_final m h.1 c main_arg6 (by decide) (by decide), arg_final m h.1 c main_arg7 (by decide) (by decide), arg_final m h.1 c main_arg8 (by decide) (by decide), arg_final m h.1 c main_arg9 (by decide) (by decide), arg_final m h.1 c main_arg10 (by decide) (by decide), arg_final m h.1 c main_arg11 (by decide) (by decide), arg_final m h.1 c main_arg12 (by decide) (by decide), arg_final m h.1 c main_arg13 (by decide) (by decide), arg_final m h.1 c main_arg14 (by decide) (by decide), arg_final m h.1 c main_arg15 (by decide) (by decide), arg_final m h.1 c main_arg16 (by decide) (by decide), arg_final m h.1 c main_arg17 (by decide) (by decide)⟩, h.2⟩) (run m ρ hV)

end Cert.KernelIdeal.Run

end
-- ==== Proof.KernelIdeal.Entry.lean ====
/- What the host stretches put into the arrays that the pipelines read, and that the span words are in range. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.KernelIdeal.Contents
public import proofs.«01_k».proof.Proof.Shared.PreWords
@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! The operands of the first pipeline that the host prepares: biases reshaped, the last weights rounded. -/

theorem U1_v0 (c : Dev nD) : U1 m c (Proc.devRef .tc main_v0) = shapeCast S1x150 (m ((c : Thread nD τ).loc main_arg5)) shapeCasts_S150_S1x150 := by
  have e : U1 m c (Proc.devRef .tc main_v0) = shapeCast S1x150 (U0 m c (Proc.devRef .tc main_arg5)) shapeCasts_S150_S1x150 := by
    show StableHlo.after hostOps0 (U0 m c) _ = _
    after_results
    try rfl
  rw [e, U0_args m c main_arg5 (by decide)]

theorem U1_v1 (c : Dev nD) : U1 m c (Proc.devRef .tc main_v1) = shapeCast S1x150 (m ((c : Thread nD τ).loc main_arg7)) shapeCasts_S150_S1x150 := by
  have e : U1 m c (Proc.devRef .tc main_v1) = shapeCast S1x150 (U0 m c (Proc.devRef .tc main_arg7)) shapeCasts_S150_S1x150 := by
    show StableHlo.after hostOps0 (U0 m c) _ = _
    after_results
    try rfl
  rw [e, U0_args m c main_arg7 (by decide)]

theorem U1_v2 (c : Dev nD) : U1 m c (Proc.devRef .tc main_v2) = (truncf .bf16 (m ((c : Thread nD τ).loc main_arg8)) bitsLt_bf16_f32 : FVec F S150x1 .bf16) := by
  have e : U1 m c (Proc.devRef .tc main_v2) = (truncf .bf16 (U0 m c (Proc.devRef .tc main_arg8)) bitsLt_bf16_f32 : FVec F S150x1 .bf16) := by
    show StableHlo.after hostOps0 (U0 m c) _ = _
    after_results
    try rfl
  rw [e, U0_args m c main_arg8 (by decide)]

theorem U1_v3 (c : Dev nD) : U1 m c (Proc.devRef .tc main_v3) = shapeCast S1x1 (m ((c : Thread nD τ).loc main_arg9)) shapeCasts_S1_S1x1 := by
  have e : U1 m c (Proc.devRef .tc main_v3) = shapeCast S1x1 (U0 m c (Proc.devRef .tc main_arg9)) shapeCasts_S1_S1x1 := by
    show StableHlo.after hostOps0 (U0 m c) _ = _
    after_results
    try rfl
  rw [e, U0_args m c main_arg9 (by decide)]

/-! The span words in blocks, and the width table padded with rows of zero. -/

theorem U3_v5 (c : Dev nD) : U3 m c (Proc.devRef .tc main_v5) = shapeCast S32x1x512 (m ((c : Thread nD τ).loc main_arg2)) shapeCasts_S16384_S32x1x512 := by
  have e : U3 m c (Proc.devRef .tc main_v5) = shapeCast S32x1x512 (U2 m c (Proc.devRef .tc main_arg2)) shapeCasts_S16384_S32x1x512 := by
    show StableHlo.after hostOps1 (U2 m c) _ = _
    after_results
    try rfl
  rw [e, U2_args m c main_arg2 (by decide)]

theorem U3_v6 (c : Dev nD) : U3 m c (Proc.devRef .tc main_v6) = shapeCast S32x1x512 (m ((c : Thread nD τ).loc main_arg3)) shapeCasts_S16384_S32x1x512 := by
  have e : U3 m c (Proc.devRef .tc main_v6) = shapeCast S32x1x512 (U2 m c (Proc.devRef .tc main_arg3)) shapeCasts_S16384_S32x1x512 := by
    show StableHlo.after hostOps1 (U2 m c) _ = _
    after_results
    try rfl
  rw [e, U2_args m c main_arg3 (by decide)]

theorem U3_c (c : Dev nD) : U3 m c (Proc.devRef .tc main_c) = constantI S_ 32 0#32 := by
  show StableHlo.after hostOps1 (U2 m c) _ = _
  after_results

theorem U4_v7 (c : Dev nD) : U4 m c (Proc.devRef .tc main_v7) = pad S16x20 ![0, 0] ![6, 0] ![0, 0] (m ((c : Thread nD τ).loc main_arg16)) (sitofp .f32 (constantI S_ 32 0#32)) pads_S10x20_S16x20_060_000 h_S_ := by
  have e : U4 m c (Proc.devRef .tc main_v7) = pad S16x20 ![0, 0] ![6, 0] ![0, 0] (U3 m c (Proc.devRef .tc main_arg16)) (sitofp .f32 (U3 m c (Proc.devRef .tc main_c))) pads_S10x20_S16x20_060_000 h_S_ := by
    show StableHlo.after hostOps1_1 (U3 m c) _ = _
    after_results
    try rfl
  rw [e, U3_c, U3_args m c main_arg16 (by decide)]

theorem U4_v5 (c : Dev nD) : U4 m c (Proc.devRef .tc main_v5) = shapeCast S32x1x512 (m ((c : Thread nD τ).loc main_arg2)) shapeCasts_S16384_S32x1x512 :=
  (U4_of m c main_v5 (by decide)).trans (U3_v5 m c)

theorem U4_v6 (c : Dev nD) : U4 m c (Proc.devRef .tc main_v6) = shapeCast S32x1x512 (m ((c : Thread nD τ).loc main_arg3)) shapeCasts_S16384_S32x1x512 :=
  (U4_of m c main_v6 (by decide)).trans (U3_v6 m c)

/-- Neither stretch before the second pipeline writes the first one's result. -/
theorem U4_v4 (c : Dev nD) : U4 m c (Proc.devRef .tc main_v4) = U2 m c (Proc.devRef .tc main_v4) :=
  (U4_of m c main_v4 (by decide)).trans (U3_of m c main_v4 (by decide))

/-! The operands of the third pipeline: the first layer's product, biases reshaped, the last weights rounded. -/

theorem U6_v11 (c : Dev nD) : U6 m c (Proc.devRef .tc main_v11) = shapeCast S1x150 (m ((c : Thread nD τ).loc main_arg11)) shapeCasts_S150_S1x150 := by
  have e : U6 m c (Proc.devRef .tc main_v11) = shapeCast S1x150 (U5 m c (Proc.devRef .tc main_arg11)) shapeCasts_S150_S1x150 := by
    show StableHlo.after hostOps2 (U5 m c) _ = _
    after_results
    try rfl
  rw [e, U5_args m c main_arg11 (by decide)]

theorem U6_v12 (c : Dev nD) : U6 m c (Proc.devRef .tc main_v12) = shapeCast S1x150 (m ((c : Thread nD τ).loc main_arg13)) shapeCasts_S150_S1x150 := by
  have e : U6 m c (Proc.devRef .tc main_v12) = shapeCast S1x150 (U5 m c (Proc.devRef .tc main_arg13)) shapeCasts_S150_S1x150 := by
    show StableHlo.after hostOps2 (U5 m c) _ = _
    after_results
    try rfl
  rw [e, U5_args m c main_arg13 (by decide)]

theorem U6_v13 (c : Dev nD) : U6 m c (Proc.devRef .tc main_v13) = (truncf .bf16 (m ((c : Thread nD τ).loc main_arg14)) bitsLt_bf16_f32 : FVec F S150x1 .bf16) := by
  have e : U6 m c (Proc.devRef .tc main_v13) = (truncf .bf16 (U5 m c (Proc.devRef .tc main_arg14)) bitsLt_bf16_f32 : FVec F S150x1 .bf16) := by
    show StableHlo.after hostOps2 (U5 m c) _ = _
    after_results
    try rfl
  rw [e, U5_args m c main_arg14 (by decide)]

theorem U6_v14 (c : Dev nD) : U6 m c (Proc.devRef .tc main_v14) = shapeCast S1x1 (m ((c : Thread nD τ).loc main_arg15)) shapeCasts_S1_S1x1 := by
  have e : U6 m c (Proc.devRef .tc main_v14) = shapeCast S1x1 (U5 m c (Proc.devRef .tc main_arg15)) shapeCasts_S1_S1x1 := by
    show StableHlo.after hostOps2 (U5 m c) _ = _
    after_results
    try rfl
  rw [e, U5_args m c main_arg15 (by decide)]

theorem U6_v10 (c : Dev nD) : U6 m c (Proc.devRef .tc main_v10) = Host.dotGeneral dot_S16384x788_S788x150_S16384x150_1_0_0_1_n_n none (truncf .bf16 (U5 m c (Proc.devRef .tc main_v8)) bitsLt_bf16_f32 : FVec F S16384x788 .bf16) (m ((c : Thread nD τ).loc main_arg10)) := by
  have e : U6 m c (Proc.devRef .tc main_v10) = Host.dotGeneral dot_S16384x788_S788x150_S16384x150_1_0_0_1_n_n none (truncf .bf16 (U5 m c (Proc.devRef .tc main_v8)) bitsLt_bf16_f32 : FVec F S16384x788 .bf16) (U5 m c (Proc.devRef .tc main_arg10)) := by
    show StableHlo.after hostOps2 (U5 m c) _ = _
    after_results
    try rfl
  rw [e, U5_args m c main_arg10 (by decide)]

/-- The span embeddings end as the second pipeline leaves them. -/
theorem U7_v8 (c : Dev nD) : U7 m c (Proc.devRef .tc main_v8) = U5 m c (Proc.devRef .tc main_v8) :=
  (U7_of m c main_v8 (by decide)).trans (U6_of m c main_v8 (by decide))

/-- Span words in range in the arrays are in range in every block. -/
theorem spansOK (h2 : ∀ (c : Dev nD) (y : S16384.Idx), BitVec.toNat ((m ((c : Thread nD τ).loc main_arg2)) y) < 16368) (h3 : ∀ (c : Dev nD) (y : S16384.Idx), BitVec.toNat ((m ((c : Thread nD τ).loc main_arg3)) y) < 16) : SpansOK m := by
  intro c t
  refine ⟨fun y => ?_, fun y => ?_⟩
  · show BitVec.toNat (U4 m c (Proc.devRef .tc main_v5) _) < 16368
    rw [U4_v5 m c]; exact h2 c _
  · show BitVec.toNat (U4 m c (Proc.devRef .tc main_v6) _) < 16
    rw [U4_v6 m c]; exact h3 c _

end Cert.KernelIdeal.Run

end
-- ==== Proof.Shared.Frames.lean ====
/- The frames of the five programs: every execution ends, the arguments unchanged, every counter at zero. -/
module

public import proofs.«01_k».proof.Defs
public import proofs.«01_k».proof.Proof.Kernel.Launch
public import proofs.«01_k».proof.Proof.Kernel.Entry
public import proofs.«01_k».proof.Proof.KernelIdeal.Launch
public import proofs.«01_k».proof.Proof.KernelIdeal.Entry
public import proofs.«01_k».proof.Proof.Gen.ReferenceIdeal.Run
public import proofs.«01_k».proof.Proof.Gen.Reference2.Run
public import proofs.«01_k».proof.Proof.Gen.Kernel2.Frame

@[expose] public section

noncomputable section

namespace Cert.Proof

open Idealize.ShloMosaic Idealize.SL.Sem

/-- Where the precondition holds, the words that the second pipeline of the kernel reads are in range. -/
theorem spans_kernel (m : (ℓ : Loc Cert.Kernel.nD Cert.Kernel.τ Cert.Kernel.sig) → Buf (Elt Bits) ℓ) (h : Cert.Pre_Kernel m) :
    Cert.Kernel.Run.SpansOK m :=
  Cert.Kernel.Run.spansOK m (fun c y => (Cert.PreWords.words _ _ _ _ _ _ _ _ _ _ _ _ _ _ _ _ _ _ (h c) y).1)
    (fun c y => (Cert.PreWords.words _ _ _ _ _ _ _ _ _ _ _ _ _ _ _ _ _ _ (h c) y).2)

/-- The same of the idealized kernel. -/
theorem spans_kernelIdeal (m : (ℓ : Loc Cert.KernelIdeal.nD Cert.KernelIdeal.τ Cert.KernelIdeal.sig) → Buf (Elt Ideal) ℓ) (h : Cert.Pre_KernelIdeal m) :
    Cert.KernelIdeal.Run.SpansOK m :=
  Cert.KernelIdeal.Run.spansOK m (fun c y => (Cert.PreWords.words _ _ _ _ _ _ _ _ _ _ _ _ _ _ _ _ _ _ (h c) y).1)
    (fun c y => (Cert.PreWords.words _ _ _ _ _ _ _ _ _ _ _ _ _ _ _ _ _ _ (h c) y).2)

/-- The frame of the kernel, where the precondition holds. -/
theorem frame_kernel : Cert.quiescent_Kernel := fun m ρ h => Cert.Kernel.Run.frame m ρ (spans_kernel m h)

/-- The frame of the idealized kernel, where the precondition holds. -/
theorem frame_kernelIdeal : Cert.quiescent_KernelIdeal := fun m ρ h => Cert.KernelIdeal.Run.frame m ρ (spans_kernelIdeal m h)

/-- The frame of the reference: it declares no semaphore, and no operation of it writes an argument. -/
theorem frame_referenceIdeal : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- The same under the precondition. -/
theorem frame_referenceIdeal_pre : Cert.quiescent_ReferenceIdeal_pre_spans_in_range := fun m ρ _ => frame_referenceIdeal m ρ trivial

/-- The frame of the ranking kernel. -/
theorem frame_kernel2 : Cert.quiescent_Kernel2 := fun m ρ _ => Cert.Kernel2.Gen.frame m ρ

/-- The frame of the ranking's reference. -/
theorem frame_reference2 : Cert.quiescent_Reference2 := fun m ρ _ =>
  (θ_run Cert.Reference2.defs _ _).mono (fun r h => ⟨fun c => (h c).2, sem_eq_zero_of_no_sems (by decide) r.2⟩)
    (Cert.Reference2.Value.run (F := Bits) m ρ)

end Cert.Proof

end
-- ==== Proof.Shared.Spec.lean ====
/- The mathematics both programs compute of one span, index by index. -/
module

public import Idealize.ShloMosaic.PureOps.Ideal
public import Idealize.ShloMosaic.PureOps.Ideal.Laws

@[expose] public section

noncomputable section

namespace Cert.Spec

open Idealize.ShloMosaic

/-- A row number, held inside the 16384 rows. -/
def row (n : ℕ) : Fin 16384 := ⟨min n 16383, by omega⟩

theorem row_val {n : ℕ} (h : n < 16384) : (row n).val = n := by show min n 16383 = n; omega

/-- What stands for an offset past the span's width. -/
def low : EReal := FloatOps.ofBits (F := Ideal) .f32 0xD01502F9#32

/-- Minus infinity as the programs write it. -/
def bot : EReal := FloatOps.ofBits (F := Ideal) .f32 0xFF800000#32

/-- The attention score at offset `o` of a span that starts at `s` and whose last offset is `w`. -/
def masked (T : Fin 16384 → EReal) (s w : ℕ) (o : Fin 16) : EReal := if o.val ≤ w then T (row (s + o.val)) else low

/-- The greatest of 16 scores. -/
def greatest (p : Fin 16 → EReal) : EReal := (Finset.univ : Finset (Fin 16)).fold max bot p

/-- The exponential of a score relative to the greatest. -/
def exps (p : Fin 16 → EReal) (o : Fin 16) : EReal := Ideal.exp (p o - greatest p)

/-- The softmax weight of offset `o`. -/
def weight (p : Fin 16 → EReal) (o : Fin 16) : EReal := Ideal.div (exps p o) (∑ i, exps p i)

/-- The pooled embedding's coordinate `c`. -/
def pooled (M : Fin 16384 → Fin 256 → EReal) (T : Fin 16384 → EReal) (s w : ℕ) (c : Fin 256) : EReal :=
  ∑ o : Fin 16, M (row (s + o.val)) c * (if o.val ≤ w then 1 else 0) * weight (masked T s w) o

/-- The bin of a width: how many of the bounds 1, 2, 3, 4, 5, 8, 16 it reaches (the width is at most 16). -/
def bin (w : ℕ) : ℕ := if w + 1 < 5 then w + 1 else if w + 1 < 8 then 5 else if w + 1 < 16 then 6 else 7

theorem bin_lt (w : ℕ) : bin w < 8 := by unfold bin; split_ifs <;> omega

/-- A folded maximum is bounded by what bounds its starting value and its terms, so it does not depend on how the terms are indexed. -/
theorem fold_max_eq {α β : Type} [Fintype α] [Fintype β] (b : EReal) (f : α → EReal) (g : β → EReal) (u : α → β) (v : β → α)
    (hu : ∀ a, f a = g (u a)) (hv : ∀ y, g y = f (v y)) (S : Finset α) (hS : ∀ a, a ∈ S) :
    S.fold max b f = (Finset.univ : Finset β).fold max b g := by
  refine eq_of_forall_ge_iff fun c => ?_
  rw [Finset.fold_max_le, Finset.fold_max_le]
  constructor
  · rintro ⟨h, k⟩; exact ⟨h, fun y _ => by rw [hv]; exact k _ (hS _)⟩
  · rintro ⟨h, k⟩; exact ⟨h, fun a _ => by rw [hu]; exact k _ (Finset.mem_univ _)⟩

/-- Sixteen terms added by halving are their sum. -/
theorem halve (f : Fin 16 → EReal) :
    (((f 0 + f 8) + (f 4 + f 12)) + ((f 2 + f 10) + (f 6 + f 14))) + (((f 1 + f 9) + (f 5 + f 13)) + ((f 3 + f 11) + (f 7 + f 15))) = ∑ i, f i := by
  have e : (∑ i, f i) = f 0 + (f 1 + (f 2 + (f 3 + (f 4 + (f 5 + (f 6 + (f 7 + (f 8 + (f 9 + (f 10 + (f 11 + (f 12 + (f 13 + (f 14 + f 15)))))))))))))) := by
    simp only [Fin.sum_univ_succ, Fin.sum_univ_zero, add_zero]; rfl
  rw [e]; ac_rfl

end Cert.Spec

end
-- ==== Proof.Shared.Layers.lean ====
/- The two scoring networks of the problem, at one row. -/
module

public import proofs.«01_k».proof.Proof.Shared.Spec
@[expose] public section

noncomputable section

namespace Cert.Spec

open Idealize.ShloMosaic

/-- What the two later layers make of the first one's products: bias and cut at zero, a layer of 150, cut at zero, a weighted sum. -/
def later (g b1 : Fin 150 → EReal) (W2 : Fin 150 → Fin 150 → EReal) (b2 w3 : Fin 150 → EReal) (b3 : EReal) : EReal :=
  (∑ j, max ((∑ k, max (g k + b1 k) 0 * W2 k j) + b2 j) 0 * w3 j) + b3

/-- A row's products with the columns of a matrix. -/
def products {n : ℕ} (x : Fin n → EReal) (W : Fin n → Fin 150 → EReal) (j : Fin 150) : EReal := ∑ i, x i * W i j

/-- The attention score of a row. -/
def score {n : ℕ} (x : Fin n → EReal) (W1 : Fin n → Fin 150 → EReal) (b1 : Fin 150 → EReal) (W2 : Fin 150 → Fin 150 → EReal) (b2 w3 : Fin 150 → EReal) (b3 : EReal) : EReal :=
  later (products x W1) b1 W2 b2 w3 b3

end Cert.Spec

end
-- ==== Proof.ReferenceIdeal.Rows.lean ====
/- Rows taken from a table by a list of row numbers, as the reference takes them, read at one entry. -/
module

public import proofs.«01_k».proof.Proof.Gen.ReferenceIdeal.Run
public import proofs.«01_k».proof.Proof.Shared.Layers
public import Idealize.ShloMosaic.Lib.Pointwise
public import Idealize.ShloMosaic.Lib.WordCmp
@[expose] public section

set_option maxRecDepth 16384

noncomputable section

namespace Cert.ReferenceIdeal.Rows

open Cert.ReferenceIdeal Cert.ReferenceIdeal.Gen Cert.ReferenceIdeal.Value
open Cert.Spec
open Idealize.ShloMosaic Idealize.ShloMosaic.TcCoe Idealize.ShloMosaic.Tactic
open Idealize.SL.Sem

/-- Rows of a table taken by a matrix of row numbers: the dimension numbers. -/
abbrev rowsDims (N B R C : ℕ) (wf : GatherDims.WF ⟨2, ![N, B]⟩ ⟨3, ![R, C, 1]⟩ ⟨3, ![R, C, B]⟩ [2] [0] [] [0] [] 2 ![1, B]) :
    GatherDims ⟨2, ![N, B]⟩ ⟨3, ![R, C, 1]⟩ ⟨3, ![R, C, B]⟩ where
  offsetDims := [2]
  collapsedSliceDims := [0]
  operandBatchingDims := []
  startIndicesBatchingDims := []
  startIndexMap := [0]
  indexVectorDim := 2
  sliceSizes := ![1, B]
  wf := wf

/-- A row number below the table's height takes that row. -/
theorem rows_at {α : Type} {N B R C : ℕ} (wf : GatherDims.WF ⟨2, ![N, B]⟩ ⟨3, ![R, C, 1]⟩ ⟨3, ![R, C, B]⟩ [2] [0] [] [0] [] 2 ![1, B])
    (x : (⟨2, ![N, B]⟩ : Shape).Idx → α) (idx : IVec ⟨3, ![R, C, 1]⟩ 32) (r : Fin R) (o : Fin C) (q : Fin B) (k : Fin N)
    (hk : (idx (ix3 r o 0)).toInt = (k.val : ℤ)) :
    Host.gather (rowsDims N B R C wf) x idx (ix3 r o q) = x (ix2 k q) := by
  unfold Host.gather
  refine congrArg x (funext fun a => Fin.ext ?_)
  have hsi : ∀ h, (rowsDims N B R C wf).siIdx (ix3 r o q) ⟨List.idxOf (0 : Fin 2) (rowsDims N B R C wf).startIndexMap, h⟩ = ix3 r o 0 := by
    intro h
    funext b; refine Fin.ext ?_
    match b with
    | ⟨0, _⟩ => rfl
    | ⟨1, _⟩ => rfl
    | ⟨2, _⟩ => rfl
  match a with
  | ⟨0, _⟩ =>
    show (rowsDims N B R C wf).start (ix3 r o q) idx 0 + (rowsDims N B R C wf).batchCoord (ix3 r o q) 0 + (rowsDims N B R C wf).offCoord (ix3 r o q) 0 = k.val
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 2) ∈ (rowsDims N B R C wf).startIndexMap from List.mem_singleton.mpr rfl), hsi, hk]
    show min (Int.toNat (k.val : ℤ)) (N - 1) + 0 + 0 = k.val
    have := k.isLt
    omega
  | ⟨1, _⟩ =>
    show (rowsDims N B R C wf).start (ix3 r o q) idx 1 + (rowsDims N B R C wf).batchCoord (ix3 r o q) 1 + (rowsDims N B R C wf).offCoord (ix3 r o q) 1 = q.val
    rw [GatherDims.batchCoord_eq_zero _ _ _ List.not_mem_nil]
    unfold GatherDims.start
    rw [dif_neg (show (1 : Fin 2) ∉ (rowsDims N B R C wf).startIndexMap from by simp)]
    show 0 + 0 + (rowsDims N B R C wf).offCoord (ix3 r o q) 1 = q.val
    unfold GatherDims.offCoord
    rw [dif_pos ((GatherDims.mem_sKept _ _).mpr ⟨by simp, by simp⟩)]
    simp

/-- Rows of a table taken by a list of row numbers: the dimension numbers. -/
abbrev rowDims (N B R : ℕ) (wf : GatherDims.WF ⟨2, ![N, B]⟩ ⟨2, ![R, 1]⟩ ⟨2, ![R, B]⟩ [1] [0] [] [0] [] 1 ![1, B]) :
    GatherDims ⟨2, ![N, B]⟩ ⟨2, ![R, 1]⟩ ⟨2, ![R, B]⟩ where
  offsetDims := [1]
  collapsedSliceDims := [0]
  operandBatchingDims := []
  startIndicesBatchingDims := []
  startIndexMap := [0]
  indexVectorDim := 1
  sliceSizes := ![1, B]
  wf := wf

/-- A row number below the table's height takes that row. -/
theorem row_at {α : Type} {N B R : ℕ} (wf : GatherDims.WF ⟨2, ![N, B]⟩ ⟨2, ![R, 1]⟩ ⟨2, ![R, B]⟩ [1] [0] [] [0] [] 1 ![1, B])
    (x : (⟨2, ![N, B]⟩ : Shape).Idx → α) (idx : IVec ⟨2, ![R, 1]⟩ 32) (r : Fin R) (q : Fin B) (k : Fin N)
    (hk : (idx (ix2 r 0)).toInt = (k.val : ℤ)) :
    Host.gather (rowDims N B R wf) x idx (ix2 r q) = x (ix2 k q) := by
  unfold Host.gather
  refine congrArg x (funext fun a => Fin.ext ?_)
  have hsi : ∀ h, (rowDims N B R wf).siIdx (ix2 r q) ⟨List.idxOf (0 : Fin 2) (rowDims N B R wf).startIndexMap, h⟩ = ix2 r 0 := by
    intro h
    funext b; refine Fin.ext ?_
    match b with
    | ⟨0, _⟩ => rfl
    | ⟨1, _⟩ => rfl
  match a with
  | ⟨0, _⟩ =>
    show (rowDims N B R wf).start (ix2 r q) idx 0 + (rowDims N B R wf).batchCoord (ix2 r q) 0 + (rowDims N B R wf).offCoord (ix2 r q) 0 = k.val
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 2) ∈ (rowDims N B R wf).startIndexMap from List.mem_singleton.mpr rfl), hsi, hk]
    show min (Int.toNat (k.val : ℤ)) (N - 1) + 0 + 0 = k.val
    have := k.isLt
    omega
  | ⟨1, _⟩ =>
    show (rowDims N B R wf).start (ix2 r q) idx 1 + (rowDims N B R wf).batchCoord (ix2 r q) 1 + (rowDims N B R wf).offCoord (ix2 r q) 1 = q.val
    rw [GatherDims.batchCoord_eq_zero _ _ _ List.not_mem_nil]
    unfold GatherDims.start
    rw [dif_neg (show (1 : Fin 2) ∉ (rowDims N B R wf).startIndexMap from by simp)]
    show 0 + 0 + (rowDims N B R wf).offCoord (ix2 r q) 1 = q.val
    unfold GatherDims.offCoord
    rw [dif_pos ((GatherDims.mem_sKept _ _).mpr ⟨by simp, by simp⟩)]
    simp

/-- A conjunction over one bit. -/
theorem fold_one (f : Fin 1 → BitVec 1) (h : f 0 = 1#1) : Finset.fold IntOp.andi (1#1) f Finset.univ = 1#1 := by
  rw [show (Finset.univ : Finset (Fin 1)) = {0} from rfl, Finset.fold_singleton, h]
  rfl

/-- A row number between zero and a bound passes both comparisons. -/
theorem between (w b : BitVec 32) (h0 : 0 ≤ w.toInt) (hb : w.toInt ≤ b.toInt) :
    IntOp.andi (IntOp.cmpi .sge w 0#32) (IntOp.cmpi .sle w b) = 1#1 := by
  have z : (0#32 : BitVec 32).toInt = 0 := by decide
  show IntOp.andi (BitVec.ofBool (decide ((0#32 : BitVec 32).toInt ≤ w.toInt))) (BitVec.ofBool (decide (w.toInt ≤ b.toInt))) = 1#1
  rw [decide_eq_true (by omega : (0#32 : BitVec 32).toInt ≤ w.toInt), decide_eq_true hb]
  decide

theorem select_one {α : Type} (c : BitVec 1) (a b : α) (h : c = 1#1) : Scalar.select c a b = a := by subst h; rfl

/-- Rows of a table of 256 columns taken by a list of row numbers, not-a-number where a number is out of range. -/
def taken (x : FVec Ideal S16384x256 .f32) (idx : IVec S16384x1 32) : FVec Ideal S16384x256 .f32 :=
  select (broadcastInDim S16384x256 ![0] bcast_S16384_S16384x256_0 (Host.reduce IntOp.andi (andi (cmpi .sge idx (broadcastInDim S16384x1 ![] bcast_S_S16384x1 (constantI S_ 32 0#32))) (cmpi .sle idx (broadcastInDim S16384x1 ![0, 1] bcast_S1x1_S16384x1_0_1 (broadcastInDim S1x1 ![1] bcast_S1_S1x1_1 (constantI S1 32 16383#32))))) (constantI S_ 1 1#1) reducesTo_S16384x1_S16384_d1 h_S_)) (Host.gather gather_S16384x256_S16384x1_S16384x256_1_0_n_n_0_1_1256 x idx) (broadcastInDim S16384x256 ![] bcast_S_S16384x256 (constant S_ .f32 0x7FC00000#32))

/-- Rows of a table of 20 columns and 10 rows likewise. -/
def taken20 (x : FVec Ideal S10x20 .f32) (idx : IVec S16384x1 32) : FVec Ideal S16384x20 .f32 :=
  select (broadcastInDim S16384x20 ![0] bcast_S16384_S16384x20_0 (Host.reduce IntOp.andi (andi (cmpi .sge idx (broadcastInDim S16384x1 ![] bcast_S_S16384x1 (constantI S_ 32 0#32))) (cmpi .sle idx (broadcastInDim S16384x1 ![0, 1] bcast_S1x1_S16384x1_0_1 (broadcastInDim S1x1 ![1] bcast_S1_S1x1_1 (constantI S1 32 9#32))))) (constantI S_ 1 1#1) reducesTo_S16384x1_S16384_d1 h_S_)) (Host.gather gather_S10x20_S16384x1_S16384x20_1_0_n_n_0_1_120 x idx) (broadcastInDim S16384x20 ![] bcast_S_S16384x20 (constant S_ .f32 0x7FC00000#32))

/-- Which entries of a matrix of row numbers are in range. -/
def inRange3 (idx : IVec S16384x16x1 32) : IVec S16384x16 1 :=
  Host.reduce IntOp.andi (andi (cmpi .sge idx (broadcastInDim S16384x16x1 ![] bcast_S_S16384x16x1 (constantI S_ 32 0#32))) (cmpi .sle idx (broadcastInDim S16384x16x1 ![0, 1, 2] bcast_S1x1x1_S16384x16x1_0_1_2 (broadcastInDim S1x1x1 ![2] bcast_S1_S1x1x1_2 (constantI S1 32 16383#32))))) (constantI S_ 1 1#1) reducesTo_S16384x16x1_S16384x16_d2 h_S_

/-- Entries of a column taken by a matrix of row numbers likewise. -/
def taken1s (x : FVec Ideal S16384x1 .f32) (idx : IVec S16384x16x1 32) : FVec Ideal S16384x16x1 .f32 :=
  select (broadcastInDim S16384x16x1 ![0, 1] bcast_S16384x16_S16384x16x1_0_1 (inRange3 idx)) (Host.gather gather_S16384x1_S16384x16x1_S16384x16x1_2_0_n_n_0_2_11 x idx) (broadcastInDim S16384x16x1 ![] bcast_S_S16384x16x1 (constant S_ .f32 0x7FC00000#32))

/-- Rows of a table of 256 columns taken by a matrix of row numbers likewise. -/
def taken256s (x : FVec Ideal S16384x256 .f32) (idx : IVec S16384x16x1 32) : FVec Ideal S16384x16x256 .f32 :=
  select (broadcastInDim S16384x16x256 ![0, 1] bcast_S16384x16_S16384x16x256_0_1 (inRange3 idx)) (Host.gather gather_S16384x256_S16384x16x1_S16384x16x256_2_0_n_n_0_2_1256 x idx) (broadcastInDim S16384x16x256 ![] bcast_S_S16384x16x256 (constant S_ .f32 0x7FC00000#32))

theorem taken_at (x : FVec Ideal S16384x256 .f32) (idx : IVec S16384x1 32) (r : Fin 16384) (q : Fin 256) (k : Fin 16384)
    (hk : (idx (ix2 r 0)).toInt = (k.val : ℤ)) : taken x idx (ix2 r q) = x (ix2 k q) := by
  have hk' := k.isLt
  have hb : (16383#32 : BitVec 32).toInt = 16383 := by decide
  pointwise [taken]
  rw [select_one _ _ _ (fold_one _ (between _ _ (by omega) (by omega)))]
  exact row_at _ x idx r q k hk

theorem taken20_at (x : FVec Ideal S10x20 .f32) (idx : IVec S16384x1 32) (r : Fin 16384) (q : Fin 20) (k : Fin 10)
    (hk : (idx (ix2 r 0)).toInt = (k.val : ℤ)) : taken20 x idx (ix2 r q) = x (ix2 k q) := by
  have hk' := k.isLt
  have hb : (9#32 : BitVec 32).toInt = 9 := by decide
  pointwise [taken20]
  rw [select_one _ _ _ (fold_one _ (between _ _ (by omega) (by omega)))]
  exact row_at _ x idx r q k hk

theorem inRange3_at (idx : IVec S16384x16x1 32) (r : Fin 16384) (o : Fin 16) (k : Fin 16384)
    (hk : (idx (ix3 r o 0)).toInt = (k.val : ℤ)) : inRange3 idx (ix2 r o) = 1#1 := by
  have hk' := k.isLt
  have hb : (16383#32 : BitVec 32).toInt = 16383 := by decide
  pointwise [inRange3]
  exact fold_one _ (between _ _ (by omega) (by omega))

theorem taken1s_at (x : FVec Ideal S16384x1 .f32) (idx : IVec S16384x16x1 32) (r : Fin 16384) (o : Fin 16) (k : Fin 16384)
    (hk : (idx (ix3 r o 0)).toInt = (k.val : ℤ)) : taken1s x idx (ix3 r o 0) = x (ix2 k 0) := by
  pointwise [taken1s]
  rw [select_one _ _ _ (inRange3_at idx r o k hk)]
  exact rows_at _ x idx r o 0 k hk

theorem taken256s_at (x : FVec Ideal S16384x256 .f32) (idx : IVec S16384x16x1 32) (r : Fin 16384) (o : Fin 16) (q : Fin 256) (k : Fin 16384)
    (hk : (idx (ix3 r o 0)).toInt = (k.val : ℤ)) : taken256s x idx (ix3 r o q) = x (ix2 k q) := by
  pointwise [taken256s]
  rw [select_one _ _ _ (inRange3_at idx r o k hk)]
  exact rows_at _ x idx r o q k hk

end Cert.ReferenceIdeal.Rows

end
-- ==== Proof.ReferenceIdeal.Words.lean ====
/- The row numbers, the mask and the bins that the reference computes from the span words. -/
module

public import proofs.«01_k».proof.Proof.ReferenceIdeal.Rows
@[expose] public section

set_option maxRecDepth 16384

noncomputable section

namespace Cert.ReferenceIdeal.Rows

open Cert.ReferenceIdeal Cert.ReferenceIdeal.Gen Cert.ReferenceIdeal.Value
open Cert.Spec
open Idealize.ShloMosaic Idealize.ShloMosaic.TcCoe Idealize.ShloMosaic.Tactic
open Idealize.SL.Sem

variable (V : Valuation τ sig (Elt Ideal))

/-- The words of the span's start and width. -/
abbrev st (r : Fin 16384) : BitVec 32 := (show IVec S16384 32 from V (Proc.devRef .tc main_arg2)) (ix1 r)
abbrev wd (r : Fin 16384) : BitVec 32 := (show IVec S16384 32 from V (Proc.devRef .tc main_arg3)) (ix1 r)

set_option backward.isDefEq.respectTransparency false in
theorem v15_at (r : Fin 16384) : (show IVec S16384 32 from res_main_v15 V) (ix1 r) = wd V r + 1#32 := by
  pointwise [res_main_v15]
  rfl

set_option backward.isDefEq.respectTransparency false in
theorem v18_at (r : Fin 16384) : (show IVec S16384 32 from res_main_v18 V) (ix1 r) = st V r + (wd V r + 1#32) - 1#32 := by
  pointwise [res_main_v18, res_main_v15]
  rfl

set_option backward.isDefEq.respectTransparency false in
theorem v29_at (r : Fin 16384) (o : Fin 16) : (show IVec S16384x16 1 from res_main_v29 V) (ix2 r o) = IntOp.cmpi .slt (BitVec.ofNat 32 o.val) (wd V r + 1#32) := by
  pointwise [res_main_v29, res_main_v19, res_main_v15]
  rfl

set_option backward.isDefEq.respectTransparency false in
theorem v31_at (r : Fin 16384) (o : Fin 16) : (show IVec S16384x16 32 from res_main_v31 V) (ix2 r o) = IntOp.minsi (st V r + BitVec.ofNat 32 o.val) 16383#32 := by
  pointwise [res_main_v31, res_main_v19]
  rfl

/-- A sum of nine words along a row. -/
theorem sum9 (x : IVec S16384x9 32) (r : Fin 16384) : Host.reduce IntOp.addi x (constantI S_ 32 0#32) reducesTo_S16384x9_S16384_d1 h_S_ (ix1 r)
    = Finset.univ.fold IntOp.addi 0#32 fun k : Fin 9 => x (ix2 r k) := by
  pointwise

/-- The comparisons of a width with the nine bounds. -/
def reached (x : IVec S16384 32) : IVec S16384x9 32 :=
  extui 32 (cmpi .sge (broadcastInDim S16384x9 ![0, 1] bcast_S16384x1_S16384x9_0_1 (broadcastInDim S16384x1 ![0] bcast_S16384_S16384x1_0 x)) (broadcastInDim S16384x9 ![0, 1] bcast_S1x9_S16384x9_0_1 (broadcastInDim S1x9 ![1] bcast_S9_S1x9_1 ((fun i => lit0 (S9.rowMajor i)))))) natLt_1_32

theorem reached_at (x : IVec S16384 32) (r : Fin 16384) (k : Fin 9) : reached x (ix2 r k) = (IntOp.cmpi .sge (x (ix1 r)) (lit0 k)).setWidth 32 := by
  pointwise [reached]
  exact congrArg (fun i => (IntOp.cmpi .sge (x (ix1 r)) (lit0 i)).setWidth 32)
    (Fin.ext ((by decide +kernel : ∀ k : Fin 9, (S9.rowMajor (ix1 k)).val = k.val) k))

theorem v61_at (r : Fin 16384) : (show IVec S16384 32 from res_main_v61 V) (ix1 r)
    = Finset.univ.fold IntOp.addi 0#32 fun k : Fin 9 => (IntOp.cmpi .sge (wd V r + 1#32) (lit0 k)).setWidth 32 := by
  refine (sum9 (reached (res_main_v15 V)) r).trans ?_
  refine congrArg (fun f => Finset.univ.fold IntOp.addi 0#32 f) (funext fun k => ?_)
  refine (reached_at (res_main_v15 V) r k).trans ?_
  exact congrArg (fun w => (IntOp.cmpi .sge w (lit0 k)).setWidth 32) (v15_at V r)

/-- Adding the table's height to negative row numbers leaves the others. -/
theorem wrap (w n : BitVec 32) (h : 0 ≤ w.toInt) : Scalar.select (IntOp.cmpi .slt w 0#32) (IntOp.addi w n) w = w := by
  have z : (0#32 : BitVec 32).toInt = 0 := by decide
  show Scalar.select (BitVec.ofBool (decide (w.toInt < (0#32 : BitVec 32).toInt))) (IntOp.addi w n) w = w
  rw [decide_eq_false (by omega)]
  rfl

set_option backward.isDefEq.respectTransparency false in
theorem call4_at (r : Fin 16384) (o : Fin 16) (h : 0 ≤ ((show IVec S16384x16 32 from res_main_v31 V) (ix2 r o)).toInt) :
    (show IVec S16384x16x1 32 from res_main_call4_v5 V) (ix3 r o 0) = (show IVec S16384x16 32 from res_main_v31 V) (ix2 r o) := by
  pointwise [res_main_call4_v5]
  exact wrap _ _ h

set_option backward.isDefEq.respectTransparency false in
theorem call2_at (r : Fin 16384) (o : Fin 16) (h : 0 ≤ ((show IVec S16384x16 32 from res_main_v31 V) (ix2 r o)).toInt) :
    (show IVec S16384x16x1 32 from res_main_call2_v5 V) (ix3 r o 0) = (show IVec S16384x16 32 from res_main_v31 V) (ix2 r o) := by
  pointwise [res_main_call2_v5]
  exact wrap _ _ h

set_option backward.isDefEq.respectTransparency false in
theorem call5_at (r : Fin 16384) (h : 0 ≤ ((show IVec S16384 32 from res_main_v61 V) (ix1 r)).toInt) :
    (show IVec S16384x1 32 from res_main_call5_v5 V) (ix2 r 0) = (show IVec S16384 32 from res_main_v61 V) (ix1 r) := by
  pointwise [res_main_call5_v5]
  exact wrap _ _ h

set_option backward.isDefEq.respectTransparency false in
theorem call6_at (r : Fin 16384) (h : 0 ≤ (st V r).toInt) : (show IVec S16384x1 32 from res_main_call6_v5 V) (ix2 r 0) = st V r := by
  pointwise [res_main_call6_v5]
  exact wrap _ _ h

set_option backward.isDefEq.respectTransparency false in
theorem call7_at (r : Fin 16384) (h : 0 ≤ ((show IVec S16384 32 from res_main_v18 V) (ix1 r)).toInt) :
    (show IVec S16384x1 32 from res_main_call7_v5 V) (ix2 r 0) = (show IVec S16384 32 from res_main_v18 V) (ix1 r) := by
  pointwise [res_main_call7_v5]
  exact wrap _ _ h

/-! The same, as numbers, when the words are in range. -/

variable (hs : ∀ r, (st V r).toNat < 16368) (hw : ∀ r, (wd V r).toNat < 16)
include hs hw

theorem start_int (r : Fin 16384) : ((show IVec S16384x1 32 from res_main_call6_v5 V) (ix2 r 0)).toInt = ((row (st V r).toNat).val : ℤ) := by
  have h1 := hs r
  have e : (st V r).toInt = ((st V r).toNat : ℤ) := by rw [BitVec.toInt_eq_toNat_cond]; split <;> omega
  rw [call6_at V r (by omega), e, row_val (by omega)]

theorem end_int (r : Fin 16384) : ((show IVec S16384x1 32 from res_main_call7_v5 V) (ix2 r 0)).toInt = ((row ((st V r).toNat + (wd V r).toNat)).val : ℤ) := by
  have h1 := hs r
  have h2 := hw r
  have e0 : (st V r + (wd V r + 1#32) - 1#32).toNat = (st V r).toNat + (wd V r).toNat := by
    rw [BitVec.toNat_sub, BitVec.toNat_add, BitVec.toNat_add]
    show (2 ^ 32 - 1 + ((st V r).toNat + ((wd V r).toNat + 1) % 2 ^ 32) % 2 ^ 32) % 2 ^ 32 = _
    omega
  have e : (st V r + (wd V r + 1#32) - 1#32).toInt = ((st V r).toNat + (wd V r).toNat : ℤ) := by
    rw [BitVec.toInt_eq_toNat_cond, e0]; split <;> omega
  rw [call7_at V r (by rw [v18_at, e]; omega), v18_at, e, row_val (by omega)]
  omega

theorem v31_int (r : Fin 16384) (o : Fin 16) : ((show IVec S16384x16 32 from res_main_v31 V) (ix2 r o)).toInt = ((row ((st V r).toNat + o.val)).val : ℤ) := by
  have h1 := hs r
  have h2 := o.isLt
  have e0 : (st V r + BitVec.ofNat 32 o.val).toNat = (st V r).toNat + o.val := by
    rw [BitVec.toNat_add, BitVec.toNat_ofNat]; omega
  have e : (st V r + BitVec.ofNat 32 o.val).toInt = ((st V r).toNat + o.val : ℤ) := by
    rw [BitVec.toInt_eq_toNat_cond, e0]; split <;> omega
  have hb : (16383#32 : BitVec 32).toInt = 16383 := by decide
  rw [v31_at, row_val (by omega)]
  have hc : (st V r + BitVec.ofNat 32 o.val).slt 16383#32 = true := by
    show decide ((st V r + BitVec.ofNat 32 o.val).toInt < (16383#32 : BitVec 32).toInt) = true
    rw [e, hb]; exact decide_eq_true (by omega)
  unfold IntOp.minsi
  rw [hc, if_pos rfl, e]
  omega

theorem call4_int (r : Fin 16384) (o : Fin 16) : ((show IVec S16384x16x1 32 from res_main_call4_v5 V) (ix3 r o 0)).toInt = ((row ((st V r).toNat + o.val)).val : ℤ) := by
  have e := v31_int V hs hw r o
  rw [call4_at V r o (by rw [e]; omega), e]

theorem call2_int (r : Fin 16384) (o : Fin 16) : ((show IVec S16384x16x1 32 from res_main_call2_v5 V) (ix3 r o 0)).toInt = ((row ((st V r).toNat + o.val)).val : ℤ) := by
  have e := v31_int V hs hw r o
  rw [call2_at V r o (by rw [e]; omega), e]

theorem mask_iff (r : Fin 16384) (o : Fin 16) : (show IVec S16384x16 1 from res_main_v29 V) (ix2 r o) = if o.val ≤ (wd V r).toNat then 1#1 else 0#1 := by
  have h1 := hw r
  have h2 := o.isLt
  have e0 : (wd V r + 1#32).toNat = (wd V r).toNat + 1 := by
    rw [BitVec.toNat_add]; show ((wd V r).toNat + 1) % 2 ^ 32 = _; omega
  have e : (wd V r + 1#32).toInt = ((wd V r).toNat + 1 : ℤ) := by
    rw [BitVec.toInt_eq_toNat_cond, e0]; split <;> omega
  have e2 : (BitVec.ofNat 32 o.val).toInt = (o.val : ℤ) := by
    rw [BitVec.toInt_eq_toNat_cond, BitVec.toNat_ofNat]; split <;> omega
  rw [v29_at]
  show BitVec.ofBool (decide ((BitVec.ofNat 32 o.val).toInt < (wd V r + 1#32).toInt)) = _
  rw [e, e2]
  by_cases h : o.val ≤ (wd V r).toNat
  · rw [if_pos h, decide_eq_true (by omega)]; rfl
  · rw [if_neg h, decide_eq_false (by omega)]; rfl

theorem bin_int (r : Fin 16384) : ((show IVec S16384x1 32 from res_main_call5_v5 V) (ix2 r 0)).toInt = (bin (wd V r).toNat : ℤ) := by
  have e : (show IVec S16384 32 from res_main_v61 V) (ix1 r) = BitVec.ofNat 32 (bin (wd V r).toNat) := by
    rw [v61_at]
    have h : wd V r = BitVec.ofNat 32 (⟨(wd V r).toNat, hw r⟩ : Fin 16).val := by simp
    generalize (⟨(wd V r).toNat, hw r⟩ : Fin 16) = k at h
    rw [h]
    have := (by decide +kernel : ∀ k : Fin 16, (Finset.univ.fold IntOp.addi 0#32 fun i : Fin 9 => (IntOp.cmpi .sge (BitVec.ofNat 32 k.val + 1#32) (lit0 i)).setWidth 32) = BitVec.ofNat 32 (bin k.val)) k
    rw [this, BitVec.toNat_ofNat, Nat.mod_eq_of_lt (by have := k.isLt; omega)]
  have b := bin_lt (wd V r).toNat
  have e2 : (BitVec.ofNat 32 (bin (wd V r).toNat)).toInt = (bin (wd V r).toNat : ℤ) := by
    rw [BitVec.toInt_eq_toNat_cond, BitVec.toNat_ofNat]; split <;> omega
  rw [call5_at V r (by rw [e, e2]; omega), e, e2]

end Cert.ReferenceIdeal.Rows

end
-- ==== Proof.ReferenceIdeal.Layers.lean ====
/- The float arrays of the reference, one operation group at a time, read at one entry. -/
module

public import proofs.«01_k».proof.Proof.ReferenceIdeal.Words
@[expose] public section

set_option maxRecDepth 16384

noncomputable section

namespace Cert.ReferenceIdeal.Rows

open Cert.ReferenceIdeal Cert.ReferenceIdeal.Gen Cert.ReferenceIdeal.Value
open Cert.Spec
open Idealize.ShloMosaic Idealize.ShloMosaic.TcCoe Idealize.ShloMosaic.Tactic
open Idealize.SL.Sem

/-- The two later layers of a scoring network on the first one's products. -/
def laterArr (H : FVec Ideal S16384x150 .f32) (b1 : FVec Ideal S150 .f32) (W2 : FVec Ideal S150x150 .f32) (b2 : FVec Ideal S150 .f32)
    (w3 : FVec Ideal S150x1 .f32) (b3 : FVec Ideal S1 .f32) : FVec Ideal S16384x1 .f32 :=
  addf (Host.dotGeneral dot_S16384x150_S150x1_S16384x1_1_0_0_1_n_n none (maximumf (addf (Host.dotGeneral dot_S16384x150_S150x150_S16384x150_1_0_0_1_n_n none (maximumf (addf H (broadcastInDim S16384x150 ![0, 1] bcast_S1x150_S16384x150_0_1 (broadcastInDim S1x150 ![1] bcast_S150_S1x150_1 b1))) (broadcastInDim S16384x150 ![] bcast_S_S16384x150 (constant S_ .f32 0x00000000#32))) W2) (broadcastInDim S16384x150 ![0, 1] bcast_S1x150_S16384x150_0_1 (broadcastInDim S1x150 ![1] bcast_S150_S1x150_1 b2))) (broadcastInDim S16384x150 ![] bcast_S_S16384x150 (constant S_ .f32 0x00000000#32))) w3) (broadcastInDim S16384x1 ![0, 1] bcast_S1x1_S16384x1_0_1 (broadcastInDim S1x1 ![1] bcast_S1_S1x1_1 b3))

theorem laterArr_at (H : FVec Ideal S16384x150 .f32) (b1 : FVec Ideal S150 .f32) (W2 : FVec Ideal S150x150 .f32) (b2 : FVec Ideal S150 .f32)
    (w3 : FVec Ideal S150x1 .f32) (b3 : FVec Ideal S1 .f32) (r : Fin 16384) :
    laterArr H b1 W2 b2 w3 b3 (ix2 r 0) = later (fun j => H (ix2 r j)) (fun j => b1 (ix1 j)) (fun k j => W2 (ix2 k j)) (fun j => b2 (ix1 j)) (fun j => w3 (ix2 j 0)) (b3 (ix1 0)) := by
  pointwise [laterArr]
  rfl

theorem prod256_at (X : FVec Ideal S16384x256 .f32) (W : FVec Ideal S256x150 .f32) (r : Fin 16384) (j : Fin 150) :
    (Host.dotGeneral dot_S16384x256_S256x150_S16384x150_1_0_0_1_n_n none X W : FVec Ideal S16384x150 .f32) (ix2 r j) = products (fun i => X (ix2 r i)) (fun i j => W (ix2 i j)) j := by
  pointwise
  rfl

theorem prod788_at (X : FVec Ideal S16384x788 .f32) (W : FVec Ideal S788x150 .f32) (r : Fin 16384) (j : Fin 150) :
    (Host.dotGeneral dot_S16384x788_S788x150_S16384x150_1_0_0_1_n_n none X W : FVec Ideal S16384x150 .f32) (ix2 r j) = products (fun i => X (ix2 r i)) (fun i j => W (ix2 i j)) j := by
  pointwise
  rfl

/-- Scores where the mask holds and the low constant elsewhere. -/
def maskedArr (b : IVec S16384x16 1) (X : FVec Ideal S16384x16x1 .f32) : FVec Ideal S16384x16 .f32 :=
  select b (shapeCast S16384x16 X shapeCasts_S16384x16x1_S16384x16) (broadcastInDim S16384x16 ![] bcast_S_S16384x16 (id (constant S_ .f32 0xD01502F9#32)))

theorem maskedArr_at (b : IVec S16384x16 1) (X : FVec Ideal S16384x16x1 .f32) (r : Fin 16384) (o : Fin 16) :
    maskedArr b X (ix2 r o) = Scalar.select (b (ix2 r o)) (X (ix3 r o 0)) low := by
  pointwise [maskedArr, low]
  try rfl

/-- Exponentials relative to a row's greatest. -/
def expArr (P : FVec Ideal S16384x16 .f32) : FVec Ideal S16384x16 .f32 :=
  Host.exp (subf P (broadcastInDim S16384x16 ![0, 1] bcast_S16384x1_S16384x16_0_1 (broadcastInDim S16384x1 ![0] bcast_S16384_S16384x1_0 (maximumf (broadcastInDim S16384 ![] bcast_S_S16384 (constant S_ .f32 0xFF800000#32)) (Host.reduce FloatOps.maximumf P (constant S_ .f32 0xFF800000#32) reducesTo_S16384x16_S16384_d1 h_S_)))))

theorem expArr_at (P : FVec Ideal S16384x16 .f32) (r : Fin 16384) (o : Fin 16) :
    expArr P (ix2 r o) = exps (fun o => P (ix2 r o)) o := by
  pointwise [expArr, exps, greatest, bot]
  rw [max_eq_right ((Finset.le_fold_max _).2 (Or.inl le_rfl))]

/-- Exponentials divided by a row's sum. -/
def weightArr (E : FVec Ideal S16384x16 .f32) : FVec Ideal S16384x16 .f32 :=
  Host.divf E (broadcastInDim S16384x16 ![0, 1] bcast_S16384x1_S16384x16_0_1 (broadcastInDim S16384x1 ![0] bcast_S16384_S16384x1_0 (Host.reduceAdd E (constant S_ .f32 0x00000000#32) reducesTo_S16384x16_S16384_d1 h_S_)))

theorem weightArr_at (E : FVec Ideal S16384x16 .f32) (r : Fin 16384) (o : Fin 16) :
    weightArr E (ix2 r o) = Ideal.div (E (ix2 r o)) (∑ i : Fin 16, E (ix2 r i)) := by
  pointwise [weightArr]
  try rfl

/-- A bit as a number. -/
theorem bit_float (b : BitVec 1) : FloatOps.uitofp (F := Ideal) .f32 b = if b = 1#1 then 1 else 0 := by
  rcases BitVec.eq_zero_or_eq_one b with rfl | rfl
  · show (((0 : ℕ) : ℝ) : EReal) = _
    simp
  · show (((1 : ℕ) : ℝ) : EReal) = _
    simp

/-- The pooled rows. -/
def pooledArr (G : FVec Ideal S16384x16x256 .f32) (b : IVec S16384x16 1) (W : FVec Ideal S16384x16 .f32) : FVec Ideal S16384x256 .f32 :=
  Host.reduceAdd (mulf (mulf G (broadcastInDim S16384x16x256 ![0, 1, 2] bcast_S16384x16x1_S16384x16x256_0_1_2 (uitofp .f32 (broadcastInDim S16384x16x1 ![0, 1] bcast_S16384x16_S16384x16x1_0_1 b)))) (broadcastInDim S16384x16x256 ![0, 1, 2] bcast_S16384x16x1_S16384x16x256_0_1_2 (broadcastInDim S16384x16x1 ![0, 1] bcast_S16384x16_S16384x16x1_0_1 W))) (constant S_ .f32 0x00000000#32) reducesTo_S16384x16x256_S16384x256_d1 h_S_

theorem pooledArr_at (G : FVec Ideal S16384x16x256 .f32) (b : IVec S16384x16 1) (W : FVec Ideal S16384x16 .f32) (r : Fin 16384) (q : Fin 256) :
    pooledArr G b W (ix2 r q) = ∑ o : Fin 16, G (ix3 r o q) * (if b (ix2 r o) = 1#1 then 1 else 0) * W (ix2 r o) := by
  pointwise [pooledArr]
  exact Finset.sum_congr rfl fun o _ => by rw [bit_float]

/-- The four parts of a row laid side by side. -/
def partsArr (A B : FVec Ideal S16384x256 .f32) (P : FVec Ideal S16384x256 .f32) (D : FVec Ideal S16384x20 .f32) : FVec Ideal S16384x788 .f32 :=
  (concatenate S16384x788 1 [⟨S16384x512, ((concatenate S16384x512 1 [⟨S16384x256, A⟩, ⟨S16384x256, B⟩] concatenates_S16384x256_S16384x256_S16384x512_d1) : (⟨S16384x512, .f32⟩ : BufTy).Contents (Elt Ideal))⟩, ⟨S16384x256, (P : (⟨S16384x256, .f32⟩ : BufTy).Contents (Elt Ideal))⟩, ⟨S16384x20, (D : (⟨S16384x20, .f32⟩ : BufTy).Contents (Elt Ideal))⟩] concatenates_S16384x512_S16384x256_S16384x20_S16384x788_d1 : (⟨S16384x788, .f32⟩ : BufTy).Contents (Elt Ideal))

theorem partsArr_at (A B P : FVec Ideal S16384x256 .f32) (D : FVec Ideal S16384x20 .f32) (r : Fin 16384) (q : Fin 788) :
    partsArr A B P D (ix2 r q) = if h : q.val < 256 then A (ix2 r ⟨q.val, h⟩) else if h2 : q.val < 512 then B (ix2 r ⟨q.val - 256, by omega⟩)
      else if h3 : q.val < 768 then P (ix2 r ⟨q.val - 512, by omega⟩) else D (ix2 r ⟨q.val - 768, by omega⟩) := by
  pointwise [partsArr]
  by_cases h1 : q.val < 256
  · rw [dif_pos (by omega), dif_pos h1, dif_pos h1]
  · rw [dif_neg h1]
    by_cases h2 : q.val < 512
    · rw [dif_pos h2, dif_neg h1, dif_pos h2]
    · rw [dif_neg h2, dif_neg h2]
      by_cases h3 : q.val < 768
      · rw [dif_pos (by omega), dif_pos h3]
      · rw [dif_neg (by omega), dif_neg h3]
        exact congrArg (fun k : Fin 20 => D (ix2 r k)) (Fin.ext (Nat.sub_sub q.val 512 256))

end Cert.ReferenceIdeal.Rows

end
-- ==== Proof.KernelIdeal.SpanRow.lean ====
/- One row of the span kernel's output block: the vector computation, and that every trip of the loop stores eight such rows. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.Gen.KernelIdeal.Loops
@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The sum over 16 rows by halving: rows 0–7 plus rows 8–15, then 4, 2 and 1. -/
def halve1 (v : FVec F S16x1 .f32) : FVec F S1x1 .f32 :=
  let a := addf (extractStridedSlice S8x1 ![0, 0] v slices_S16x1_o0_0_S8x1) (extractStridedSlice S8x1 ![8, 0] v slices_S16x1_o8_0_S8x1)
  let b := addf (extractStridedSlice S4x1 ![0, 0] a slices_S8x1_o0_0_S4x1) (extractStridedSlice S4x1 ![4, 0] a slices_S8x1_o4_0_S4x1)
  let d := addf (extractStridedSlice S2x1 ![0, 0] b slices_S4x1_o0_0_S2x1) (extractStridedSlice S2x1 ![2, 0] b slices_S4x1_o2_0_S2x1)
  addf (extractStridedSlice S1x1 ![0, 0] d slices_S2x1_o0_0_S1x1) (extractStridedSlice S1x1 ![1, 0] d slices_S2x1_o1_0_S1x1)

/-- The same of 256 columns at once. -/
def halve256 (v : FVec F S16x256 .f32) : FVec F S1x256 .f32 :=
  let a := addf (extractStridedSlice S8x256 ![0, 0] v slices_S16x256_o0_0_S8x256) (extractStridedSlice S8x256 ![8, 0] v slices_S16x256_o8_0_S8x256)
  let b := addf (extractStridedSlice S4x256 ![0, 0] a slices_S8x256_o0_0_S4x256) (extractStridedSlice S4x256 ![4, 0] a slices_S8x256_o4_0_S4x256)
  let d := addf (extractStridedSlice S2x256 ![0, 0] b slices_S4x256_o0_0_S2x256) (extractStridedSlice S2x256 ![2, 0] b slices_S4x256_o2_0_S2x256)
  addf (extractStridedSlice S1x256 ![0, 0] d slices_S2x256_o0_0_S1x256) (extractStridedSlice S1x256 ![1, 0] d slices_S2x256_o1_0_S1x256)

/-- How far a loaded window is rotated so that row `s` comes first. -/
def turn (s : BitVec 32) : BitVec 32 := Scalar.subi 0#32 (Scalar.subi s (k1_mult2 s))

/-- The attention scores of the span's 16 offsets, those past the width replaced. -/
def maskedV (v0 : IVec S16x1 32) (s w : BitVec 32) (T : FVec F S32x1 .f32) : FVec F S16x1 .f32 :=
  select (cmpi .slt v0 (broadcast S16x1 (Scalar.addi w 1#32)))
    (extractStridedSlice S16x1 ![0, 0] (dynamicRotate 0 (turn s) none (shapeCast S32x1 T shapeCasts_S32x1_S32x1) rotates_S32x1_d0) slices_S32x1_o0_0_S16x1)
    (broadcast S16x1 (Scalar.ofBits .f32 0xD01502F9#32))

/-- The greatest of them. -/
def greatestV (p : FVec F S16x1 .f32) : F .f32 :=
  extractAt ![0, 0, 0] (shapeCast S1x1x1 (multiReduction .maximumf [1, 2] S1 (shapeCast S1x16x1 p shapeCasts_S16x1_S1x16x1) 0xFF800000#32 reduces_S1x16x1_S1 (.inl rfl) rfl) shapeCasts_S1_S1x1x1) inpos_S1x1x1_p0_0_0

/-- Their exponentials, relative to the greatest. -/
def expsV (p : FVec F S16x1 .f32) : FVec F S16x1 .f32 := exp (subf p (broadcast S16x1 (greatestV p)))

/-- The softmax weights. -/
def weightsV (p : FVec F S16x1 .f32) : FVec F S16x1 .f32 :=
  divf (expsV p) (broadcast S16x1 (extractAt ![0, 0] (halve1 (expsV p)) inpos_S1x1_p0_0))

/-- The pooled embedding: masked rows times weights, added up. -/
def pooledV (v0 : IVec S16x1 32) (s w : BitVec 32) (T : FVec F S32x1 .f32) (M : FVec F S32x256 .f32) : FVec F S1x256 .f32 :=
  halve256 (mulf (mulf (extractStridedSlice S16x256 ![0, 0] (dynamicRotate 0 (turn s) none M rotates_S32x256_d0) slices_S32x256_o0_0_S16x256)
      (broadcastTo S16x256 (sitofp .f32 (extui 32 (cmpi .slt v0 (broadcast S16x1 (Scalar.addi w 1#32))) natLt_1_32)) broadcasts_S16x1_S16x256))
    (broadcastTo S16x256 (weightsV (maskedV v0 s w T)) broadcasts_S16x1_S16x256))

/-- The width's bin: how many of the nine bounds it reaches. -/
def binW (w : BitVec 32) : BitVec 32 :=
  let d := Scalar.addi w 1#32
  Scalar.addi (Scalar.addi (Scalar.addi (Scalar.addi (Scalar.addi (Scalar.addi (Scalar.addi (Scalar.addi
    (Scalar.extui (Scalar.cmpi .sge d 1#32)) (Scalar.extui (Scalar.cmpi .sge d 2#32))) (Scalar.extui (Scalar.cmpi .sge d 3#32)))
    (Scalar.extui (Scalar.cmpi .sge d 4#32))) (Scalar.extui (Scalar.cmpi .sge d 5#32))) (Scalar.extui (Scalar.cmpi .sge d 8#32)))
    (Scalar.extui (Scalar.cmpi .sge d 16#32))) (Scalar.extui (Scalar.cmpi .sge d 32#32))) (Scalar.extui (Scalar.cmpi .sge d 64#32))

/-- One output row of the span kernel from its start word, its width word and the windows loaded for it: the state rows at the span's start and end,
    the pooled embedding, the width's table row. -/
def rowVec (v0 : IVec S16x1 32) (s w : BitVec 32) (A E M : FVec F S32x256 .f32) (T : FVec F S32x1 .f32) (D : FVec F S8x20 .f32) : FVec F S1x788 .f32 :=
  concatenate S1x788 1 [⟨S1x256, extractStridedSlice S1x256 ![0, 0] (dynamicRotate 0 (turn s) none A rotates_S32x256_d0) slices_S32x256_o0_0_S1x256⟩,
    ⟨S1x256, extractStridedSlice S1x256 ![0, 0] (dynamicRotate 0 (turn (Scalar.subi (Scalar.addi s (Scalar.addi w 1#32)) 1#32)) none E rotates_S32x256_d0) slices_S32x256_o0_0_S1x256⟩,
    ⟨S1x256, pooledV v0 s w T M⟩,
    ⟨S1x20, extractStridedSlice S1x20 ![0, 0] (dynamicRotate 0 (Scalar.subi 0#32 (binW w)) none (shapeCast S8x20 D shapeCasts_S8x20_S8x20) rotates_S8x20_d0) slices_S8x20_o0_0_S1x20⟩]
    concatenates_S1x256_S1x256_S1x256_S1x20_S1x788_d1

/-- The word of a block of words at the place `o`. -/
abbrev wordAt (arg1 : Memref sig .tc .smem S1x1x512 .i32) (X : BufTy.Contents (Elt F) arg1.view.ty) (o : Fin 3 → ℕ) (ho : ∀ a, o a + S1x1x1.size a ≤ S1x1x512.size a) : BitVec 32 :=
  arg1.view.readAt (Elt F) (Rect.unit (s := S1x1x512) o S1x1x1.size ho).toLoadRect X (Shape.Idx.first (numel1_S1x1x1.symm ▸ Nat.one_pos))

/-- The row whose words lie at the place `o` of the two blocks of words. -/
def rowOf (arg1 : Memref sig .tc .smem S1x1x512 .i32) (arg2 : Memref sig .tc .smem S1x1x512 .i32) (arg3 : Memref sig .tc .vmem S16384x256 .f32) (arg4 : Memref sig .tc .vmem S16384x256 .f32) (arg5 : Memref sig .tc .vmem S16384x1 .f32) (arg6 : Memref sig .tc .vmem S16x20 .f32) (v0 : IVec S16x1 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (o : Fin 3 → ℕ) (ho : ∀ a, o a + S1x1x1.size a ≤ S1x1x512.size a)
    (h1 : k1_chk1 (wordAt arg1 X_arg1 o ho)) (h2 : k1_chk2 (wordAt arg1 X_arg1 o ho) (wordAt arg2 X_arg2 o ho)) : FVec F S1x788 .f32 :=
  rowVec v0 (wordAt arg1 X_arg1 o ho) (wordAt arg2 X_arg2 o ho)
    (arg3.view.readAt (Elt F) (Rect.unit (s := S16384x256) (k1_off3 (wordAt arg1 X_arg1 o ho)) S32x256.size h1.2.2.2.1).toLoadRect X_arg3)
    (arg3.view.readAt (Elt F) (Rect.unit (s := S16384x256) (k1_off4 (wordAt arg1 X_arg1 o ho) (wordAt arg2 X_arg2 o ho)) S32x256.size h2.2).toLoadRect X_arg3)
    (arg4.view.readAt (Elt F) (Rect.unit (s := S16384x256) (k1_off3 (wordAt arg1 X_arg1 o ho)) S32x256.size h1.2.2.2.1).toLoadRect X_arg4)
    (arg5.view.readAt (Elt F) (Rect.unit (s := S16384x1) (k1_off2 (wordAt arg1 X_arg1 o ho)) S32x1.size h1.2.1).toLoadRect X_arg5)
    (arg6.view.readAt (Elt F) (Rect.unit (s := S16x20) ![0, 0] S8x20.size (by decide)).toLoadRect X_arg6)

/-- Row 0 of a trip is the row whose words lie at its place. -/
theorem row0 (arg1 : Memref sig .tc .smem S1x1x512 .i32) (arg2 : Memref sig .tc .smem S1x1x512 .i32) (arg3 : Memref sig .tc .vmem S16384x256 .f32) (arg4 : Memref sig .tc .vmem S16384x256 .f32) (arg5 : Memref sig .tc .vmem S16384x1 .f32) (arg6 : Memref sig .tc .vmem S16x20 .f32) (v0 : IVec S16x1 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (k : Fin k1_t1_loop.trips) (k1_hw1 : k1_chk1 (arg1.view.readAt (Elt F) (Rect.unit (s := S1x1x512) (k1_off1 k) S1x1x1.size (k1_off1_inb k)).toLoadRect X_arg1 (Shape.Idx.first (numel1_S1x1x1.symm ▸ Nat.one_pos)))) (k1_hw2 : k1_chk2 (arg1.view.readAt (Elt F) (Rect.unit (s := S1x1x512) (k1_off1 k) S1x1x1.size (k1_off1_inb k)).toLoadRect X_arg1 (Shape.Idx.first (numel1_S1x1x1.symm ▸ Nat.one_pos))) (arg2.view.readAt (Elt F) (Rect.unit (s := S1x1x512) (k1_off1 k) S1x1x1.size (k1_off1_inb k)).toLoadRect X_arg2 (Shape.Idx.first (numel1_S1x1x1.symm ▸ Nat.one_pos)))) :
    trip_k1_t1.sl.v195 arg1 arg2 arg3 arg4 arg5 arg6 v0 X_arg1 X_arg2 X_arg3 X_arg4 X_arg5 X_arg6 k k1_hw1 k1_hw2
      = rowOf arg1 arg2 arg3 arg4 arg5 arg6 v0 X_arg1 X_arg2 X_arg3 X_arg4 X_arg5 X_arg6 (k1_off1 k) (k1_off1_inb k) k1_hw1 k1_hw2 := rfl

/-- Row 1 of a trip is the row whose words lie at its place. -/
theorem row1 (arg1 : Memref sig .tc .smem S1x1x512 .i32) (arg2 : Memref sig .tc .smem S1x1x512 .i32) (arg3 : Memref sig .tc .vmem S16384x256 .f32) (arg4 : Memref sig .tc .vmem S16384x256 .f32) (arg5 : Memref sig .tc .vmem S16384x1 .f32) (arg6 : Memref sig .tc .vmem S16x20 .f32) (v0 : IVec S16x1 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (k : Fin k1_t1_loop.trips) (k1_hw3 : k1_chk3 (arg1.view.readAt (Elt F) (Rect.unit (s := S1x1x512) (k1_off5 k) S1x1x1.size (k1_off5_inb k)).toLoadRect X_arg1 (Shape.Idx.first (numel1_S1x1x1.symm ▸ Nat.one_pos)))) (k1_hw4 : k1_chk4 (arg1.view.readAt (Elt F) (Rect.unit (s := S1x1x512) (k1_off5 k) S1x1x1.size (k1_off5_inb k)).toLoadRect X_arg1 (Shape.Idx.first (numel1_S1x1x1.symm ▸ Nat.one_pos))) (arg2.view.readAt (Elt F) (Rect.unit (s := S1x1x512) (k1_off5 k) S1x1x1.size (k1_off5_inb k)).toLoadRect X_arg2 (Shape.Idx.first (numel1_S1x1x1.symm ▸ Nat.one_pos)))) :
    trip_k1_t1.sl.v387 arg1 arg2 arg3 arg4 arg5 arg6 v0 X_arg1 X_arg2 X_arg3 X_arg4 X_arg5 X_arg6 k k1_hw3 k1_hw4
      = rowOf arg1 arg2 arg3 arg4 arg5 arg6 v0 X_arg1 X_arg2 X_arg3 X_arg4 X_arg5 X_arg6 (k1_off5 k) (k1_off5_inb k) k1_hw3 k1_hw4 := rfl

/-- Row 2 of a trip is the row whose words lie at its place. -/
theorem row2 (arg1 : Memref sig .tc .smem S1x1x512 .i32) (arg2 : Memref sig .tc .smem S1x1x512 .i32) (arg3 : Memref sig .tc .vmem S16384x256 .f32) (arg4 : Memref sig .tc .vmem S16384x256 .f32) (arg5 : Memref sig .tc .vmem S16384x1 .f32) (arg6 : Memref sig .tc .vmem S16x20 .f32) (v0 : IVec S16x1 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (k : Fin k1_t1_loop.trips) (k1_hw5 : k1_chk5 (arg1.view.readAt (Elt F) (Rect.unit (s := S1x1x512) (k1_off9 k) S1x1x1.size (k1_off9_inb k)).toLoadRect X_arg1 (Shape.Idx.first (numel1_S1x1x1.symm ▸ Nat.one_pos)))) (k1_hw6 : k1_chk6 (arg1.view.readAt (Elt F) (Rect.unit (s := S1x1x512) (k1_off9 k) S1x1x1.size (k1_off9_inb k)).toLoadRect X_arg1 (Shape.Idx.first (numel1_S1x1x1.symm ▸ Nat.one_pos))) (arg2.view.readAt (Elt F) (Rect.unit (s := S1x1x512) (k1_off9 k) S1x1x1.size (k1_off9_inb k)).toLoadRect X_arg2 (Shape.Idx.first (numel1_S1x1x1.symm ▸ Nat.one_pos)))) :
    trip_k1_t1.sl.v579 arg1 arg2 arg3 arg4 arg5 arg6 v0 X_arg1 X_arg2 X_arg3 X_arg4 X_arg5 X_arg6 k k1_hw5 k1_hw6
      = rowOf arg1 arg2 arg3 arg4 arg5 arg6 v0 X_arg1 X_arg2 X_arg3 X_arg4 X_arg5 X_arg6 (k1_off9 k) (k1_off9_inb k) k1_hw5 k1_hw6 := rfl

/-- Row 3 of a trip is the row whose words lie at its place. -/
theorem row3 (arg1 : Memref sig .tc .smem S1x1x512 .i32) (arg2 : Memref sig .tc .smem S1x1x512 .i32) (arg3 : Memref sig .tc .vmem S16384x256 .f32) (arg4 : Memref sig .tc .vmem S16384x256 .f32) (arg5 : Memref sig .tc .vmem S16384x1 .f32) (arg6 : Memref sig .tc .vmem S16x20 .f32) (v0 : IVec S16x1 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (k : Fin k1_t1_loop.trips) (k1_hw7 : k1_chk7 (arg1.view.readAt (Elt F) (Rect.unit (s := S1x1x512) (k1_off13 k) S1x1x1.size (k1_off13_inb k)).toLoadRect X_arg1 (Shape.Idx.first (numel1_S1x1x1.symm ▸ Nat.one_pos)))) (k1_hw8 : k1_chk8 (arg1.view.readAt (Elt F) (Rect.unit (s := S1x1x512) (k1_off13 k) S1x1x1.size (k1_off13_inb k)).toLoadRect X_arg1 (Shape.Idx.first (numel1_S1x1x1.symm ▸ Nat.one_pos))) (arg2.view.readAt (Elt F) (Rect.unit (s := S1x1x512) (k1_off13 k) S1x1x1.size (k1_off13_inb k)).toLoadRect X_arg2 (Shape.Idx.first (numel1_S1x1x1.symm ▸ Nat.one_pos)))) :
    trip_k1_t1.sl.v771 arg1 arg2 arg3 arg4 arg5 arg6 v0 X_arg1 X_arg2 X_arg3 X_arg4 X_arg5 X_arg6 k k1_hw7 k1_hw8
      = rowOf arg1 arg2 arg3 arg4 arg5 arg6 v0 X_arg1 X_arg2 X_arg3 X_arg4 X_arg5 X_arg6 (k1_off13 k) (k1_off13_inb k) k1_hw7 k1_hw8 := rfl

/-- Row 4 of a trip is the row whose words lie at its place. -/
theorem row4 (arg1 : Memref sig .tc .smem S1x1x512 .i32) (arg2 : Memref sig .tc .smem S1x1x512 .i32) (arg3 : Memref sig .tc .vmem S16384x256 .f32) (arg4 : Memref sig .tc .vmem S16384x256 .f32) (arg5 : Memref sig .tc .vmem S16384x1 .f32) (arg6 : Memref sig .tc .vmem S16x20 .f32) (v0 : IVec S16x1 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (k : Fin k1_t1_loop.trips) (k1_hw9 : k1_chk9 (arg1.view.readAt (Elt F) (Rect.unit (s := S1x1x512) (k1_off17 k) S1x1x1.size (k1_off17_inb k)).toLoadRect X_arg1 (Shape.Idx.first (numel1_S1x1x1.symm ▸ Nat.one_pos)))) (k1_hw10 : k1_chk10 (arg1.view.readAt (Elt F) (Rect.unit (s := S1x1x512) (k1_off17 k) S1x1x1.size (k1_off17_inb k)).toLoadRect X_arg1 (Shape.Idx.first (numel1_S1x1x1.symm ▸ Nat.one_pos))) (arg2.view.readAt (Elt F) (Rect.unit (s := S1x1x512) (k1_off17 k) S1x1x1.size (k1_off17_inb k)).toLoadRect X_arg2 (Shape.Idx.first (numel1_S1x1x1.symm ▸ Nat.one_pos)))) :
    trip_k1_t1.sl.v963 arg1 arg2 arg3 arg4 arg5 arg6 v0 X_arg1 X_arg2 X_arg3 X_arg4 X_arg5 X_arg6 k k1_hw9 k1_hw10
      = rowOf arg1 arg2 arg3 arg4 arg5 arg6 v0 X_arg1 X_arg2 X_arg3 X_arg4 X_arg5 X_arg6 (k1_off17 k) (k1_off17_inb k) k1_hw9 k1_hw10 := rfl

/-- Row 5 of a trip is the row whose words lie at its place. -/
theorem row5 (arg1 : Memref sig .tc .smem S1x1x512 .i32) (arg2 : Memref sig .tc .smem S1x1x512 .i32) (arg3 : Memref sig .tc .vmem S16384x256 .f32) (arg4 : Memref sig .tc .vmem S16384x256 .f32) (arg5 : Memref sig .tc .vmem S16384x1 .f32) (arg6 : Memref sig .tc .vmem S16x20 .f32) (v0 : IVec S16x1 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (k : Fin k1_t1_loop.trips) (k1_hw11 : k1_chk11 (arg1.view.readAt (Elt F) (Rect.unit (s := S1x1x512) (k1_off21 k) S1x1x1.size (k1_off21_inb k)).toLoadRect X_arg1 (Shape.Idx.first (numel1_S1x1x1.symm ▸ Nat.one_pos)))) (k1_hw12 : k1_chk12 (arg1.view.readAt (Elt F) (Rect.unit (s := S1x1x512) (k1_off21 k) S1x1x1.size (k1_off21_inb k)).toLoadRect X_arg1 (Shape.Idx.first (numel1_S1x1x1.symm ▸ Nat.one_pos))) (arg2.view.readAt (Elt F) (Rect.unit (s := S1x1x512) (k1_off21 k) S1x1x1.size (k1_off21_inb k)).toLoadRect X_arg2 (Shape.Idx.first (numel1_S1x1x1.symm ▸ Nat.one_pos)))) :
    trip_k1_t1.sl.v1155 arg1 arg2 arg3 arg4 arg5 arg6 v0 X_arg1 X_arg2 X_arg3 X_arg4 X_arg5 X_arg6 k k1_hw11 k1_hw12
      = rowOf arg1 arg2 arg3 arg4 arg5 arg6 v0 X_arg1 X_arg2 X_arg3 X_arg4 X_arg5 X_arg6 (k1_off21 k) (k1_off21_inb k) k1_hw11 k1_hw12 := rfl

/-- Row 6 of a trip is the row whose words lie at its place. -/
theorem row6 (arg1 : Memref sig .tc .smem S1x1x512 .i32) (arg2 : Memref sig .tc .smem S1x1x512 .i32) (arg3 : Memref sig .tc .vmem S16384x256 .f32) (arg4 : Memref sig .tc .vmem S16384x256 .f32) (arg5 : Memref sig .tc .vmem S16384x1 .f32) (arg6 : Memref sig .tc .vmem S16x20 .f32) (v0 : IVec S16x1 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (k : Fin k1_t1_loop.trips) (k1_hw13 : k1_chk13 (arg1.view.readAt (Elt F) (Rect.unit (s := S1x1x512) (k1_off25 k) S1x1x1.size (k1_off25_inb k)).toLoadRect X_arg1 (Shape.Idx.first (numel1_S1x1x1.symm ▸ Nat.one_pos)))) (k1_hw14 : k1_chk14 (arg1.view.readAt (Elt F) (Rect.unit (s := S1x1x512) (k1_off25 k) S1x1x1.size (k1_off25_inb k)).toLoadRect X_arg1 (Shape.Idx.first (numel1_S1x1x1.symm ▸ Nat.one_pos))) (arg2.view.readAt (Elt F) (Rect.unit (s := S1x1x512) (k1_off25 k) S1x1x1.size (k1_off25_inb k)).toLoadRect X_arg2 (Shape.Idx.first (numel1_S1x1x1.symm ▸ Nat.one_pos)))) :
    trip_k1_t1.sl.v1347 arg1 arg2 arg3 arg4 arg5 arg6 v0 X_arg1 X_arg2 X_arg3 X_arg4 X_arg5 X_arg6 k k1_hw13 k1_hw14
      = rowOf arg1 arg2 arg3 arg4 arg5 arg6 v0 X_arg1 X_arg2 X_arg3 X_arg4 X_arg5 X_arg6 (k1_off25 k) (k1_off25_inb k) k1_hw13 k1_hw14 := rfl

/-- Row 7 of a trip is the row whose words lie at its place. -/
theorem row7 (arg1 : Memref sig .tc .smem S1x1x512 .i32) (arg2 : Memref sig .tc .smem S1x1x512 .i32) (arg3 : Memref sig .tc .vmem S16384x256 .f32) (arg4 : Memref sig .tc .vmem S16384x256 .f32) (arg5 : Memref sig .tc .vmem S16384x1 .f32) (arg6 : Memref sig .tc .vmem S16x20 .f32) (v0 : IVec S16x1 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (k : Fin k1_t1_loop.trips) (k1_hw15 : k1_chk15 (arg1.view.readAt (Elt F) (Rect.unit (s := S1x1x512) (k1_off29 k) S1x1x1.size (k1_off29_inb k)).toLoadRect X_arg1 (Shape.Idx.first (numel1_S1x1x1.symm ▸ Nat.one_pos)))) (k1_hw16 : k1_chk16 (arg1.view.readAt (Elt F) (Rect.unit (s := S1x1x512) (k1_off29 k) S1x1x1.size (k1_off29_inb k)).toLoadRect X_arg1 (Shape.Idx.first (numel1_S1x1x1.symm ▸ Nat.one_pos))) (arg2.view.readAt (Elt F) (Rect.unit (s := S1x1x512) (k1_off29 k) S1x1x1.size (k1_off29_inb k)).toLoadRect X_arg2 (Shape.Idx.first (numel1_S1x1x1.symm ▸ Nat.one_pos)))) :
    trip_k1_t1.sl.v1539 arg1 arg2 arg3 arg4 arg5 arg6 v0 X_arg1 X_arg2 X_arg3 X_arg4 X_arg5 X_arg6 k k1_hw15 k1_hw16
      = rowOf arg1 arg2 arg3 arg4 arg5 arg6 v0 X_arg1 X_arg2 X_arg3 X_arg4 X_arg5 X_arg6 (k1_off29 k) (k1_off29_inb k) k1_hw15 k1_hw16 := rfl

/-- A trip of the loop stores one piece: eight rows. -/
theorem trip_piece (𝒱 : Variants) (c : Dev nD) (bd : Option 𝒱.V) (i : grid1.Coords) (arg1 : Memref sig .tc .smem S1x1x512 .i32) (harg1 : arg1.IsWhole) (arg2 : Memref sig .tc .smem S1x1x512 .i32) (harg2 : arg2.IsWhole) (arg3 : Memref sig .tc .vmem S16384x256 .f32) (harg3 : arg3.IsWhole) (arg4 : Memref sig .tc .vmem S16384x256 .f32) (harg4 : arg4.IsWhole) (arg5 : Memref sig .tc .vmem S16384x1 .f32) (harg5 : arg5.IsWhole) (arg6 : Memref sig .tc .vmem S16x20 .f32) (harg6 : arg6.IsWhole) (arg7 : Memref sig .tc .vmem S512x788 .f32) (harg7 : arg7.IsWhole) (v0 : IVec S16x1 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (k : Fin k1_t1_loop.trips) (k1_hw1 : k1_chk1 (arg1.view.readAt (Elt F) (Rect.unit (s := S1x1x512) (k1_off1 k) S1x1x1.size (k1_off1_inb k)).toLoadRect X_arg1 (Shape.Idx.first (numel1_S1x1x1.symm ▸ Nat.one_pos)))) (k1_hw2 : k1_chk2 (arg1.view.readAt (Elt F) (Rect.unit (s := S1x1x512) (k1_off1 k) S1x1x1.size (k1_off1_inb k)).toLoadRect X_arg1 (Shape.Idx.first (numel1_S1x1x1.symm ▸ Nat.one_pos))) (arg2.view.readAt (Elt F) (Rect.unit (s := S1x1x512) (k1_off1 k) S1x1x1.size (k1_off1_inb k)).toLoadRect X_arg2 (Shape.Idx.first (numel1_S1x1x1.symm ▸ Nat.one_pos)))) (k1_hw3 : k1_chk3 (arg1.view.readAt (Elt F) (Rect.unit (s := S1x1x512) (k1_off5 k) S1x1x1.size (k1_off5_inb k)).toLoadRect X_arg1 (Shape.Idx.first (numel1_S1x1x1.symm ▸ Nat.one_pos)))) (k1_hw4 : k1_chk4 (arg1.view.readAt (Elt F) (Rect.unit (s := S1x1x512) (k1_off5 k) S1x1x1.size (k1_off5_inb k)).toLoadRect X_arg1 (Shape.Idx.first (numel1_S1x1x1.symm ▸ Nat.one_pos))) (arg2.view.readAt (Elt F) (Rect.unit (s := S1x1x512) (k1_off5 k) S1x1x1.size (k1_off5_inb k)).toLoadRect X_arg2 (Shape.Idx.first (numel1_S1x1x1.symm ▸ Nat.one_pos)))) (k1_hw5 : k1_chk5 (arg1.view.readAt (Elt F) (Rect.unit (s := S1x1x512) (k1_off9 k) S1x1x1.size (k1_off9_inb k)).toLoadRect X_arg1 (Shape.Idx.first (numel1_S1x1x1.symm ▸ Nat.one_pos)))) (k1_hw6 : k1_chk6 (arg1.view.readAt (Elt F) (Rect.unit (s := S1x1x512) (k1_off9 k) S1x1x1.size (k1_off9_inb k)).toLoadRect X_arg1 (Shape.Idx.first (numel1_S1x1x1.symm ▸ Nat.one_pos))) (arg2.view.readAt (Elt F) (Rect.unit (s := S1x1x512) (k1_off9 k) S1x1x1.size (k1_off9_inb k)).toLoadRect X_arg2 (Shape.Idx.first (numel1_S1x1x1.symm ▸ Nat.one_pos)))) (k1_hw7 : k1_chk7 (arg1.view.readAt (Elt F) (Rect.unit (s := S1x1x512) (k1_off13 k) S1x1x1.size (k1_off13_inb k)).toLoadRect X_arg1 (Shape.Idx.first (numel1_S1x1x1.symm ▸ Nat.one_pos)))) (k1_hw8 : k1_chk8 (arg1.view.readAt (Elt F) (Rect.unit (s := S1x1x512) (k1_off13 k) S1x1x1.size (k1_off13_inb k)).toLoadRect X_arg1 (Shape.Idx.first (numel1_S1x1x1.symm ▸ Nat.one_pos))) (arg2.view.readAt (Elt F) (Rect.unit (s := S1x1x512) (k1_off13 k) S1x1x1.size (k1_off13_inb k)).toLoadRect X_arg2 (Shape.Idx.first (numel1_S1x1x1.symm ▸ Nat.one_pos)))) (k1_hw9 : k1_chk9 (arg1.view.readAt (Elt F) (Rect.unit (s := S1x1x512) (k1_off17 k) S1x1x1.size (k1_off17_inb k)).toLoadRect X_arg1 (Shape.Idx.first (numel1_S1x1x1.symm ▸ Nat.one_pos)))) (k1_hw10 : k1_chk10 (arg1.view.readAt (Elt F) (Rect.unit (s := S1x1x512) (k1_off17 k) S1x1x1.size (k1_off17_inb k)).toLoadRect X_arg1 (Shape.Idx.first (numel1_S1x1x1.symm ▸ Nat.one_pos))) (arg2.view.readAt (Elt F) (Rect.unit (s := S1x1x512) (k1_off17 k) S1x1x1.size (k1_off17_inb k)).toLoadRect X_arg2 (Shape.Idx.first (numel1_S1x1x1.symm ▸ Nat.one_pos)))) (k1_hw11 : k1_chk11 (arg1.view.readAt (Elt F) (Rect.unit (s := S1x1x512) (k1_off21 k) S1x1x1.size (k1_off21_inb k)).toLoadRect X_arg1 (Shape.Idx.first (numel1_S1x1x1.symm ▸ Nat.one_pos)))) (k1_hw12 : k1_chk12 (arg1.view.readAt (Elt F) (Rect.unit (s := S1x1x512) (k1_off21 k) S1x1x1.size (k1_off21_inb k)).toLoadRect X_arg1 (Shape.Idx.first (numel1_S1x1x1.symm ▸ Nat.one_pos))) (arg2.view.readAt (Elt F) (Rect.unit (s := S1x1x512) (k1_off21 k) S1x1x1.size (k1_off21_inb k)).toLoadRect X_arg2 (Shape.Idx.first (numel1_S1x1x1.symm ▸ Nat.one_pos)))) (k1_hw13 : k1_chk13 (arg1.view.readAt (Elt F) (Rect.unit (s := S1x1x512) (k1_off25 k) S1x1x1.size (k1_off25_inb k)).toLoadRect X_arg1 (Shape.Idx.first (numel1_S1x1x1.symm ▸ Nat.one_pos)))) (k1_hw14 : k1_chk14 (arg1.view.readAt (Elt F) (Rect.unit (s := S1x1x512) (k1_off25 k) S1x1x1.size (k1_off25_inb k)).toLoadRect X_arg1 (Shape.Idx.first (numel1_S1x1x1.symm ▸ Nat.one_pos))) (arg2.view.readAt (Elt F) (Rect.unit (s := S1x1x512) (k1_off25 k) S1x1x1.size (k1_off25_inb k)).toLoadRect X_arg2 (Shape.Idx.first (numel1_S1x1x1.symm ▸ Nat.one_pos)))) (k1_hw15 : k1_chk15 (arg1.view.readAt (Elt F) (Rect.unit (s := S1x1x512) (k1_off29 k) S1x1x1.size (k1_off29_inb k)).toLoadRect X_arg1 (Shape.Idx.first (numel1_S1x1x1.symm ▸ Nat.one_pos)))) (k1_hw16 : k1_chk16 (arg1.view.readAt (Elt F) (Rect.unit (s := S1x1x512) (k1_off29 k) S1x1x1.size (k1_off29_inb k)).toLoadRect X_arg1 (Shape.Idx.first (numel1_S1x1x1.symm ▸ Nat.one_pos))) (arg2.view.readAt (Elt F) (Rect.unit (s := S1x1x512) (k1_off29 k) S1x1x1.size (k1_off29_inb k)).toLoadRect X_arg2 (Shape.Idx.first (numel1_S1x1x1.symm ▸ Nat.one_pos)))) :
    tripL_k1_t1 (F := F)  𝒱 c bd i arg1 harg1 arg2 harg2 arg3 harg3 arg4 harg4 arg5 harg5 arg6 harg6 arg7 harg7 v0 X_arg1 X_arg2 X_arg3 X_arg4 X_arg5 X_arg6 k k1_hw1 k1_hw2 k1_hw3 k1_hw4 k1_hw5 k1_hw6 k1_hw7 k1_hw8 k1_hw9 k1_hw10 k1_hw11 k1_hw12 k1_hw13 k1_hw14 k1_hw15 k1_hw16
      = [⟨Rect.unit (s := S512x788) (k1_off33 k) ![8, 788] (k1_off33_inb k), k1_pay1 (rowOf arg1 arg2 arg3 arg4 arg5 arg6 v0 X_arg1 X_arg2 X_arg3 X_arg4 X_arg5 X_arg6 (k1_off1 k) (k1_off1_inb k) k1_hw1 k1_hw2) (rowOf arg1 arg2 arg3 arg4 arg5 arg6 v0 X_arg1 X_arg2 X_arg3 X_arg4 X_arg5 X_arg6 (k1_off5 k) (k1_off5_inb k) k1_hw3 k1_hw4) (rowOf arg1 arg2 arg3 arg4 arg5 arg6 v0 X_arg1 X_arg2 X_arg3 X_arg4 X_arg5 X_arg6 (k1_off9 k) (k1_off9_inb k) k1_hw5 k1_hw6) (rowOf arg1 arg2 arg3 arg4 arg5 arg6 v0 X_arg1 X_arg2 X_arg3 X_arg4 X_arg5 X_arg6 (k1_off13 k) (k1_off13_inb k) k1_hw7 k1_hw8) (rowOf arg1 arg2 arg3 arg4 arg5 arg6 v0 X_arg1 X_arg2 X_arg3 X_arg4 X_arg5 X_arg6 (k1_off17 k) (k1_off17_inb k) k1_hw9 k1_hw10) (rowOf arg1 arg2 arg3 arg4 arg5 arg6 v0 X_arg1 X_arg2 X_arg3 X_arg4 X_arg5 X_arg6 (k1_off21 k) (k1_off21_inb k) k1_hw11 k1_hw12) (rowOf arg1 arg2 arg3 arg4 arg5 arg6 v0 X_arg1 X_arg2 X_arg3 X_arg4 X_arg5 X_arg6 (k1_off25 k) (k1_off25_inb k) k1_hw13 k1_hw14) (rowOf arg1 arg2 arg3 arg4 arg5 arg6 v0 X_arg1 X_arg2 X_arg3 X_arg4 X_arg5 X_arg6 (k1_off29 k) (k1_off29_inb k) k1_hw15 k1_hw16)⟩] := by
  unfold tripL_k1_t1 trip_k1_t1
  dsimp only
  rw [row0, row1, row2, row3, row4, row5, row6, row7]

end Cert.KernelIdeal.Run

end
-- ==== Proof.KernelIdeal.SpanValue.lean ====
/- What one output row of the span kernel holds, column by column. -/
module

public import proofs.«01_k».proof.Proof.KernelIdeal.SpanRow
public import proofs.«01_k».proof.Proof.KernelIdeal.Words
public import proofs.«01_k».proof.Proof.Shared.Spec
public import Idealize.ShloMosaic.Lib.Pointwise
public import Idealize.ShloMosaic.Lib.WordCmp

@[expose] public section

set_option maxRecDepth 16384

noncomputable section

namespace Cert.KernelIdeal.Run

open Cert.KernelIdeal Cert.KernelIdeal.Gen Cert.Spec
open Idealize.ShloMosaic

/-- A window rotated by `turn s` has row `s + j` of the array at its row `j`. -/
theorem turn_row (s : BitVec 32) (h : s.toNat < 16384) (j : ℕ) (hj : s.toNat + j < 16384) (hj' : j < 16) :
    (k1_mult2 s).toNat + (j + 32 - (turn s).toNat % 32) % 32 = s.toNat + j := by
  have e := aligned_toNat s h
  have et : (turn s).toNat = (2 ^ 32 - (s.toNat - (k1_mult2 s).toNat)) % 2 ^ 32 := by
    unfold turn Scalar.subi IntOp.subi
    rw [BitVec.toNat_sub, BitVec.toNat_sub]
    simp only [BitVec.toNat_ofNat]
    omega
  rw [et]
  omega

/-- The window of 32 rows from row `a` of `X`. -/
def Win {n : ℕ} (s : BitVec 32) (X : Fin 16384 → Fin n → EReal) (A : FVec Ideal ⟨2, ![32, n]⟩ .f32) : Prop :=
  ∀ (r : Fin 32) (q : Fin n), A (ix2 r q) = X (row ((k1_mult2 s).toNat + r.val)) q

set_option backward.isDefEq.respectTransparency false in
theorem first_row (s : BitVec 32) (h : s.toNat < 16384) (X : Fin 16384 → Fin 256 → EReal) (A : FVec Ideal S32x256 .f32) (hA : Win s X A) (q : Fin 256) :
    extractStridedSlice S1x256 ![0, 0] (dynamicRotate 0 (turn s) none A rotates_S32x256_d0) slices_S32x256_o0_0_S1x256 (ix2 0 q) = X (row s.toNat) q := by
  pointwise
  have e := turn_row s h 0 (by omega) (by omega)
  simp only [Nat.zero_add, Nat.add_zero] at e
  exact (hA _ _).trans (congrArg (fun n => X (row n) q) e)

set_option backward.isDefEq.respectTransparency false in
theorem rows16 (s : BitVec 32) (h : s.toNat < 16368) (X : Fin 16384 → Fin 256 → EReal) (A : FVec Ideal S32x256 .f32) (hA : Win s X A) (o : Fin 16) (q : Fin 256) :
    extractStridedSlice S16x256 ![0, 0] (dynamicRotate 0 (turn s) none A rotates_S32x256_d0) slices_S32x256_o0_0_S16x256 (ix2 o q) = X (row (s.toNat + o.val)) q := by
  pointwise
  exact (hA _ _).trans (congrArg (fun n => X (row n) q) (turn_row s (by omega) o.val (by omega) o.isLt))

theorem width_test_nat : ∀ o w : Fin 16, IntOp.cmpi .slt (BitVec.ofNat 32 o.val) (Scalar.addi (BitVec.ofNat 32 w.val) 1#32) = if o.val ≤ w.val then 1#1 else 0#1 := by
  decide

theorem bin_turn_nat : ∀ w : Fin 16, (8 - (Scalar.subi 0#32 (binW (BitVec.ofNat 32 w.val))).toNat % 8) % 8 = bin w.val := by
  decide

/-- Turning the table by the width's bin brings the bin's row to the front. -/
theorem bin_turn (n : Fin 16) (w : BitVec 32) (h : BitVec.ofNat 32 n.val = w) : (8 - (Scalar.subi 0#32 (binW w)).toNat % 8) % 8 = bin n.val := by
  subst h; exact bin_turn_nat n

/-- A width word below 16 is the word of its number. -/
theorem width_word (w : BitVec 32) (hw : w.toNat < 16) : BitVec.ofNat 32 (⟨w.toNat, hw⟩ : Fin 16).val = w := by
  simp

/-- The kernel's test of an offset against the width. -/
theorem width_test (o : Fin 16) (w : BitVec 32) (hw : w.toNat < 16) :
    IntOp.cmpi .slt (BitVec.ofNat 32 o.val) (Scalar.addi w 1#32) = if o.val ≤ w.toNat then 1#1 else 0#1 := by
  have e := width_test_nat o ⟨w.toNat, hw⟩
  rwa [width_word] at e

set_option backward.isDefEq.respectTransparency false in
theorem masked_at (s w : BitVec 32) (h : s.toNat < 16368) (hw : w.toNat < 16) (X : Fin 16384 → EReal) (T : FVec Ideal S32x1 .f32) (hT : Win s (fun r _ => X r) T) (o : Fin 16) :
    maskedV (iota .tc S16x1 32 [0] iota_S16x1_d0_w32) s w T (ix2 o 0) = masked X s.toNat w.toNat o := by
  pointwise [maskedV]
  rw [width_test o w hw]
  unfold masked
  by_cases hc : o.val ≤ w.toNat
  · rw [if_pos hc, if_pos hc]
    exact (hT _ _).trans (congrArg (fun n => X (row n)) (turn_row s (by omega) o.val (by omega) o.isLt))
  · rw [if_neg hc, if_neg hc]; rfl

set_option backward.isDefEq.respectTransparency false in
theorem halve1_at (v : FVec Ideal S16x1 .f32) : halve1 v (ix2 0 0) = ∑ o : Fin 16, v (ix2 o 0) := by
  rw [← halve]
  pointwise [halve1]

set_option backward.isDefEq.respectTransparency false in
theorem halve256_at (v : FVec Ideal S16x256 .f32) (q : Fin 256) : halve256 v (ix2 0 q) = ∑ o : Fin 16, v (ix2 o q) := by
  rw [← halve]
  pointwise [halve256]

set_option backward.isDefEq.respectTransparency false in
/-- The greatest score, as the folded maximum of the 16 scores. -/
theorem greatest_at (p : FVec Ideal S16x1 .f32) : greatestV p = greatest (fun o => p (ix2 o 0)) := by
  unfold greatestV
  pointwise
  unfold greatest
  refine fold_max_eq _ _ _ (fun y => y.1) (fun o => (o, 0)) ?_ ?_ _ (fun _ => Finset.mem_univ _)
  · intro y; rfl
  · intro o; rfl

set_option backward.isDefEq.respectTransparency false in
theorem weights_at (p : FVec Ideal S16x1 .f32) (o : Fin 16) : weightsV p (ix2 o 0) = weight (fun o => p (ix2 o 0)) o := by
  have he : ∀ o : Fin 16, expsV p (ix2 o 0) = exps (fun o => p (ix2 o 0)) o := by
    intro o
    pointwise [expsV]
    rw [greatest_at]
    rfl
  pointwise [weightsV]
  rw [he]
  have h1 := halve1_at (expsV p)
  simp only [he] at h1
  rw [h1]
  rfl

set_option backward.isDefEq.respectTransparency false in
/-- The pooled embedding of one span. -/
theorem pooled_at (s w : BitVec 32) (h : s.toNat < 16368) (hw : w.toNat < 16) (X : Fin 16384 → EReal) (T : FVec Ideal S32x1 .f32) (hT : Win s (fun r _ => X r) T)
    (Y : Fin 16384 → Fin 256 → EReal) (M : FVec Ideal S32x256 .f32) (hM : Win s Y M) (q : Fin 256) :
    pooledV (iota .tc S16x1 32 [0] iota_S16x1_d0_w32) s w T M (ix2 0 q) = pooled Y X s.toNat w.toNat q := by
  unfold pooledV
  rw [halve256_at]
  unfold pooled
  refine Finset.sum_congr rfl fun o _ => ?_
  have h1 := rows16 s h Y M hM o q
  have h2 := weights_at (maskedV (iota .tc S16x1 32 [0] iota_S16x1_d0_w32) s w T) o
  simp only [masked_at s w h hw X T hT] at h2
  show _ * _ * _ = _
  rw [h1]
  refine congrArg₂ (· * ·) (congrArg₂ (· * ·) rfl ?_) ?_
  · pointwise
    rw [width_test o w hw]
    split
    · show (((BitVec.setWidth 32 1#1).toInt : ℝ) : EReal) = 1
      simp
    · show (((BitVec.setWidth 32 0#1).toInt : ℝ) : EReal) = 0
      simp
  · pointwise
    exact h2

set_option backward.isDefEq.respectTransparency false in
/-- The width's row of the table. -/
theorem dist_at (w : BitVec 32) (hw : w.toNat < 16) (D : FVec Ideal S8x20 .f32) (q : Fin 20) :
    extractStridedSlice S1x20 ![0, 0] (dynamicRotate 0 (Scalar.subi 0#32 (binW w)) none (shapeCast S8x20 D shapeCasts_S8x20_S8x20) rotates_S8x20_d0) slices_S8x20_o0_0_S1x20 (ix2 0 q)
      = D (ix2 ⟨bin w.toNat, bin_lt _⟩ q) := by
  pointwise
  refine congrArg (fun r => D (ix2 r q)) (Fin.ext ?_)
  exact bin_turn ⟨w.toNat, hw⟩ w (width_word w hw)

/-- One output row, column by column. -/
def spanAt (S M : Fin 16384 → Fin 256 → EReal) (T : Fin 16384 → EReal) (D : Fin 8 → Fin 20 → EReal) (s w : ℕ) (q : Fin 788) : EReal :=
  if h1 : q.val < 256 then S (row s) ⟨q.val, h1⟩
  else if h2 : q.val < 512 then S (row (s + w)) ⟨q.val - 256, by omega⟩
  else if h3 : q.val < 768 then pooled M T s w ⟨q.val - 512, by omega⟩
  else D ⟨bin w, bin_lt w⟩ ⟨q.val - 768, by omega⟩

set_option backward.isDefEq.respectTransparency false in
/-- Four pieces laid end to end, read at a column. -/
theorem four_parts (a b d : FVec Ideal S1x256 .f32) (e : FVec Ideal S1x20 .f32) (q : Fin 788) :
    concatenate S1x788 1 [⟨S1x256, a⟩, ⟨S1x256, b⟩, ⟨S1x256, d⟩, ⟨S1x20, e⟩] concatenates_S1x256_S1x256_S1x256_S1x20_S1x788_d1 (ix2 0 q)
      = if h1 : q.val < 256 then a (ix2 0 ⟨q.val, h1⟩)
        else if h2 : q.val < 512 then b (ix2 0 ⟨q.val - 256, by omega⟩)
        else if h3 : q.val < 768 then d (ix2 0 ⟨q.val - 512, by omega⟩)
        else e (ix2 0 ⟨q.val - 768, by omega⟩) := by
  pointwise
  by_cases h1 : q.val < 256
  · rw [dif_pos h1, dif_pos h1]
  rw [dif_neg h1, dif_neg h1]
  by_cases h2 : q.val < 512
  · rw [dif_pos (show q.val - 256 < 256 by omega), dif_pos h2]
  rw [dif_neg (show ¬q.val - 256 < 256 by omega), dif_neg h2]
  by_cases h3 : q.val < 768
  · rw [dif_pos (show q.val - 256 - 256 < 256 by omega), dif_pos h3]
    exact congrArg (fun k => d (ix2 0 k)) (Fin.ext (by show q.val - 256 - 256 = q.val - 512; omega))
  rw [dif_neg (show ¬q.val - 256 - 256 < 256 by omega), dif_neg h3]
  exact congrArg (fun k => e (ix2 0 k)) (Fin.ext (by show q.val - 256 - 256 - 256 = q.val - 768; omega))

set_option backward.isDefEq.respectTransparency false in
theorem rowVec_at (s w : BitVec 32) (h : s.toNat < 16368) (hw : w.toNat < 16) (X : Fin 16384 → EReal) (T : FVec Ideal S32x1 .f32) (hT : Win s (fun r _ => X r) T)
    (Y Z : Fin 16384 → Fin 256 → EReal) (M A E : FVec Ideal S32x256 .f32) (hM : Win s Y M) (hA : Win s Z A)
    (hE : Win (Scalar.subi (Scalar.addi s (Scalar.addi w 1#32)) 1#32) Z E) (D : FVec Ideal S8x20 .f32) (q : Fin 788) :
    rowVec (iota .tc S16x1 32 [0] iota_S16x1_d0_w32) s w A E M T D (ix2 0 q) = spanAt Z Y X (fun r q => D (ix2 r q)) s.toNat w.toNat q := by
  have hse : (Scalar.subi (Scalar.addi s (Scalar.addi w 1#32)) 1#32).toNat = s.toNat + w.toNat := by
    rw [end_word, BitVec.toNat_add]; omega
  have f1 := first_row s (by omega) Z A hA
  have f2 := first_row _ (by omega) Z E hE
  have f3 := pooled_at s w h hw X T hT Y M hM
  have f4 := dist_at w hw D
  rw [hse] at f2
  unfold rowVec
  rw [four_parts]
  unfold spanAt
  split_ifs
  · exact f1 _
  · exact f2 _
  · exact f3 _
  · exact f4 _

end Cert.KernelIdeal.Run

end
-- ==== Proof.KernelIdeal.SpanBlock.lean ====
/- What the span kernel's body leaves in its output block: every row is the span of the words at that row. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.KernelIdeal.SpanValue
public import proofs.«01_k».proof.Proof.KernelIdeal.Span
public import Idealize.ShloMosaic.Lib.Pipeline.ValueKit.Tiles
public import Idealize.ShloMosaic.Lib.Pipeline.Value
@[expose] public section

set_option maxRecDepth 16384

noncomputable section

namespace Cert.KernelIdeal.Run

open Cert.KernelIdeal Cert.KernelIdeal.Gen
open Cert.Spec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The output block as a function of the words and the arrays: row `r` is the span that the words at `r` name. -/
def spanBlock (x0 : Vec Ideal S1x1x512 .i32) (x1 : Vec Ideal S1x1x512 .i32) (x2 : Vec Ideal S16384x256 .f32) (x3 : Vec Ideal S16384x256 .f32) (x4 : Vec Ideal S16384x1 .f32) (x5 : Vec Ideal S16x20 .f32) (y : S512x788.Idx) : EReal :=
  spanAt (fun r q => x2 (ix2 r q)) (fun r q => x3 (ix2 r q)) (fun r => x4 (ix2 r 0)) (fun r q => x5 (ix2 (Fin.castLE (by decide) r) q))
    (BitVec.toNat (w := 32) (x0 (ix3 0 0 (y 0)))) (BitVec.toNat (w := 32) (x1 (ix3 0 0 (y 0)))) (y 1)

/-- A word read at place `n` of a block of words. -/
theorem wordAt_eq (arg1 : Memref sig .tc .smem S1x1x512 .i32) (harg1 : arg1.IsWhole) (x0 : Vec Ideal S1x1x512 .i32) (n : Fin 512) (o : Fin 3 → ℕ) (e : o = ![0, 0, n.val])
    (ho : ∀ a, o a + S1x1x1.size a ≤ S1x1x512.size a) : wordAt arg1 (harg1.unread x0) o ho = x0 (ix3 0 0 n) := by
  subst e
  refine (harg1.readAt_unread x0 _ _).trans (congrArg x0 (funext fun a => Fin.ext ?_))
  match a with
  | ⟨0, _⟩ => rfl
  | ⟨1, _⟩ => rfl
  | ⟨2, _⟩ => rfl

/-- A load of 32 rows from the aligned row of `s` is the window at `s`. -/
theorem win256 {M : Memref sig .tc .vmem S16384x256 .f32} (h : M.IsWhole) (x : Vec Ideal S16384x256 .f32) (s : BitVec 32) (hs : s.toNat < 16384) (o : Fin 2 → ℕ) (e : o = ![(k1_mult2 s).toNat, 0])
    (ho : ∀ a, o a + S32x256.size a ≤ S16384x256.size a) :
    Win s (fun r q => x (ix2 r q)) (M.view.readAt (Elt Ideal) (Rect.unit (s := S16384x256) o S32x256.size ho).toLoadRect (h.unread x)) := by
  subst e
  intro r q
  have hl := aligned_le s hs
  refine (h.readAt_unread x _ _).trans (congrArg x (funext fun a => Fin.ext ?_))
  match a with
  | ⟨0, _⟩ =>
    show (k1_mult2 s).toNat + 1 * r.val = (row ((k1_mult2 s).toNat + r.val)).val
    rw [row_val (by omega)]; omega
  | ⟨1, _⟩ => show 0 + 1 * q.val = q.val; omega

/-- The same of the one-column array. -/
theorem win1 {M : Memref sig .tc .vmem S16384x1 .f32} (h : M.IsWhole) (x : Vec Ideal S16384x1 .f32) (s : BitVec 32) (hs : s.toNat < 16384) (o : Fin 2 → ℕ) (e : o = ![(k1_mult2 s).toNat, 0])
    (ho : ∀ a, o a + S32x1.size a ≤ S16384x1.size a) :
    Win (n := 1) s (fun r _ => x (ix2 r 0)) (M.view.readAt (Elt Ideal) (Rect.unit (s := S16384x1) o S32x1.size ho).toLoadRect (h.unread x)) := by
  subst e
  intro r q
  have hl := aligned_le s hs
  refine (h.readAt_unread x _ _).trans (congrArg x (funext fun a => Fin.ext ?_))
  match a with
  | ⟨0, _⟩ =>
    show (k1_mult2 s).toNat + 1 * r.val = (row ((k1_mult2 s).toNat + r.val)).val
    rw [row_val (by omega)]; omega
  | ⟨1, _⟩ => show 0 + 1 * q.val = 0; omega

theorem off2_eq (s : BitVec 32) : k1_off2 s = ![(k1_mult2 s).toNat, 0] := rfl
theorem off3_eq (s : BitVec 32) : k1_off3 s = ![(k1_mult2 s).toNat, 0] := rfl
theorem off4_eq (s w : BitVec 32) : k1_off4 s w = ![(k1_mult2 (Scalar.subi (Scalar.addi s (Scalar.addi w 1#32)) 1#32)).toNat, 0] := rfl

/-- The table rows that the body loads are the table's first eight. -/
theorem table_at {M : Memref sig .tc .vmem S16x20 .f32} (h : M.IsWhole) (x5 : Vec Ideal S16x20 .f32) (ho : ∀ a, (![0, 0] : Fin 2 → ℕ) a + S8x20.size a ≤ S16x20.size a) (r : Fin 8) (q : Fin 20) :
    M.view.readAt (Elt Ideal) (Rect.unit (s := S16x20) ![0, 0] S8x20.size ho).toLoadRect (h.unread x5) (ix2 r q) = x5 (ix2 (Fin.castLE (by decide) r) q) := by
  refine (h.readAt_unread x5 _ _).trans (congrArg x5 (funext fun a => Fin.ext ?_))
  match a with
  | ⟨0, _⟩ => show 0 + 1 * r.val = r.val; omega
  | ⟨1, _⟩ => show 0 + 1 * q.val = q.val; omega

/-- The row of the words `s` and `w`, on whole buffers. -/
theorem rowVec_loads (arg3 : Memref sig .tc .vmem S16384x256 .f32) (harg3 : arg3.IsWhole) (arg4 : Memref sig .tc .vmem S16384x256 .f32) (harg4 : arg4.IsWhole) (arg5 : Memref sig .tc .vmem S16384x1 .f32) (harg5 : arg5.IsWhole) (arg6 : Memref sig .tc .vmem S16x20 .f32) (harg6 : arg6.IsWhole) (x2 : Vec Ideal S16384x256 .f32) (x3 : Vec Ideal S16384x256 .f32) (x4 : Vec Ideal S16384x1 .f32) (x5 : Vec Ideal S16x20 .f32) (s w : BitVec 32) (hs : s.toNat < 16368) (hw : w.toNat < 16)
    (h2 : ∀ a, k1_off2 s a + S32x1.size a ≤ S16384x1.size a) (h3 : ∀ a, k1_off3 s a + S32x256.size a ≤ S16384x256.size a) (h4 : ∀ a, k1_off4 s w a + S32x256.size a ≤ S16384x256.size a)
    (h5 : ∀ a, (![0, 0] : Fin 2 → ℕ) a + S8x20.size a ≤ S16x20.size a) (q : Fin 788) :
    rowVec (F := Ideal) (iota .tc S16x1 32 [0] iota_S16x1_d0_w32) s w (arg3.view.readAt (Elt Ideal) (Rect.unit (s := S16384x256) (k1_off3 s) S32x256.size h3).toLoadRect (harg3.unread x2))
      (arg3.view.readAt (Elt Ideal) (Rect.unit (s := S16384x256) (k1_off4 s w) S32x256.size h4).toLoadRect (harg3.unread x2))
      (arg4.view.readAt (Elt Ideal) (Rect.unit (s := S16384x256) (k1_off3 s) S32x256.size h3).toLoadRect (harg4.unread x3))
      (arg5.view.readAt (Elt Ideal) (Rect.unit (s := S16384x1) (k1_off2 s) S32x1.size h2).toLoadRect (harg5.unread x4))
      (arg6.view.readAt (Elt Ideal) (Rect.unit (s := S16x20) ![0, 0] S8x20.size h5).toLoadRect (harg6.unread x5)) (ix2 0 q)
      = spanAt (fun r q => x2 (ix2 r q)) (fun r q => x3 (ix2 r q)) (fun r => x4 (ix2 r 0)) (fun r q => x5 (ix2 (Fin.castLE (by decide) r) q)) s.toNat w.toNat q := by
  have hse : (Scalar.subi (Scalar.addi s (Scalar.addi w 1#32)) 1#32).toNat < 16384 := by
    rw [end_word, BitVec.toNat_add]; omega
  have a1 := win1 harg5 x4 s (by omega) _ (off2_eq _) h2
  have a2 := win256 harg4 x3 s (by omega) _ (off3_eq _) h3
  have a3 := win256 harg3 x2 s (by omega) _ (off3_eq _) h3
  have a4 := win256 harg3 x2 _ hse _ (off4_eq s w) h4
  have a5 := fun r q => table_at harg6 x5 h5 r q
  refine (rowVec_at s w hs hw (fun r => x4 (ix2 r 0)) _ a1 (fun r q => x3 (ix2 r q)) (fun r q => x2 (ix2 r q)) _ _ _ a2 a3 a4 _ q).trans ?_
  exact congrArg (fun D => spanAt _ _ _ D _ _ _) (funext fun r => funext fun q => a5 r q)

/-- The row whose words lie at place `n`, on whole buffers. -/
theorem rowOf_at (arg1 : Memref sig .tc .smem S1x1x512 .i32) (harg1 : arg1.IsWhole) (arg2 : Memref sig .tc .smem S1x1x512 .i32) (harg2 : arg2.IsWhole) (arg3 : Memref sig .tc .vmem S16384x256 .f32) (harg3 : arg3.IsWhole) (arg4 : Memref sig .tc .vmem S16384x256 .f32) (harg4 : arg4.IsWhole) (arg5 : Memref sig .tc .vmem S16384x1 .f32) (harg5 : arg5.IsWhole) (arg6 : Memref sig .tc .vmem S16x20 .f32) (harg6 : arg6.IsWhole) (x0 : Vec Ideal S1x1x512 .i32) (x1 : Vec Ideal S1x1x512 .i32) (x2 : Vec Ideal S16384x256 .f32) (x3 : Vec Ideal S16384x256 .f32) (x4 : Vec Ideal S16384x1 .f32) (x5 : Vec Ideal S16x20 .f32) (hS : SpanOK x0 x1) (n : Fin 512) (o : Fin 3 → ℕ) (e : o = ![0, 0, n.val]) (ho : ∀ a, o a + S1x1x1.size a ≤ S1x1x512.size a) (h1 : k1_chk1 (wordAt arg1 (harg1.unread x0) o ho)) (h2 : k1_chk2 (wordAt arg1 (harg1.unread x0) o ho) (wordAt arg2 (harg2.unread x1) o ho)) (q : Fin 788) :
    rowOf arg1 arg2 arg3 arg4 arg5 arg6 (iota .tc S16x1 32 [0] iota_S16x1_d0_w32) (harg1.unread x0) (harg2.unread x1) (harg3.unread x2) (harg4.unread x3) (harg5.unread x4) (harg6.unread x5) o ho h1 h2 (ix2 0 q) = spanBlock x0 x1 x2 x3 x4 x5 (ix2 n q) := by
  have e1 := wordAt_eq arg1 harg1 x0 n o e ho
  have e2 := wordAt_eq arg2 harg2 x1 n o e ho
  have s1 := hS.1 (ix3 0 0 n)
  have s2 := hS.2 (ix3 0 0 n)
  rw [← e1] at s1
  rw [← e2] at s2
  refine (rowVec_loads arg3 harg3 arg4 harg4 arg5 harg5 arg6 harg6 x2 x3 x4 x5 _ _ s1 s2 _ _ _ _ q).trans ?_
  rw [e1, e2]
  unfold spanBlock
  rfl

theorem place0 : ∀ k : Fin k1_t1_loop.trips, k1_off1 k = ![0, 0, 8 * k.val + 0] := by decide +kernel
theorem place1 : ∀ k : Fin k1_t1_loop.trips, k1_off5 k = ![0, 0, 8 * k.val + 1] := by decide +kernel
theorem place2 : ∀ k : Fin k1_t1_loop.trips, k1_off9 k = ![0, 0, 8 * k.val + 2] := by decide +kernel
theorem place3 : ∀ k : Fin k1_t1_loop.trips, k1_off13 k = ![0, 0, 8 * k.val + 3] := by decide +kernel
theorem place4 : ∀ k : Fin k1_t1_loop.trips, k1_off17 k = ![0, 0, 8 * k.val + 4] := by decide +kernel
theorem place5 : ∀ k : Fin k1_t1_loop.trips, k1_off21 k = ![0, 0, 8 * k.val + 5] := by decide +kernel
theorem place6 : ∀ k : Fin k1_t1_loop.trips, k1_off25 k = ![0, 0, 8 * k.val + 6] := by decide +kernel
theorem place7 : ∀ k : Fin k1_t1_loop.trips, k1_off29 k = ![0, 0, 8 * k.val + 7] := by decide +kernel
theorem place_out : ∀ k : Fin k1_t1_loop.trips, k1_off33 k = ![8 * k.val, 0] := by decide +kernel
theorem trips_eq : k1_t1_loop.trips = 64 := by decide +kernel

set_option backward.isDefEq.respectTransparency false in
/-- Eight rows stacked, read at a row. -/
theorem eight_rows (v0 v1 v2 v3 v4 v5 v6 v7 : FVec Ideal S1x788 .f32) (G : Fin 8 → Fin 788 → EReal) (h0 : ∀ q, v0 (ix2 0 q) = G 0 q)
    (h1 : ∀ q, v1 (ix2 0 q) = G 1 q) (h2 : ∀ q, v2 (ix2 0 q) = G 2 q) (h3 : ∀ q, v3 (ix2 0 q) = G 3 q) (h4 : ∀ q, v4 (ix2 0 q) = G 4 q) (h5 : ∀ q, v5 (ix2 0 q) = G 5 q) (h6 : ∀ q, v6 (ix2 0 q) = G 6 q) (h7 : ∀ q, v7 (ix2 0 q) = G 7 q) (y : Fin 8) (q : Fin 788) : k1_pay1 v0 v1 v2 v3 v4 v5 v6 v7 (ix2 y q) = G y q := by
  match y with
  | 0 => pointwise [k1_pay1]; exact h0 q
  | 1 => pointwise [k1_pay1]; exact h1 q
  | 2 => pointwise [k1_pay1]; exact h2 q
  | 3 => pointwise [k1_pay1]; exact h3 q
  | 4 => pointwise [k1_pay1]; exact h4 q
  | 5 => pointwise [k1_pay1]; exact h5 q
  | 6 => pointwise [k1_pay1]; exact h6 q
  | 7 => pointwise [k1_pay1]; exact h7 q

/-- Where a trip's piece lies in the block. -/
theorem piece_emb (k : Fin k1_t1_loop.trips) (x : S8x788.Idx) :
    (Rect.unit (s := S512x788) (k1_off33 k) ![8, 788] (k1_off33_inb k)).emb x = ix2 (⟨8 * k.val + (x 0).val, by have := k.isLt; have := (x 0).isLt; have := trips_eq; simp at *; omega⟩ : Fin 512) (x 1 : Fin 788) := by
  have p0 : k1_off33 k 0 = 8 * k.val := by rw [place_out]; rfl
  have p1 : k1_off33 k 1 = 0 := by rw [place_out]; rfl
  funext a
  refine Fin.ext ?_
  match a with
  | ⟨0, _⟩ => show k1_off33 k 0 + 1 * (x 0).val = 8 * k.val + (x 0).val; rw [p0]; omega
  | ⟨1, _⟩ => show k1_off33 k 1 + 1 * (x 1).val = (x 1).val; rw [p1]; omega

/-- Every piece that the trips before `n` store agrees with the block. -/
theorem pieces_at (c : Dev nD) (i : grid1.Coords) (arg1 : Memref sig .tc .smem S1x1x512 .i32) (harg1 : arg1.IsWhole) (arg2 : Memref sig .tc .smem S1x1x512 .i32) (harg2 : arg2.IsWhole) (arg3 : Memref sig .tc .vmem S16384x256 .f32) (harg3 : arg3.IsWhole) (arg4 : Memref sig .tc .vmem S16384x256 .f32) (harg4 : arg4.IsWhole) (arg5 : Memref sig .tc .vmem S16384x1 .f32) (harg5 : arg5.IsWhole) (arg6 : Memref sig .tc .vmem S16x20 .f32) (harg6 : arg6.IsWhole) (arg7 : Memref sig .tc .vmem S512x788 .f32) (harg7 : arg7.IsWhole) (x0 : Vec Ideal S1x1x512 .i32) (x1 : Vec Ideal S1x1x512 .i32) (x2 : Vec Ideal S16384x256 .f32) (x3 : Vec Ideal S16384x256 .f32) (x4 : Vec Ideal S16384x1 .f32) (x5 : Vec Ideal S16x20 .f32) (hS : SpanOK x0 x1)
    (k1_hw1L : ∀ (kq : ℕ) (hkq : kq < k1_t1_loop.trips), k1_chk1 (arg1.view.readAt (Elt Ideal) (Rect.unit (s := S1x1x512) (k1_off1 ⟨kq, hkq⟩) S1x1x1.size (k1_off1_inb ⟨kq, hkq⟩)).toLoadRect (harg1.unread x0) (Shape.Idx.first (numel1_S1x1x1.symm ▸ Nat.one_pos))))
    (k1_hw2L : ∀ (kq : ℕ) (hkq : kq < k1_t1_loop.trips), k1_chk2 (arg1.view.readAt (Elt Ideal) (Rect.unit (s := S1x1x512) (k1_off1 ⟨kq, hkq⟩) S1x1x1.size (k1_off1_inb ⟨kq, hkq⟩)).toLoadRect (harg1.unread x0) (Shape.Idx.first (numel1_S1x1x1.symm ▸ Nat.one_pos))) (arg2.view.readAt (Elt Ideal) (Rect.unit (s := S1x1x512) (k1_off1 ⟨kq, hkq⟩) S1x1x1.size (k1_off1_inb ⟨kq, hkq⟩)).toLoadRect (harg2.unread x1) (Shape.Idx.first (numel1_S1x1x1.symm ▸ Nat.one_pos))))
    (k1_hw3L : ∀ (kq : ℕ) (hkq : kq < k1_t1_loop.trips), k1_chk3 (arg1.view.readAt (Elt Ideal) (Rect.unit (s := S1x1x512) (k1_off5 ⟨kq, hkq⟩) S1x1x1.size (k1_off5_inb ⟨kq, hkq⟩)).toLoadRect (harg1.unread x0) (Shape.Idx.first (numel1_S1x1x1.symm ▸ Nat.one_pos))))
    (k1_hw4L : ∀ (kq : ℕ) (hkq : kq < k1_t1_loop.trips), k1_chk4 (arg1.view.readAt (Elt Ideal) (Rect.unit (s := S1x1x512) (k1_off5 ⟨kq, hkq⟩) S1x1x1.size (k1_off5_inb ⟨kq, hkq⟩)).toLoadRect (harg1.unread x0) (Shape.Idx.first (numel1_S1x1x1.symm ▸ Nat.one_pos))) (arg2.view.readAt (Elt Ideal) (Rect.unit (s := S1x1x512) (k1_off5 ⟨kq, hkq⟩) S1x1x1.size (k1_off5_inb ⟨kq, hkq⟩)).toLoadRect (harg2.unread x1) (Shape.Idx.first (numel1_S1x1x1.symm ▸ Nat.one_pos))))
    (k1_hw5L : ∀ (kq : ℕ) (hkq : kq < k1_t1_loop.trips), k1_chk5 (arg1.view.readAt (Elt Ideal) (Rect.unit (s := S1x1x512) (k1_off9 ⟨kq, hkq⟩) S1x1x1.size (k1_off9_inb ⟨kq, hkq⟩)).toLoadRect (harg1.unread x0) (Shape.Idx.first (numel1_S1x1x1.symm ▸ Nat.one_pos))))
    (k1_hw6L : ∀ (kq : ℕ) (hkq : kq < k1_t1_loop.trips), k1_chk6 (arg1.view.readAt (Elt Ideal) (Rect.unit (s := S1x1x512) (k1_off9 ⟨kq, hkq⟩) S1x1x1.size (k1_off9_inb ⟨kq, hkq⟩)).toLoadRect (harg1.unread x0) (Shape.Idx.first (numel1_S1x1x1.symm ▸ Nat.one_pos))) (arg2.view.readAt (Elt Ideal) (Rect.unit (s := S1x1x512) (k1_off9 ⟨kq, hkq⟩) S1x1x1.size (k1_off9_inb ⟨kq, hkq⟩)).toLoadRect (harg2.unread x1) (Shape.Idx.first (numel1_S1x1x1.symm ▸ Nat.one_pos))))
    (k1_hw7L : ∀ (kq : ℕ) (hkq : kq < k1_t1_loop.trips), k1_chk7 (arg1.view.readAt (Elt Ideal) (Rect.unit (s := S1x1x512) (k1_off13 ⟨kq, hkq⟩) S1x1x1.size (k1_off13_inb ⟨kq, hkq⟩)).toLoadRect (harg1.unread x0) (Shape.Idx.first (numel1_S1x1x1.symm ▸ Nat.one_pos))))
    (k1_hw8L : ∀ (kq : ℕ) (hkq : kq < k1_t1_loop.trips), k1_chk8 (arg1.view.readAt (Elt Ideal) (Rect.unit (s := S1x1x512) (k1_off13 ⟨kq, hkq⟩) S1x1x1.size (k1_off13_inb ⟨kq, hkq⟩)).toLoadRect (harg1.unread x0) (Shape.Idx.first (numel1_S1x1x1.symm ▸ Nat.one_pos))) (arg2.view.readAt (Elt Ideal) (Rect.unit (s := S1x1x512) (k1_off13 ⟨kq, hkq⟩) S1x1x1.size (k1_off13_inb ⟨kq, hkq⟩)).toLoadRect (harg2.unread x1) (Shape.Idx.first (numel1_S1x1x1.symm ▸ Nat.one_pos))))
    (k1_hw9L : ∀ (kq : ℕ) (hkq : kq < k1_t1_loop.trips), k1_chk9 (arg1.view.readAt (Elt Ideal) (Rect.unit (s := S1x1x512) (k1_off17 ⟨kq, hkq⟩) S1x1x1.size (k1_off17_inb ⟨kq, hkq⟩)).toLoadRect (harg1.unread x0) (Shape.Idx.first (numel1_S1x1x1.symm ▸ Nat.one_pos))))
    (k1_hw10L : ∀ (kq : ℕ) (hkq : kq < k1_t1_loop.trips), k1_chk10 (arg1.view.readAt (Elt Ideal) (Rect.unit (s := S1x1x512) (k1_off17 ⟨kq, hkq⟩) S1x1x1.size (k1_off17_inb ⟨kq, hkq⟩)).toLoadRect (harg1.unread x0) (Shape.Idx.first (numel1_S1x1x1.symm ▸ Nat.one_pos))) (arg2.view.readAt (Elt Ideal) (Rect.unit (s := S1x1x512) (k1_off17 ⟨kq, hkq⟩) S1x1x1.size (k1_off17_inb ⟨kq, hkq⟩)).toLoadRect (harg2.unread x1) (Shape.Idx.first (numel1_S1x1x1.symm ▸ Nat.one_pos))))
    (k1_hw11L : ∀ (kq : ℕ) (hkq : kq < k1_t1_loop.trips), k1_chk11 (arg1.view.readAt (Elt Ideal) (Rect.unit (s := S1x1x512) (k1_off21 ⟨kq, hkq⟩) S1x1x1.size (k1_off21_inb ⟨kq, hkq⟩)).toLoadRect (harg1.unread x0) (Shape.Idx.first (numel1_S1x1x1.symm ▸ Nat.one_pos))))
    (k1_hw12L : ∀ (kq : ℕ) (hkq : kq < k1_t1_loop.trips), k1_chk12 (arg1.view.readAt (Elt Ideal) (Rect.unit (s := S1x1x512) (k1_off21 ⟨kq, hkq⟩) S1x1x1.size (k1_off21_inb ⟨kq, hkq⟩)).toLoadRect (harg1.unread x0) (Shape.Idx.first (numel1_S1x1x1.symm ▸ Nat.one_pos))) (arg2.view.readAt (Elt Ideal) (Rect.unit (s := S1x1x512) (k1_off21 ⟨kq, hkq⟩) S1x1x1.size (k1_off21_inb ⟨kq, hkq⟩)).toLoadRect (harg2.unread x1) (Shape.Idx.first (numel1_S1x1x1.symm ▸ Nat.one_pos))))
    (k1_hw13L : ∀ (kq : ℕ) (hkq : kq < k1_t1_loop.trips), k1_chk13 (arg1.view.readAt (Elt Ideal) (Rect.unit (s := S1x1x512) (k1_off25 ⟨kq, hkq⟩) S1x1x1.size (k1_off25_inb ⟨kq, hkq⟩)).toLoadRect (harg1.unread x0) (Shape.Idx.first (numel1_S1x1x1.symm ▸ Nat.one_pos))))
    (k1_hw14L : ∀ (kq : ℕ) (hkq : kq < k1_t1_loop.trips), k1_chk14 (arg1.view.readAt (Elt Ideal) (Rect.unit (s := S1x1x512) (k1_off25 ⟨kq, hkq⟩) S1x1x1.size (k1_off25_inb ⟨kq, hkq⟩)).toLoadRect (harg1.unread x0) (Shape.Idx.first (numel1_S1x1x1.symm ▸ Nat.one_pos))) (arg2.view.readAt (Elt Ideal) (Rect.unit (s := S1x1x512) (k1_off25 ⟨kq, hkq⟩) S1x1x1.size (k1_off25_inb ⟨kq, hkq⟩)).toLoadRect (harg2.unread x1) (Shape.Idx.first (numel1_S1x1x1.symm ▸ Nat.one_pos))))
    (k1_hw15L : ∀ (kq : ℕ) (hkq : kq < k1_t1_loop.trips), k1_chk15 (arg1.view.readAt (Elt Ideal) (Rect.unit (s := S1x1x512) (k1_off29 ⟨kq, hkq⟩) S1x1x1.size (k1_off29_inb ⟨kq, hkq⟩)).toLoadRect (harg1.unread x0) (Shape.Idx.first (numel1_S1x1x1.symm ▸ Nat.one_pos))))
    (k1_hw16L : ∀ (kq : ℕ) (hkq : kq < k1_t1_loop.trips), k1_chk16 (arg1.view.readAt (Elt Ideal) (Rect.unit (s := S1x1x512) (k1_off29 ⟨kq, hkq⟩) S1x1x1.size (k1_off29_inb ⟨kq, hkq⟩)).toLoadRect (harg1.unread x0) (Shape.Idx.first (numel1_S1x1x1.symm ▸ Nat.one_pos))) (arg2.view.readAt (Elt Ideal) (Rect.unit (s := S1x1x512) (k1_off29 ⟨kq, hkq⟩) S1x1x1.size (k1_off29_inb ⟨kq, hkq⟩)).toLoadRect (harg2.unread x1) (Shape.Idx.first (numel1_S1x1x1.symm ▸ Nat.one_pos)))) :
    ∀ n : ℕ, n ≤ k1_t1_loop.trips → ∀ p ∈ pb_k1_t1 (F := Ideal) Variants.none c none i arg1 harg1 arg2 harg2 arg3 harg3 arg4 harg4 arg5 harg5 arg6 harg6 arg7 harg7 (iota .tc S16x1 32 [0] iota_S16x1_d0_w32) (harg1.unread x0) (harg2.unread x1) (harg3.unread x2) (harg4.unread x3) (harg5.unread x4) (harg6.unread x5) k1_hw1L k1_hw2L k1_hw3L k1_hw4L k1_hw5L k1_hw6L k1_hw7L k1_hw8L k1_hw9L k1_hw10L k1_hw11L k1_hw12L k1_hw13L k1_hw14L k1_hw15L k1_hw16L n, ∀ x : p.1.shape.Idx, p.2 x = spanBlock x0 x1 x2 x3 x4 x5 (p.1.emb x) := by
  intro n
  induction n with
  | zero => intro _ p hp; exact absurd hp (by unfold pb_k1_t1; simp)
  | succ n ih =>
    intro hn p hp
    have e := pb_k1_t1_succ (F := Ideal) Variants.none c none i arg1 harg1 arg2 harg2 arg3 harg3 arg4 harg4 arg5 harg5 arg6 harg6 arg7 harg7 (iota .tc S16x1 32 [0] iota_S16x1_d0_w32) (harg1.unread x0) (harg2.unread x1) (harg3.unread x2) (harg4.unread x3) (harg5.unread x4) (harg6.unread x5) k1_hw1L k1_hw2L k1_hw3L k1_hw4L k1_hw5L k1_hw6L k1_hw7L k1_hw8L k1_hw9L k1_hw10L k1_hw11L k1_hw12L k1_hw13L k1_hw14L k1_hw15L k1_hw16L ⟨n, hn⟩
    rw [e, List.mem_append] at hp
    rcases hp with hp | hp
    · rw [trip_piece, List.mem_singleton] at hp
      subst hp
      intro x
      have hn' : n < 64 := trips_eq ▸ hn
      have hx : x = ix2 (x 0 : Fin 8) (x 1 : Fin 788) := by funext a; match a with | ⟨0, _⟩ => rfl | ⟨1, _⟩ => rfl
      refine (congrArg _ hx).trans ((eight_rows _ _ _ _ _ _ _ _ (fun y q => spanBlock x0 x1 x2 x3 x4 x5 (ix2 ⟨8 * n + y.val, by omega⟩ q))
        (fun q => rowOf_at arg1 harg1 arg2 harg2 arg3 harg3 arg4 harg4 arg5 harg5 arg6 harg6 x0 x1 x2 x3 x4 x5 hS ⟨8 * n + 0, by omega⟩ _ (place0 ⟨n, hn⟩) _ _ _ q) (fun q => rowOf_at arg1 harg1 arg2 harg2 arg3 harg3 arg4 harg4 arg5 harg5 arg6 harg6 x0 x1 x2 x3 x4 x5 hS ⟨8 * n + 1, by omega⟩ _ (place1 ⟨n, hn⟩) _ _ _ q) (fun q => rowOf_at arg1 harg1 arg2 harg2 arg3 harg3 arg4 harg4 arg5 harg5 arg6 harg6 x0 x1 x2 x3 x4 x5 hS ⟨8 * n + 2, by omega⟩ _ (place2 ⟨n, hn⟩) _ _ _ q) (fun q => rowOf_at arg1 harg1 arg2 harg2 arg3 harg3 arg4 harg4 arg5 harg5 arg6 harg6 x0 x1 x2 x3 x4 x5 hS ⟨8 * n + 3, by omega⟩ _ (place3 ⟨n, hn⟩) _ _ _ q) (fun q => rowOf_at arg1 harg1 arg2 harg2 arg3 harg3 arg4 harg4 arg5 harg5 arg6 harg6 x0 x1 x2 x3 x4 x5 hS ⟨8 * n + 4, by omega⟩ _ (place4 ⟨n, hn⟩) _ _ _ q) (fun q => rowOf_at arg1 harg1 arg2 harg2 arg3 harg3 arg4 harg4 arg5 harg5 arg6 harg6 x0 x1 x2 x3 x4 x5 hS ⟨8 * n + 5, by omega⟩ _ (place5 ⟨n, hn⟩) _ _ _ q) (fun q => rowOf_at arg1 harg1 arg2 harg2 arg3 harg3 arg4 harg4 arg5 harg5 arg6 harg6 x0 x1 x2 x3 x4 x5 hS ⟨8 * n + 6, by omega⟩ _ (place6 ⟨n, hn⟩) _ _ _ q) (fun q => rowOf_at arg1 harg1 arg2 harg2 arg3 harg3 arg4 harg4 arg5 harg5 arg6 harg6 x0 x1 x2 x3 x4 x5 hS ⟨8 * n + 7, by omega⟩ _ (place7 ⟨n, hn⟩) _ _ _ q) (x 0 : Fin 8) (x 1 : Fin 788)).trans ?_)
      exact congrArg (spanBlock x0 x1 x2 x3 x4 x5) (piece_emb ⟨n, hn⟩ x).symm
    · exact ih (by omega) p hp

/-- The body's stores are those of the loop's trips. -/
theorem spanRunOf_pieces  (c : Dev nD) (i : grid1.Coords) (arg1 : Memref sig .tc .smem S1x1x512 .i32) (harg1 : arg1.IsWhole) (arg2 : Memref sig .tc .smem S1x1x512 .i32) (harg2 : arg2.IsWhole) (arg3 : Memref sig .tc .vmem S16384x256 .f32) (harg3 : arg3.IsWhole) (arg4 : Memref sig .tc .vmem S16384x256 .f32) (harg4 : arg4.IsWhole) (arg5 : Memref sig .tc .vmem S16384x1 .f32) (harg5 : arg5.IsWhole) (arg6 : Memref sig .tc .vmem S16x20 .f32) (harg6 : arg6.IsWhole) (arg7 : Memref sig .tc .vmem S512x788 .f32) (harg7 : arg7.IsWhole)
    (x0 : Vec Ideal S1x1x512 .i32) (x1 : Vec Ideal S1x1x512 .i32) (x2 : Vec Ideal S16384x256 .f32) (x3 : Vec Ideal S16384x256 .f32) (x4 : Vec Ideal S16384x1 .f32) (x5 : Vec Ideal S16x20 .f32)
    (k1_hw1L : ∀ (kq : ℕ) (hkq : kq < k1_t1_loop.trips), k1_chk1 (arg1.view.readAt (Elt Ideal) (Rect.unit (s := S1x1x512) (k1_off1 ⟨kq, hkq⟩) S1x1x1.size (k1_off1_inb ⟨kq, hkq⟩)).toLoadRect (harg1.unread x0) (Shape.Idx.first (numel1_S1x1x1.symm ▸ Nat.one_pos))))
    (k1_hw2L : ∀ (kq : ℕ) (hkq : kq < k1_t1_loop.trips), k1_chk2 (arg1.view.readAt (Elt Ideal) (Rect.unit (s := S1x1x512) (k1_off1 ⟨kq, hkq⟩) S1x1x1.size (k1_off1_inb ⟨kq, hkq⟩)).toLoadRect (harg1.unread x0) (Shape.Idx.first (numel1_S1x1x1.symm ▸ Nat.one_pos))) (arg2.view.readAt (Elt Ideal) (Rect.unit (s := S1x1x512) (k1_off1 ⟨kq, hkq⟩) S1x1x1.size (k1_off1_inb ⟨kq, hkq⟩)).toLoadRect (harg2.unread x1) (Shape.Idx.first (numel1_S1x1x1.symm ▸ Nat.one_pos))))
    (k1_hw3L : ∀ (kq : ℕ) (hkq : kq < k1_t1_loop.trips), k1_chk3 (arg1.view.readAt (Elt Ideal) (Rect.unit (s := S1x1x512) (k1_off5 ⟨kq, hkq⟩) S1x1x1.size (k1_off5_inb ⟨kq, hkq⟩)).toLoadRect (harg1.unread x0) (Shape.Idx.first (numel1_S1x1x1.symm ▸ Nat.one_pos))))
    (k1_hw4L : ∀ (kq : ℕ) (hkq : kq < k1_t1_loop.trips), k1_chk4 (arg1.view.readAt (Elt Ideal) (Rect.unit (s := S1x1x512) (k1_off5 ⟨kq, hkq⟩) S1x1x1.size (k1_off5_inb ⟨kq, hkq⟩)).toLoadRect (harg1.unread x0) (Shape.Idx.first (numel1_S1x1x1.symm ▸ Nat.one_pos))) (arg2.view.readAt (Elt Ideal) (Rect.unit (s := S1x1x512) (k1_off5 ⟨kq, hkq⟩) S1x1x1.size (k1_off5_inb ⟨kq, hkq⟩)).toLoadRect (harg2.unread x1) (Shape.Idx.first (numel1_S1x1x1.symm ▸ Nat.one_pos))))
    (k1_hw5L : ∀ (kq : ℕ) (hkq : kq < k1_t1_loop.trips), k1_chk5 (arg1.view.readAt (Elt Ideal) (Rect.unit (s := S1x1x512) (k1_off9 ⟨kq, hkq⟩) S1x1x1.size (k1_off9_inb ⟨kq, hkq⟩)).toLoadRect (harg1.unread x0) (Shape.Idx.first (numel1_S1x1x1.symm ▸ Nat.one_pos))))
    (k1_hw6L : ∀ (kq : ℕ) (hkq : kq < k1_t1_loop.trips), k1_chk6 (arg1.view.readAt (Elt Ideal) (Rect.unit (s := S1x1x512) (k1_off9 ⟨kq, hkq⟩) S1x1x1.size (k1_off9_inb ⟨kq, hkq⟩)).toLoadRect (harg1.unread x0) (Shape.Idx.first (numel1_S1x1x1.symm ▸ Nat.one_pos))) (arg2.view.readAt (Elt Ideal) (Rect.unit (s := S1x1x512) (k1_off9 ⟨kq, hkq⟩) S1x1x1.size (k1_off9_inb ⟨kq, hkq⟩)).toLoadRect (harg2.unread x1) (Shape.Idx.first (numel1_S1x1x1.symm ▸ Nat.one_pos))))
    (k1_hw7L : ∀ (kq : ℕ) (hkq : kq < k1_t1_loop.trips), k1_chk7 (arg1.view.readAt (Elt Ideal) (Rect.unit (s := S1x1x512) (k1_off13 ⟨kq, hkq⟩) S1x1x1.size (k1_off13_inb ⟨kq, hkq⟩)).toLoadRect (harg1.unread x0) (Shape.Idx.first (numel1_S1x1x1.symm ▸ Nat.one_pos))))
    (k1_hw8L : ∀ (kq : ℕ) (hkq : kq < k1_t1_loop.trips), k1_chk8 (arg1.view.readAt (Elt Ideal) (Rect.unit (s := S1x1x512) (k1_off13 ⟨kq, hkq⟩) S1x1x1.size (k1_off13_inb ⟨kq, hkq⟩)).toLoadRect (harg1.unread x0) (Shape.Idx.first (numel1_S1x1x1.symm ▸ Nat.one_pos))) (arg2.view.readAt (Elt Ideal) (Rect.unit (s := S1x1x512) (k1_off13 ⟨kq, hkq⟩) S1x1x1.size (k1_off13_inb ⟨kq, hkq⟩)).toLoadRect (harg2.unread x1) (Shape.Idx.first (numel1_S1x1x1.symm ▸ Nat.one_pos))))
    (k1_hw9L : ∀ (kq : ℕ) (hkq : kq < k1_t1_loop.trips), k1_chk9 (arg1.view.readAt (Elt Ideal) (Rect.unit (s := S1x1x512) (k1_off17 ⟨kq, hkq⟩) S1x1x1.size (k1_off17_inb ⟨kq, hkq⟩)).toLoadRect (harg1.unread x0) (Shape.Idx.first (numel1_S1x1x1.symm ▸ Nat.one_pos))))
    (k1_hw10L : ∀ (kq : ℕ) (hkq : kq < k1_t1_loop.trips), k1_chk10 (arg1.view.readAt (Elt Ideal) (Rect.unit (s := S1x1x512) (k1_off17 ⟨kq, hkq⟩) S1x1x1.size (k1_off17_inb ⟨kq, hkq⟩)).toLoadRect (harg1.unread x0) (Shape.Idx.first (numel1_S1x1x1.symm ▸ Nat.one_pos))) (arg2.view.readAt (Elt Ideal) (Rect.unit (s := S1x1x512) (k1_off17 ⟨kq, hkq⟩) S1x1x1.size (k1_off17_inb ⟨kq, hkq⟩)).toLoadRect (harg2.unread x1) (Shape.Idx.first (numel1_S1x1x1.symm ▸ Nat.one_pos))))
    (k1_hw11L : ∀ (kq : ℕ) (hkq : kq < k1_t1_loop.trips), k1_chk11 (arg1.view.readAt (Elt Ideal) (Rect.unit (s := S1x1x512) (k1_off21 ⟨kq, hkq⟩) S1x1x1.size (k1_off21_inb ⟨kq, hkq⟩)).toLoadRect (harg1.unread x0) (Shape.Idx.first (numel1_S1x1x1.symm ▸ Nat.one_pos))))
    (k1_hw12L : ∀ (kq : ℕ) (hkq : kq < k1_t1_loop.trips), k1_chk12 (arg1.view.readAt (Elt Ideal) (Rect.unit (s := S1x1x512) (k1_off21 ⟨kq, hkq⟩) S1x1x1.size (k1_off21_inb ⟨kq, hkq⟩)).toLoadRect (harg1.unread x0) (Shape.Idx.first (numel1_S1x1x1.symm ▸ Nat.one_pos))) (arg2.view.readAt (Elt Ideal) (Rect.unit (s := S1x1x512) (k1_off21 ⟨kq, hkq⟩) S1x1x1.size (k1_off21_inb ⟨kq, hkq⟩)).toLoadRect (harg2.unread x1) (Shape.Idx.first (numel1_S1x1x1.symm ▸ Nat.one_pos))))
    (k1_hw13L : ∀ (kq : ℕ) (hkq : kq < k1_t1_loop.trips), k1_chk13 (arg1.view.readAt (Elt Ideal) (Rect.unit (s := S1x1x512) (k1_off25 ⟨kq, hkq⟩) S1x1x1.size (k1_off25_inb ⟨kq, hkq⟩)).toLoadRect (harg1.unread x0) (Shape.Idx.first (numel1_S1x1x1.symm ▸ Nat.one_pos))))
    (k1_hw14L : ∀ (kq : ℕ) (hkq : kq < k1_t1_loop.trips), k1_chk14 (arg1.view.readAt (Elt Ideal) (Rect.unit (s := S1x1x512) (k1_off25 ⟨kq, hkq⟩) S1x1x1.size (k1_off25_inb ⟨kq, hkq⟩)).toLoadRect (harg1.unread x0) (Shape.Idx.first (numel1_S1x1x1.symm ▸ Nat.one_pos))) (arg2.view.readAt (Elt Ideal) (Rect.unit (s := S1x1x512) (k1_off25 ⟨kq, hkq⟩) S1x1x1.size (k1_off25_inb ⟨kq, hkq⟩)).toLoadRect (harg2.unread x1) (Shape.Idx.first (numel1_S1x1x1.symm ▸ Nat.one_pos))))
    (k1_hw15L : ∀ (kq : ℕ) (hkq : kq < k1_t1_loop.trips), k1_chk15 (arg1.view.readAt (Elt Ideal) (Rect.unit (s := S1x1x512) (k1_off29 ⟨kq, hkq⟩) S1x1x1.size (k1_off29_inb ⟨kq, hkq⟩)).toLoadRect (harg1.unread x0) (Shape.Idx.first (numel1_S1x1x1.symm ▸ Nat.one_pos))))
    (k1_hw16L : ∀ (kq : ℕ) (hkq : kq < k1_t1_loop.trips), k1_chk16 (arg1.view.readAt (Elt Ideal) (Rect.unit (s := S1x1x512) (k1_off29 ⟨kq, hkq⟩) S1x1x1.size (k1_off29_inb ⟨kq, hkq⟩)).toLoadRect (harg1.unread x0) (Shape.Idx.first (numel1_S1x1x1.symm ▸ Nat.one_pos))) (arg2.view.readAt (Elt Ideal) (Rect.unit (s := S1x1x512) (k1_off29 ⟨kq, hkq⟩) S1x1x1.size (k1_off29_inb ⟨kq, hkq⟩)).toLoadRect (harg2.unread x1) (Shape.Idx.first (numel1_S1x1x1.symm ▸ Nat.one_pos)))) :
    (spanRunOf (F := Ideal) c i arg1 harg1 arg2 harg2 arg3 harg3 arg4 harg4 arg5 harg5 arg6 harg6 arg7 harg7 x0 x1 x2 x3 x4 x5 k1_hw1L k1_hw2L k1_hw3L k1_hw4L k1_hw5L k1_hw6L k1_hw7L k1_hw8L k1_hw9L k1_hw10L k1_hw11L k1_hw12L k1_hw13L k1_hw14L k1_hw15L k1_hw16L).1 = pb_k1_t1 (F := Ideal) Variants.none c none i arg1 harg1 arg2 harg2 arg3 harg3 arg4 harg4 arg5 harg5 arg6 harg6 arg7 harg7 (iota .tc S16x1 32 [0] iota_S16x1_d0_w32) (harg1.unread x0) (harg2.unread x1) (harg3.unread x2) (harg4.unread x3) (harg5.unread x4) (harg6.unread x5) k1_hw1L k1_hw2L k1_hw3L k1_hw4L k1_hw5L k1_hw6L k1_hw7L k1_hw8L k1_hw9L k1_hw10L k1_hw11L k1_hw12L k1_hw13L k1_hw14L k1_hw15L k1_hw16L k1_t1_loop.trips := by
  unfold spanRunOf
  rfl

/-- Every store of the body agrees with the block. -/
theorem spanRunOf_at  (c : Dev nD) (i : grid1.Coords) (arg1 : Memref sig .tc .smem S1x1x512 .i32) (harg1 : arg1.IsWhole) (arg2 : Memref sig .tc .smem S1x1x512 .i32) (harg2 : arg2.IsWhole) (arg3 : Memref sig .tc .vmem S16384x256 .f32) (harg3 : arg3.IsWhole) (arg4 : Memref sig .tc .vmem S16384x256 .f32) (harg4 : arg4.IsWhole) (arg5 : Memref sig .tc .vmem S16384x1 .f32) (harg5 : arg5.IsWhole) (arg6 : Memref sig .tc .vmem S16x20 .f32) (harg6 : arg6.IsWhole) (arg7 : Memref sig .tc .vmem S512x788 .f32) (harg7 : arg7.IsWhole)
    (x0 : Vec Ideal S1x1x512 .i32) (x1 : Vec Ideal S1x1x512 .i32) (x2 : Vec Ideal S16384x256 .f32) (x3 : Vec Ideal S16384x256 .f32) (x4 : Vec Ideal S16384x1 .f32) (x5 : Vec Ideal S16x20 .f32)
    (k1_hw1L : ∀ (kq : ℕ) (hkq : kq < k1_t1_loop.trips), k1_chk1 (arg1.view.readAt (Elt Ideal) (Rect.unit (s := S1x1x512) (k1_off1 ⟨kq, hkq⟩) S1x1x1.size (k1_off1_inb ⟨kq, hkq⟩)).toLoadRect (harg1.unread x0) (Shape.Idx.first (numel1_S1x1x1.symm ▸ Nat.one_pos))))
    (k1_hw2L : ∀ (kq : ℕ) (hkq : kq < k1_t1_loop.trips), k1_chk2 (arg1.view.readAt (Elt Ideal) (Rect.unit (s := S1x1x512) (k1_off1 ⟨kq, hkq⟩) S1x1x1.size (k1_off1_inb ⟨kq, hkq⟩)).toLoadRect (harg1.unread x0) (Shape.Idx.first (numel1_S1x1x1.symm ▸ Nat.one_pos))) (arg2.view.readAt (Elt Ideal) (Rect.unit (s := S1x1x512) (k1_off1 ⟨kq, hkq⟩) S1x1x1.size (k1_off1_inb ⟨kq, hkq⟩)).toLoadRect (harg2.unread x1) (Shape.Idx.first (numel1_S1x1x1.symm ▸ Nat.one_pos))))
    (k1_hw3L : ∀ (kq : ℕ) (hkq : kq < k1_t1_loop.trips), k1_chk3 (arg1.view.readAt (Elt Ideal) (Rect.unit (s := S1x1x512) (k1_off5 ⟨kq, hkq⟩) S1x1x1.size (k1_off5_inb ⟨kq, hkq⟩)).toLoadRect (harg1.unread x0) (Shape.Idx.first (numel1_S1x1x1.symm ▸ Nat.one_pos))))
    (k1_hw4L : ∀ (kq : ℕ) (hkq : kq < k1_t1_loop.trips), k1_chk4 (arg1.view.readAt (Elt Ideal) (Rect.unit (s := S1x1x512) (k1_off5 ⟨kq, hkq⟩) S1x1x1.size (k1_off5_inb ⟨kq, hkq⟩)).toLoadRect (harg1.unread x0) (Shape.Idx.first (numel1_S1x1x1.symm ▸ Nat.one_pos))) (arg2.view.readAt (Elt Ideal) (Rect.unit (s := S1x1x512) (k1_off5 ⟨kq, hkq⟩) S1x1x1.size (k1_off5_inb ⟨kq, hkq⟩)).toLoadRect (harg2.unread x1) (Shape.Idx.first (numel1_S1x1x1.symm ▸ Nat.one_pos))))
    (k1_hw5L : ∀ (kq : ℕ) (hkq : kq < k1_t1_loop.trips), k1_chk5 (arg1.view.readAt (Elt Ideal) (Rect.unit (s := S1x1x512) (k1_off9 ⟨kq, hkq⟩) S1x1x1.size (k1_off9_inb ⟨kq, hkq⟩)).toLoadRect (harg1.unread x0) (Shape.Idx.first (numel1_S1x1x1.symm ▸ Nat.one_pos))))
    (k1_hw6L : ∀ (kq : ℕ) (hkq : kq < k1_t1_loop.trips), k1_chk6 (arg1.view.readAt (Elt Ideal) (Rect.unit (s := S1x1x512) (k1_off9 ⟨kq, hkq⟩) S1x1x1.size (k1_off9_inb ⟨kq, hkq⟩)).toLoadRect (harg1.unread x0) (Shape.Idx.first (numel1_S1x1x1.symm ▸ Nat.one_pos))) (arg2.view.readAt (Elt Ideal) (Rect.unit (s := S1x1x512) (k1_off9 ⟨kq, hkq⟩) S1x1x1.size (k1_off9_inb ⟨kq, hkq⟩)).toLoadRect (harg2.unread x1) (Shape.Idx.first (numel1_S1x1x1.symm ▸ Nat.one_pos))))
    (k1_hw7L : ∀ (kq : ℕ) (hkq : kq < k1_t1_loop.trips), k1_chk7 (arg1.view.readAt (Elt Ideal) (Rect.unit (s := S1x1x512) (k1_off13 ⟨kq, hkq⟩) S1x1x1.size (k1_off13_inb ⟨kq, hkq⟩)).toLoadRect (harg1.unread x0) (Shape.Idx.first (numel1_S1x1x1.symm ▸ Nat.one_pos))))
    (k1_hw8L : ∀ (kq : ℕ) (hkq : kq < k1_t1_loop.trips), k1_chk8 (arg1.view.readAt (Elt Ideal) (Rect.unit (s := S1x1x512) (k1_off13 ⟨kq, hkq⟩) S1x1x1.size (k1_off13_inb ⟨kq, hkq⟩)).toLoadRect (harg1.unread x0) (Shape.Idx.first (numel1_S1x1x1.symm ▸ Nat.one_pos))) (arg2.view.readAt (Elt Ideal) (Rect.unit (s := S1x1x512) (k1_off13 ⟨kq, hkq⟩) S1x1x1.size (k1_off13_inb ⟨kq, hkq⟩)).toLoadRect (harg2.unread x1) (Shape.Idx.first (numel1_S1x1x1.symm ▸ Nat.one_pos))))
    (k1_hw9L : ∀ (kq : ℕ) (hkq : kq < k1_t1_loop.trips), k1_chk9 (arg1.view.readAt (Elt Ideal) (Rect.unit (s := S1x1x512) (k1_off17 ⟨kq, hkq⟩) S1x1x1.size (k1_off17_inb ⟨kq, hkq⟩)).toLoadRect (harg1.unread x0) (Shape.Idx.first (numel1_S1x1x1.symm ▸ Nat.one_pos))))
    (k1_hw10L : ∀ (kq : ℕ) (hkq : kq < k1_t1_loop.trips), k1_chk10 (arg1.view.readAt (Elt Ideal) (Rect.unit (s := S1x1x512) (k1_off17 ⟨kq, hkq⟩) S1x1x1.size (k1_off17_inb ⟨kq, hkq⟩)).toLoadRect (harg1.unread x0) (Shape.Idx.first (numel1_S1x1x1.symm ▸ Nat.one_pos))) (arg2.view.readAt (Elt Ideal) (Rect.unit (s := S1x1x512) (k1_off17 ⟨kq, hkq⟩) S1x1x1.size (k1_off17_inb ⟨kq, hkq⟩)).toLoadRect (harg2.unread x1) (Shape.Idx.first (numel1_S1x1x1.symm ▸ Nat.one_pos))))
    (k1_hw11L : ∀ (kq : ℕ) (hkq : kq < k1_t1_loop.trips), k1_chk11 (arg1.view.readAt (Elt Ideal) (Rect.unit (s := S1x1x512) (k1_off21 ⟨kq, hkq⟩) S1x1x1.size (k1_off21_inb ⟨kq, hkq⟩)).toLoadRect (harg1.unread x0) (Shape.Idx.first (numel1_S1x1x1.symm ▸ Nat.one_pos))))
    (k1_hw12L : ∀ (kq : ℕ) (hkq : kq < k1_t1_loop.trips), k1_chk12 (arg1.view.readAt (Elt Ideal) (Rect.unit (s := S1x1x512) (k1_off21 ⟨kq, hkq⟩) S1x1x1.size (k1_off21_inb ⟨kq, hkq⟩)).toLoadRect (harg1.unread x0) (Shape.Idx.first (numel1_S1x1x1.symm ▸ Nat.one_pos))) (arg2.view.readAt (Elt Ideal) (Rect.unit (s := S1x1x512) (k1_off21 ⟨kq, hkq⟩) S1x1x1.size (k1_off21_inb ⟨kq, hkq⟩)).toLoadRect (harg2.unread x1) (Shape.Idx.first (numel1_S1x1x1.symm ▸ Nat.one_pos))))
    (k1_hw13L : ∀ (kq : ℕ) (hkq : kq < k1_t1_loop.trips), k1_chk13 (arg1.view.readAt (Elt Ideal) (Rect.unit (s := S1x1x512) (k1_off25 ⟨kq, hkq⟩) S1x1x1.size (k1_off25_inb ⟨kq, hkq⟩)).toLoadRect (harg1.unread x0) (Shape.Idx.first (numel1_S1x1x1.symm ▸ Nat.one_pos))))
    (k1_hw14L : ∀ (kq : ℕ) (hkq : kq < k1_t1_loop.trips), k1_chk14 (arg1.view.readAt (Elt Ideal) (Rect.unit (s := S1x1x512) (k1_off25 ⟨kq, hkq⟩) S1x1x1.size (k1_off25_inb ⟨kq, hkq⟩)).toLoadRect (harg1.unread x0) (Shape.Idx.first (numel1_S1x1x1.symm ▸ Nat.one_pos))) (arg2.view.readAt (Elt Ideal) (Rect.unit (s := S1x1x512) (k1_off25 ⟨kq, hkq⟩) S1x1x1.size (k1_off25_inb ⟨kq, hkq⟩)).toLoadRect (harg2.unread x1) (Shape.Idx.first (numel1_S1x1x1.symm ▸ Nat.one_pos))))
    (k1_hw15L : ∀ (kq : ℕ) (hkq : kq < k1_t1_loop.trips), k1_chk15 (arg1.view.readAt (Elt Ideal) (Rect.unit (s := S1x1x512) (k1_off29 ⟨kq, hkq⟩) S1x1x1.size (k1_off29_inb ⟨kq, hkq⟩)).toLoadRect (harg1.unread x0) (Shape.Idx.first (numel1_S1x1x1.symm ▸ Nat.one_pos))))
    (k1_hw16L : ∀ (kq : ℕ) (hkq : kq < k1_t1_loop.trips), k1_chk16 (arg1.view.readAt (Elt Ideal) (Rect.unit (s := S1x1x512) (k1_off29 ⟨kq, hkq⟩) S1x1x1.size (k1_off29_inb ⟨kq, hkq⟩)).toLoadRect (harg1.unread x0) (Shape.Idx.first (numel1_S1x1x1.symm ▸ Nat.one_pos))) (arg2.view.readAt (Elt Ideal) (Rect.unit (s := S1x1x512) (k1_off29 ⟨kq, hkq⟩) S1x1x1.size (k1_off29_inb ⟨kq, hkq⟩)).toLoadRect (harg2.unread x1) (Shape.Idx.first (numel1_S1x1x1.symm ▸ Nat.one_pos)))) (hS : SpanOK x0 x1) :
    ∀ p ∈ (spanRunOf (F := Ideal) c i arg1 harg1 arg2 harg2 arg3 harg3 arg4 harg4 arg5 harg5 arg6 harg6 arg7 harg7 x0 x1 x2 x3 x4 x5 k1_hw1L k1_hw2L k1_hw3L k1_hw4L k1_hw5L k1_hw6L k1_hw7L k1_hw8L k1_hw9L k1_hw10L k1_hw11L k1_hw12L k1_hw13L k1_hw14L k1_hw15L k1_hw16L).1, ∀ x : p.1.shape.Idx, p.2 x = spanBlock x0 x1 x2 x3 x4 x5 (p.1.emb x) := by
  rw [spanRunOf_pieces]
  exact pieces_at c i arg1 harg1 arg2 harg2 arg3 harg3 arg4 harg4 arg5 harg5 arg6 harg6 arg7 harg7 x0 x1 x2 x3 x4 x5 hS k1_hw1L k1_hw2L k1_hw3L k1_hw4L k1_hw5L k1_hw6L k1_hw7L k1_hw8L k1_hw9L k1_hw10L k1_hw11L k1_hw12L k1_hw13L k1_hw14L k1_hw15L k1_hw16L _ (Nat.le_refl _)

/-- What the body leaves in the output's buffer. -/
theorem out1_eq (c : Dev nD) (t : Fin cfg1.N) (x0 : Vec Ideal S1x1x512 .i32) (x1 : Vec Ideal S1x1x512 .i32) (x2 : Vec Ideal S16384x256 .f32) (x3 : Vec Ideal S16384x256 .f32) (x4 : Vec Ideal S16384x1 .f32) (x5 : Vec Ideal S16x20 .f32) (hS : SpanOK x0 x1) : out1 c t x0 x1 x2 x3 x4 x5 = spanBlock x0 x1 x2 x3 x4 x5 := by
  funext y
  unfold out1
  rw [dif_pos hS]
  rw [View.read_writes_eq_canon _ _ _ (span_cover c (grid1.coords t) _ _ _ _ _ _ _ _ _ _ _ _ _ _ x0 x1 x2 x3 x4 x5 hS)]
  refine View.canon_apply_of_pieces (spanBlock x0 x1 x2 x3 x4 x5) _ ?_ y (span_cover c (grid1.coords t) _ _ _ _ _ _ _ _ _ _ _ _ _ _ x0 x1 x2 x3 x4 x5 hS y)
  exact spanRunOf_at c (grid1.coords t) _ _ _ _ _ _ _ _ _ _ _ _ _ _ x0 x1 x2 x3 x4 x5 _ _ _ _ _ _ _ _ _ _ _ _ _ _ _ _ hS

end Cert.KernelIdeal.Run

end
-- ==== Proof.KernelIdeal.SpanArray.lean ====
/- The array of span rows that the second pipeline writes, as a function of the launch's arguments and of the scores of the first. -/
module

public import proofs.«01_k».proof.Proof.KernelIdeal.SpanBlock
public import proofs.«01_k».proof.Proof.KernelIdeal.Entry
public import Idealize.ShloMosaic.Lib.Pipeline.ValueKit.Geometry
public import Idealize.ShloMosaic.Lib.Pipeline.ValueKit.Point
@[expose] public section

set_option maxRecDepth 16384

noncomputable section

namespace Cert.KernelIdeal.Run

open Cert.KernelIdeal Cert.KernelIdeal.Gen
open Cert.Spec
open Idealize.ShloMosaic Idealize.ShloMosaic.TcCoe Idealize.ShloMosaic.Tactic
open Idealize.SL Idealize.SL.Sem
open Idealize.ShloMosaic.Pipeline (Dat Cfg Window)

variable (m : (ℓ : Loc nD τ sig) → Buf (Elt Ideal) ℓ)

/-- Which block each window of the second pipeline is at, at every grid point. -/
theorem idx1 : ∀ t : Fin cfg1.N, win1_0.index t = ![t.val, 0, 0] ∧ win1_1.index t = ![t.val, 0, 0] ∧ win1_2.index t = ![0, 0]
    ∧ win1_3.index t = ![0, 0] ∧ win1_4.index t = ![0, 0] ∧ win1_5.index t = ![0, 0] ∧ win1_6.index t = ![t.val, 0] ∧ t.val < 32 :=
  (by decide +kernel : ∀ t : Fin grid1.N, _)

/-- The table of distances padded to 16 rows reads the original at its first ten rows. -/
theorem pad_at (x : FVec Ideal S10x20 .f32) (z : FVec Ideal S_ .f32) (r : Fin 16) (q : Fin 20) (h : r.val < 10) :
    pad S16x20 ![0, 0] ![6, 0] ![0, 0] x z pads_S10x20_S16x20_060_000 h_S_ (ix2 r q) = x (ix2 ⟨r.val, h⟩ q) := by
  pointwise
  exact dif_pos h

/-- A list of words folded into 32 rows of 512 reads the list at the position counted row by row. -/
theorem words_at (x : Vec Ideal S16384 .i32) (y : S32x1x512.Idx) (k : Fin 16384) (hk : k.val = (y 0).val * 512 + (y 2).val) :
    shapeCast S32x1x512 x shapeCasts_S16384_S32x1x512 y = x (ix1 k) := by
  pointwise
  exact congrArg x (funext fun a => match a with
    | ⟨0, _⟩ => Fin.ext hk.symm)

/-- The word of a grid point's block of starts. -/
theorem iblk1_0_at (c : Dev nD) (t : Fin cfg1.N) (y : S1x1x512.Idx) (k : Fin 16384) (hk : k.val = t.val * 512 + (y 2).val) :
    (show Vec Ideal S1x1x512 .i32 from iblk1 (T4 m) c 0 t) y = (show Vec Ideal S16384 .i32 from m ((c : Thread nD τ).loc main_arg2)) (ix1 k) := by
  show U4 m c (Proc.devRef .tc main_v5) (((cfg1.win 0).blk t).view.emb y) = _
  rw [U4_v5 m c]
  refine words_at _ _ k ?_
  blk_simp [idx1 t]
  idx_bounds y
  omega

/-- The word of a grid point's block of widths. -/
theorem iblk1_1_at (c : Dev nD) (t : Fin cfg1.N) (y : S1x1x512.Idx) (k : Fin 16384) (hk : k.val = t.val * 512 + (y 2).val) :
    (show Vec Ideal S1x1x512 .i32 from iblk1 (T4 m) c 1 t) y = (show Vec Ideal S16384 .i32 from m ((c : Thread nD τ).loc main_arg3)) (ix1 k) := by
  show U4 m c (Proc.devRef .tc main_v6) (((cfg1.win 1).blk t).view.emb y) = _
  rw [U4_v6 m c]
  refine words_at _ _ k ?_
  blk_simp [idx1 t]
  idx_bounds y
  omega

theorem iblk1_2_eq (c : Dev nD) (t : Fin cfg1.N) : (iblk1 (T4 m) c 2 t : Vec Ideal S16384x256 .f32) = m ((c : Thread nD τ).loc main_arg0) := by
  refine Eq.trans ?_ (U4_args m c main_arg0 (by decide))
  blk_ext! [iblk1, idx1 t]

theorem iblk1_3_eq (c : Dev nD) (t : Fin cfg1.N) : (iblk1 (T4 m) c 3 t : Vec Ideal S16384x256 .f32) = m ((c : Thread nD τ).loc main_arg1) := by
  refine Eq.trans ?_ (U4_args m c main_arg1 (by decide))
  blk_ext! [iblk1, idx1 t]

theorem iblk1_4_eq (c : Dev nD) (t : Fin cfg1.N) : (iblk1 (T4 m) c 4 t : Vec Ideal S16384x1 .f32) = U2 m c (Proc.devRef .tc main_v4) := by
  refine Eq.trans ?_ (U4_v4 m c)
  blk_ext! [iblk1, idx1 t]

theorem iblk1_5_eq (c : Dev nD) (t : Fin cfg1.N) : (iblk1 (T4 m) c 5 t : Vec Ideal S16x20 .f32) = U4 m c (Proc.devRef .tc main_v7) := by
  blk_ext! [iblk1, idx1 t]

/-- One row of the span array: what the arguments and a column of scores give. -/
def spanRowOf (S M : FVec Ideal S16384x256 .f32) (st wd : Vec Ideal S16384 .i32) (D : FVec Ideal S10x20 .f32) (A : FVec Ideal S16384x1 .f32)
    (r : Fin 16384) (q : Fin 788) : EReal :=
  spanAt (fun r q => S (ix2 r q)) (fun r q => M (ix2 r q)) (fun r => A (ix2 r 0)) (fun r q => D (ix2 (Fin.castLE (by decide) r) q))
    (st (ix1 r)).toNat (wd (ix1 r)).toNat q

/-- A block's row is a row of the span array, when the block's words and the arrays it sees are that row's and those arrays. -/
theorem spanBlock_row (x0 x1 : Vec Ideal S1x1x512 .i32) (x2 x3 : FVec Ideal S16384x256 .f32) (x4 : FVec Ideal S16384x1 .f32) (x5 : FVec Ideal S16x20 .f32)
    (S M : FVec Ideal S16384x256 .f32) (st wd : Vec Ideal S16384 .i32) (D : FVec Ideal S10x20 .f32) (A : FVec Ideal S16384x1 .f32)
    (y : S512x788.Idx) (r : Fin 16384) (h0 : x0 (ix3 0 0 (y 0)) = st (ix1 r)) (h1 : x1 (ix3 0 0 (y 0)) = wd (ix1 r))
    (h2 : x2 = S) (h3 : x3 = M) (h4 : x4 = A)
    (h5 : ∀ (r : Fin 8) (q : Fin 20), x5 (ix2 (Fin.castLE (by decide) r) q) = D (ix2 (Fin.castLE (by decide) r) q)) :
    spanBlock x0 x1 x2 x3 x4 x5 y = spanRowOf S M st wd D A r (y 1) := by
  subst h2 h3 h4
  unfold spanBlock spanRowOf
  rw [h0, h1]
  exact congrArg (fun D => spanAt _ _ _ D _ _ _) (funext fun r => funext fun q => h5 r q)

/-- The array of span rows the second pipeline leaves. -/
theorem U5_v8 (hV : SpansOK m) (c : Dev nD) :
    U5 m c (Proc.devRef .tc main_v8) = fun y : S16384x788.Idx => spanRowOf (m ((c : Thread nD τ).loc main_arg0)) (m ((c : Thread nD τ).loc main_arg1))
      (m ((c : Thread nD τ).loc main_arg2)) (m ((c : Thread nD τ).loc main_arg3)) (m ((c : Thread nD τ).loc main_arg16))
      (U2 m c (Proc.devRef .tc main_v4)) (y 0) (y 1) := by
  refine (U5_arr m c 6).trans ?_
  refine (dat1 (T4 m) c).arrAt_eq_of_covers 6 _ (by decide +kernel) fun t hf y => ?_
  blk_simp
  rw [after1_6, out1_eq c t _ _ _ _ _ _ (hV c t)]
  have hr : t.val * 512 + (y 0).val < 16384 := by
    have h1 := (idx1 t).2.2.2.2.2.2.2
    have h2 : (y 0).val < 512 := (y 0).isLt
    omega
  have er : (win1_6.blk t).view.emb y 0 = (⟨t.val * 512 + (y 0).val, hr⟩ : Fin 16384) := by
    apply Fin.ext
    blk_simp [idx1 t]
  have eq : (win1_6.blk t).view.emb y 1 = (y 1 : Fin 788) := by
    apply Fin.ext
    blk_simp [idx1 t]
  rw [er, eq]
  refine spanBlock_row _ _ _ _ _ _ _ _ _ _ _ _ y _ (iblk1_0_at m c t _ _ rfl) (iblk1_1_at m c t _ _ rfl) (iblk1_2_eq m c t) (iblk1_3_eq m c t)
    (iblk1_4_eq m c t) fun r q => ?_
  rw [iblk1_5_eq m c t, U4_v7 m c]
  exact pad_at _ _ _ q (by have := r.isLt; show r.val < 10; omega)

end Cert.KernelIdeal.Run

end
-- ==== Proof.ReferenceIdeal.RefValue.lean ====
/- The reference's two results, read at one entry: the span rows and the scores, as the specification gives them. -/
module

public import proofs.«01_k».proof.Proof.ReferenceIdeal.Layers
public import proofs.«01_k».proof.Proof.KernelIdeal.SpanArray
@[expose] public section

set_option maxRecDepth 16384

noncomputable section

namespace Cert.ReferenceIdeal.Rows

open Cert.ReferenceIdeal Cert.ReferenceIdeal.Gen Cert.ReferenceIdeal.Value
open Cert.Spec
open Idealize.ShloMosaic Idealize.ShloMosaic.TcCoe Idealize.ShloMosaic.Tactic
open Idealize.SL.Sem

variable (V : Valuation τ sig (Elt Ideal))

/-- The column of attention scores. -/
def attnArr : FVec Ideal S16384x1 .f32 :=
  laterArr (Host.dotGeneral (F := Ideal) (φ₁ := .f32) (φ₂ := .f32) dot_S16384x256_S256x150_S16384x150_1_0_0_1_n_n none (V (Proc.devRef .tc main_arg0)) (V (Proc.devRef .tc main_arg4)))
    (V (Proc.devRef .tc main_arg5)) (V (Proc.devRef .tc main_arg6)) (V (Proc.devRef .tc main_arg7)) (V (Proc.devRef .tc main_arg8)) (V (Proc.devRef .tc main_arg9))

/-- The span rows. -/
def spanArr : FVec Ideal S16384x788 .f32 :=
  partsArr (taken (V (Proc.devRef .tc main_arg0)) (res_main_call6_v5 V)) (taken (V (Proc.devRef .tc main_arg0)) (res_main_call7_v5 V))
    (pooledArr (taken256s (V (Proc.devRef .tc main_arg1)) (res_main_call4_v5 V)) (res_main_v29 V) (weightArr (res_main_v46 V)))
    (taken20 (V (Proc.devRef .tc main_arg16)) (res_main_call5_v5 V))

/-- The column of span scores. -/
def mentArr : FVec Ideal S16384x1 .f32 :=
  laterArr (Host.dotGeneral (F := Ideal) (φ₁ := .f32) (φ₂ := .f32) dot_S16384x788_S788x150_S16384x150_1_0_0_1_n_n none (spanArr V) (V (Proc.devRef .tc main_arg10)))
    (V (Proc.devRef .tc main_arg11)) (V (Proc.devRef .tc main_arg12)) (V (Proc.devRef .tc main_arg13)) (V (Proc.devRef .tc main_arg14)) (V (Proc.devRef .tc main_arg15))

theorem v34_eq : (res_main_v34 V : FVec Ideal S16384x16 .f32) = maskedArr (res_main_v29 V) (taken1s (attnArr V) (res_main_call2_v5 V)) := by
  unfold res_main_v34
  rfl

theorem v46_eq : (res_main_v46 V : FVec Ideal S16384x16 .f32) = expArr (res_main_v34 V) := by
  unfold res_main_v46
  rfl

variable (hs : ∀ r, (st V r).toNat < 16368) (hw : ∀ r, (wd V r).toNat < 16)
include hs hw

/-- The masked scores of a span. -/
theorem v34_at (r : Fin 16384) (o : Fin 16) : (show FVec Ideal S16384x16 .f32 from res_main_v34 V) (ix2 r o)
    = masked (fun k => attnArr V (ix2 k 0)) (st V r).toNat (wd V r).toNat o := by
  rw [v34_eq]
  refine (maskedArr_at _ _ r o).trans ?_
  rw [taken1s_at (attnArr V) (res_main_call2_v5 V) r o _ (call2_int V hs hw r o)]
  refine (congrArg (fun b => Scalar.select b _ low) (mask_iff V hs hw r o)).trans ?_
  unfold masked
  by_cases h : o.val ≤ (wd V r).toNat
  · rw [if_pos h, if_pos h]; rfl
  · rw [if_neg h, if_neg h]; rfl

/-- The weights of a span. -/
theorem weight_at (r : Fin 16384) (o : Fin 16) : weightArr (res_main_v46 V) (ix2 r o)
    = weight (masked (fun k => attnArr V (ix2 k 0)) (st V r).toNat (wd V r).toNat) o := by
  have e : ∀ o : Fin 16, (show FVec Ideal S16384x16 .f32 from res_main_v46 V) (ix2 r o) = exps (masked (fun k => attnArr V (ix2 k 0)) (st V r).toNat (wd V r).toNat) o := by
    intro o
    rw [v46_eq]
    refine (expArr_at _ r o).trans ?_
    exact congrArg (fun p => exps p o) (funext fun o => v34_at V hs hw r o)
  refine (weightArr_at _ r o).trans ?_
  unfold weight
  exact congr (congrArg Ideal.div (e o)) (Finset.sum_congr rfl fun i _ => e i)

/-- The span rows, entry by entry. -/
theorem spanArr_at (r : Fin 16384) (q : Fin 788) : spanArr V (ix2 r q)
    = Cert.KernelIdeal.Run.spanRowOf (V (Proc.devRef .tc main_arg0)) (V (Proc.devRef .tc main_arg1)) (V (Proc.devRef .tc main_arg2)) (V (Proc.devRef .tc main_arg3))
        (V (Proc.devRef .tc main_arg16)) (attnArr V) r q := by
  unfold spanArr Cert.KernelIdeal.Run.spanRowOf Cert.KernelIdeal.Run.spanAt
  rw [partsArr_at]
  by_cases h1 : q.val < 256
  · rw [dif_pos h1, dif_pos h1]
    exact taken_at _ _ r _ _ (start_int V hs hw r)
  · rw [dif_neg h1, dif_neg h1]
    by_cases h2 : q.val < 512
    · rw [dif_pos h2, dif_pos h2]
      exact taken_at _ _ r _ _ (end_int V hs hw r)
    · rw [dif_neg h2, dif_neg h2]
      by_cases h3 : q.val < 768
      · rw [dif_pos h3, dif_pos h3]
        refine (pooledArr_at _ _ _ r _).trans ?_
        unfold pooled
        refine Finset.sum_congr rfl fun o _ => ?_
        rw [taken256s_at _ _ r o _ _ (call4_int V hs hw r o), weight_at V hs hw r o]
        refine congrArg (fun z : EReal => _ * z * _) ?_
        refine (congrArg (fun b : BitVec 1 => if b = 1#1 then (1 : EReal) else 0) (mask_iff V hs hw r o)).trans ?_
        by_cases h : o.val ≤ (wd V r).toNat
        · rw [if_pos h, if_pos h]; rfl
        · rw [if_neg h, if_neg h]; rfl
      · rw [dif_neg h3, dif_neg h3]
        refine taken20_at _ _ r _ ⟨bin (wd V r).toNat, by have := bin_lt (wd V r).toNat; omega⟩ (bin_int V hs hw r)

end Cert.ReferenceIdeal.Rows

end
-- ==== Proof.KernelIdeal.Mlp.lean ====
/- The two scoring networks of the kernel, read at one row: what the first and the third pipelines leave in their output arrays. -/
module

public import proofs.«01_k».proof.Proof.KernelIdeal.SpanArray
public import proofs.«01_k».proof.Proof.Shared.Layers
public import proofs.«01_k».proof.Proof.KernelIdeal.Attn
public import proofs.«01_k».proof.Proof.KernelIdeal.Ment
@[expose] public section

set_option maxRecDepth 16384

noncomputable section

namespace Cert.KernelIdeal.Run

open Cert.KernelIdeal Cert.KernelIdeal.Gen
open Cert.Spec
open Idealize.ShloMosaic Idealize.ShloMosaic.TcCoe Idealize.ShloMosaic.Tactic
open Idealize.SL Idealize.SL.Sem
open Idealize.ShloMosaic.Pipeline (Dat Cfg Window)

variable (m : (ℓ : Loc nD τ sig) → Buf (Elt Ideal) ℓ)

/-- The first pipeline's body at one row of its block. -/
theorem pay0_at (v0 : FVec Ideal S2048x256 .f32) (v1 : FVec Ideal S256x150 .f32) (v3 : FVec Ideal S1x150 .f32) (v10 : FVec Ideal S150x150 .f32)
    (v12 : FVec Ideal S1x150 .f32) (v19 : FVec Ideal S150x1 .bf16) (v22 : FVec Ideal S1x1 .f32) (y : S2048x1.Idx) :
    k0_pay1 (F := Ideal) v0 v1 v3 v10 v12 v19 v22 y = score (fun i => v0 (ix2 (y 0) i)) (fun i j => v1 (ix2 i j)) (fun j => v3 (ix2 0 j))
      (fun k j => v10 (ix2 k j)) (fun j => v12 (ix2 0 j)) (fun j => v19 (ix2 j 0)) (v22 (ix2 0 0)) := by
  idx_vars y
  obtain rfl : y1 = 0 := Subsingleton.elim _ _
  pointwise [k0_pay1]
  rfl

/-- The third pipeline's body at one row of its block. -/
theorem pay2_at (v0 : FVec Ideal S2048x150 .f32) (v3 : FVec Ideal S1x150 .f32) (v10 : FVec Ideal S150x150 .f32)
    (v12 : FVec Ideal S1x150 .f32) (v19 : FVec Ideal S150x1 .bf16) (v22 : FVec Ideal S1x1 .f32) (y : S2048x1.Idx) :
    k2_pay1 (F := Ideal) v0 v3 v10 v12 v19 v22 y = later (fun i => v0 (ix2 (y 0) i)) (fun j => v3 (ix2 0 j))
      (fun k j => v10 (ix2 k j)) (fun j => v12 (ix2 0 j)) (fun j => v19 (ix2 j 0)) (v22 (ix2 0 0)) := by
  idx_vars y
  obtain rfl : y1 = 0 := Subsingleton.elim _ _
  pointwise [k2_pay1]
  rfl

/-- A list of 150 numbers laid as one row. -/
theorem row150_at (x : FVec Ideal S150 .f32) (j : Fin 150) : shapeCast S1x150 x shapeCasts_S150_S1x150 (ix2 0 j) = x (ix1 j) := by
  pointwise

/-- One number laid as a block. -/
theorem one_at (x : FVec Ideal S1 .f32) : shapeCast S1x1 x shapeCasts_S1_S1x1 (ix2 0 0) = x (ix1 0) := by
  pointwise

/-- Which block each window of the first pipeline is at, at every grid point. -/
theorem idx0 : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0] ∧ win0_7.index t = ![t.val, 0] ∧ t.val < 8 :=
  (by decide +kernel : ∀ t : Fin grid0.N, _)

/-- Which block each window of the third pipeline is at, at every grid point. -/
theorem idx2 : ∀ t : Fin cfg2.N, win2_0.index t = ![t.val, 0] ∧ win2_1.index t = ![0, 0] ∧ win2_2.index t = ![0, 0]
    ∧ win2_3.index t = ![0, 0] ∧ win2_4.index t = ![0, 0] ∧ win2_5.index t = ![0, 0] ∧ win2_6.index t = ![t.val, 0] ∧ t.val < 8 :=
  (by decide +kernel : ∀ t : Fin grid2.N, _)

theorem out0_eq (x0 : FVec Ideal S2048x256 .f32) (x1 : FVec Ideal S256x150 .f32) (x2 : FVec Ideal S1x150 .f32) (x3 : FVec Ideal S150x150 .f32)
    (x4 : FVec Ideal S1x150 .f32) (x5 : FVec Ideal S150x1 .bf16) (x6 : FVec Ideal S1x1 .f32) :
    out0 (F := Ideal) x0 x1 x2 x3 x4 x5 x6 = k0_pay1 (F := Ideal) x0 x1 x2 x3 x4 x5 x6 := by
  unfold out0
  frame_out

theorem out2_eq (x0 : FVec Ideal S2048x150 .f32) (x2 : FVec Ideal S1x150 .f32) (x3 : FVec Ideal S150x150 .f32)
    (x4 : FVec Ideal S1x150 .f32) (x5 : FVec Ideal S150x1 .bf16) (x6 : FVec Ideal S1x1 .f32) :
    out2 (F := Ideal) x0 x2 x3 x4 x5 x6 = k2_pay1 (F := Ideal) x0 x2 x3 x4 x5 x6 := by
  unfold out2
  frame_out

theorem iblk0_0_at (c : Dev nD) (t : Fin cfg0.N) (y : S2048x256.Idx) (k : Fin 16384) (hk : k.val = t.val * 2048 + (y 0).val) :
    (show FVec Ideal S2048x256 .f32 from iblk0 (T1 m) c 0 t) y = (show FVec Ideal S16384x256 .f32 from m ((c : Thread nD τ).loc main_arg0)) (ix2 k (y 1)) := by
  show U1 m c (Proc.devRef .tc main_arg0) (((cfg0.win 0).blk t).view.emb y) = _
  rw [U1_args m c main_arg0 (by decide)]
  blk_ext [idx0 t]

theorem iblk0_1_eq (c : Dev nD) (t : Fin cfg0.N) : (iblk0 (T1 m) c 1 t : Vec Ideal S256x150 .f32) = m ((c : Thread nD τ).loc main_arg4) := by
  refine Eq.trans ?_ (U1_args m c main_arg4 (by decide))
  blk_ext! [iblk0, idx0 t]
theorem iblk0_2_eq (c : Dev nD) (t : Fin cfg0.N) : (iblk0 (T1 m) c 2 t : Vec Ideal S1x150 .f32) = U1 m c (Proc.devRef .tc main_v0) := by
  blk_ext! [iblk0, idx0 t]
theorem iblk0_3_eq (c : Dev nD) (t : Fin cfg0.N) : (iblk0 (T1 m) c 3 t : Vec Ideal S150x150 .f32) = m ((c : Thread nD τ).loc main_arg6) := by
  refine Eq.trans ?_ (U1_args m c main_arg6 (by decide))
  blk_ext! [iblk0, idx0 t]
theorem iblk0_4_eq (c : Dev nD) (t : Fin cfg0.N) : (iblk0 (T1 m) c 4 t : Vec Ideal S1x150 .f32) = U1 m c (Proc.devRef .tc main_v1) := by
  blk_ext! [iblk0, idx0 t]
theorem iblk0_5_eq (c : Dev nD) (t : Fin cfg0.N) : (iblk0 (T1 m) c 5 t : Vec Ideal S150x1 .bf16) = U1 m c (Proc.devRef .tc main_v2) := by
  blk_ext! [iblk0, idx0 t]
theorem iblk0_6_eq (c : Dev nD) (t : Fin cfg0.N) : (iblk0 (T1 m) c 6 t : Vec Ideal S1x1 .f32) = U1 m c (Proc.devRef .tc main_v3) := by
  blk_ext! [iblk0, idx0 t]

/-- The attention scores, as arrays of the problem give them. -/
def attnOf (S : FVec Ideal S16384x256 .f32) (W1 : FVec Ideal S256x150 .f32) (b1 : FVec Ideal S150 .f32) (W2 : FVec Ideal S150x150 .f32)
    (b2 : FVec Ideal S150 .f32) (w3 : FVec Ideal S150x1 .f32) (b3 : FVec Ideal S1 .f32) (r : Fin 16384) : EReal :=
  score (fun i => S (ix2 r i)) (fun i j => W1 (ix2 i j)) (fun j => b1 (ix1 j)) (fun k j => W2 (ix2 k j)) (fun j => b2 (ix1 j)) (fun j => w3 (ix2 j 0)) (b3 (ix1 0))

/-- The score of a row of a block is the score of the row it is in the whole array. -/
theorem attn_row (x0 : FVec Ideal S2048x256 .f32) (x1 W1 : FVec Ideal S256x150 .f32) (x2 : FVec Ideal S1x150 .f32) (x3 W2 : FVec Ideal S150x150 .f32)
    (x4 : FVec Ideal S1x150 .f32) (x5 : FVec Ideal S150x1 .bf16) (x6 : FVec Ideal S1x1 .f32) (S : FVec Ideal S16384x256 .f32)
    (b1 b2 : FVec Ideal S150 .f32) (w3 : FVec Ideal S150x1 .f32) (b3 : FVec Ideal S1 .f32) (y : S2048x1.Idx) (r : Fin 16384)
    (h0 : ∀ i : Fin 256, x0 (ix2 (y 0) i) = S (ix2 r i)) (h1 : x1 = W1) (h2 : ∀ j : Fin 150, x2 (ix2 0 j) = b1 (ix1 j)) (h3 : x3 = W2)
    (h4 : ∀ j : Fin 150, x4 (ix2 0 j) = b2 (ix1 j)) (h5 : ∀ j : Fin 150, x5 (ix2 j 0) = w3 (ix2 j 0)) (h6 : x6 (ix2 0 0) = b3 (ix1 0)) :
    out0 (F := Ideal) x0 x1 x2 x3 x4 x5 x6 y = attnOf S W1 b1 W2 b2 w3 b3 r := by
  subst h1 h3
  rw [out0_eq, pay0_at]
  unfold attnOf
  rw [funext h0, funext h2, funext h4, funext h5, h6]

/-- The column of attention scores the first pipeline leaves. -/
theorem U2_v4 (c : Dev nD) :
    U2 m c (Proc.devRef .tc main_v4) = fun y : S16384x1.Idx => attnOf (m ((c : Thread nD τ).loc main_arg0)) (m ((c : Thread nD τ).loc main_arg4))
      (m ((c : Thread nD τ).loc main_arg5)) (m ((c : Thread nD τ).loc main_arg6)) (m ((c : Thread nD τ).loc main_arg7))
      (m ((c : Thread nD τ).loc main_arg8)) (m ((c : Thread nD τ).loc main_arg9)) (y 0) := by
  refine (U2_arr m c 7).trans ?_
  refine (dat0 (T1 m) c).arrAt_eq_of_covers 7 _ (by decide +kernel) fun t hf y => ?_
  blk_simp
  rw [after0_7]
  have hr : t.val * 2048 + (y 0).val < 16384 := by
    have h1 := (idx0 t).2.2.2.2.2.2.2.2
    have h2 : (y 0).val < 2048 := (y 0).isLt
    omega
  have er : (win0_7.blk t).view.emb y 0 = (⟨t.val * 2048 + (y 0).val, hr⟩ : Fin 16384) := by
    apply Fin.ext
    blk_simp [idx0 t]
  rw [er]
  refine attn_row _ _ _ _ _ _ _ _ _ _ _ _ _ _ y _ (fun i => iblk0_0_at m c t (ix2 (y 0) i) _ rfl) (iblk0_1_eq m c t) (fun j => ?_) (iblk0_3_eq m c t)
    (fun j => ?_) (fun j => ?_) ?_
  · rw [iblk0_2_eq m c t, U1_v0 m c]; exact row150_at _ j
  · rw [iblk0_4_eq m c t, U1_v1 m c]; exact row150_at _ j
  · rw [iblk0_5_eq m c t, U1_v2 m c]; rfl
  · rw [iblk0_6_eq m c t, U1_v3 m c]; exact one_at _

theorem iblk2_0_at (c : Dev nD) (t : Fin cfg2.N) (y : S2048x150.Idx) (k : Fin 16384) (hk : k.val = t.val * 2048 + (y 0).val) :
    (show FVec Ideal S2048x150 .f32 from iblk2 (T6 m) c 0 t) y = (show FVec Ideal S16384x150 .f32 from U6 m c (Proc.devRef .tc main_v10)) (ix2 k (y 1)) := by
  show U6 m c (Proc.devRef .tc main_v10) (((cfg2.win 0).blk t).view.emb y) = _
  blk_ext [idx2 t]

theorem iblk2_1_eq (c : Dev nD) (t : Fin cfg2.N) : (iblk2 (T6 m) c 1 t : Vec Ideal S1x150 .f32) = U6 m c (Proc.devRef .tc main_v11) := by
  blk_ext! [iblk2, idx2 t]
theorem iblk2_2_eq (c : Dev nD) (t : Fin cfg2.N) : (iblk2 (T6 m) c 2 t : Vec Ideal S150x150 .f32) = m ((c : Thread nD τ).loc main_arg12) := by
  refine Eq.trans ?_ (U6_args m c main_arg12 (by decide))
  blk_ext! [iblk2, idx2 t]
theorem iblk2_3_eq (c : Dev nD) (t : Fin cfg2.N) : (iblk2 (T6 m) c 3 t : Vec Ideal S1x150 .f32) = U6 m c (Proc.devRef .tc main_v12) := by
  blk_ext! [iblk2, idx2 t]
theorem iblk2_4_eq (c : Dev nD) (t : Fin cfg2.N) : (iblk2 (T6 m) c 4 t : Vec Ideal S150x1 .bf16) = U6 m c (Proc.devRef .tc main_v13) := by
  blk_ext! [iblk2, idx2 t]
theorem iblk2_5_eq (c : Dev nD) (t : Fin cfg2.N) : (iblk2 (T6 m) c 5 t : Vec Ideal S1x1 .f32) = U6 m c (Proc.devRef .tc main_v14) := by
  blk_ext! [iblk2, idx2 t]

/-- The scores of spans, as arrays give them. -/
def mentOf (G : FVec Ideal S16384x788 .f32) (W1 : FVec Ideal S788x150 .f32) (b1 : FVec Ideal S150 .f32) (W2 : FVec Ideal S150x150 .f32)
    (b2 : FVec Ideal S150 .f32) (w3 : FVec Ideal S150x1 .f32) (b3 : FVec Ideal S1 .f32) (r : Fin 16384) : EReal :=
  score (fun i => G (ix2 r i)) (fun i j => W1 (ix2 i j)) (fun j => b1 (ix1 j)) (fun k j => W2 (ix2 k j)) (fun j => b2 (ix1 j)) (fun j => w3 (ix2 j 0)) (b3 (ix1 0))

/-- The products of the span rows with the first matrix, which the host computes. -/
theorem prod_at (G : FVec Ideal S16384x788 .f32) (W1 : FVec Ideal S788x150 .f32) (r : Fin 16384) (j : Fin 150) :
    (Host.dotGeneral dot_S16384x788_S788x150_S16384x150_1_0_0_1_n_n none (truncf .bf16 G bitsLt_bf16_f32 : FVec Ideal S16384x788 .bf16) W1 : FVec Ideal S16384x150 .f32) (ix2 r j)
      = products (fun i => G (ix2 r i)) (fun i j => W1 (ix2 i j)) j := by
  pointwise
  rfl

/-- The score of a row of a block is the score of the row it is in the whole array. -/
theorem ment_row (x0 : FVec Ideal S2048x150 .f32) (x2 : FVec Ideal S1x150 .f32) (x3 W2 : FVec Ideal S150x150 .f32)
    (x4 : FVec Ideal S1x150 .f32) (x5 : FVec Ideal S150x1 .bf16) (x6 : FVec Ideal S1x1 .f32) (G : FVec Ideal S16384x788 .f32) (W1 : FVec Ideal S788x150 .f32)
    (b1 b2 : FVec Ideal S150 .f32) (w3 : FVec Ideal S150x1 .f32) (b3 : FVec Ideal S1 .f32) (y : S2048x1.Idx) (r : Fin 16384)
    (h0 : ∀ j : Fin 150, x0 (ix2 (y 0) j) = products (fun i => G (ix2 r i)) (fun i j => W1 (ix2 i j)) j) (h2 : ∀ j : Fin 150, x2 (ix2 0 j) = b1 (ix1 j)) (h3 : x3 = W2)
    (h4 : ∀ j : Fin 150, x4 (ix2 0 j) = b2 (ix1 j)) (h5 : ∀ j : Fin 150, x5 (ix2 j 0) = w3 (ix2 j 0)) (h6 : x6 (ix2 0 0) = b3 (ix1 0)) :
    out2 (F := Ideal) x0 x2 x3 x4 x5 x6 y = mentOf G W1 b1 W2 b2 w3 b3 r := by
  subst h3
  rw [out2_eq, pay2_at]
  unfold mentOf score
  rw [funext h0, funext h2, funext h4, funext h5, h6]

/-- The column of span scores the third pipeline leaves. -/
theorem U7_v15 (c : Dev nD) :
    U7 m c (Proc.devRef .tc main_v15) = fun y : S16384x1.Idx => mentOf (U5 m c (Proc.devRef .tc main_v8)) (m ((c : Thread nD τ).loc main_arg10))
      (m ((c : Thread nD τ).loc main_arg11)) (m ((c : Thread nD τ).loc main_arg12)) (m ((c : Thread nD τ).loc main_arg13))
      (m ((c : Thread nD τ).loc main_arg14)) (m ((c : Thread nD τ).loc main_arg15)) (y 0) := by
  refine (U7_arr m c 6).trans ?_
  refine (dat2 (T6 m) c).arrAt_eq_of_covers 6 _ (by decide +kernel) fun t hf y => ?_
  blk_simp
  rw [after2_6]
  have hr : t.val * 2048 + (y 0).val < 16384 := by
    have h1 := (idx2 t).2.2.2.2.2.2.2
    have h2 : (y 0).val < 2048 := (y 0).isLt
    omega
  have er : (win2_6.blk t).view.emb y 0 = (⟨t.val * 2048 + (y 0).val, hr⟩ : Fin 16384) := by
    apply Fin.ext
    blk_simp [idx2 t]
  rw [er]
  refine ment_row _ _ _ _ _ _ _ _ _ _ _ _ _ y _ (fun j => ?_) (fun j => ?_) (iblk2_2_eq m c t)
    (fun j => ?_) (fun j => ?_) ?_
  · refine (iblk2_0_at m c t (ix2 (y 0) j) ⟨t.val * 2048 + (y 0).val, hr⟩ rfl).trans ?_
    rw [U6_v10 m c]; exact prod_at _ _ _ j
  · rw [iblk2_1_eq m c t, U6_v11 m c]; exact row150_at _ j
  · rw [iblk2_3_eq m c t, U6_v12 m c]; exact row150_at _ j
  · rw [iblk2_4_eq m c t, U6_v13 m c]; rfl
  · rw [iblk2_5_eq m c t, U6_v14 m c]; exact one_at _

end Cert.KernelIdeal.Run

end
-- ==== Proof.ReferenceIdeal.RefArrays.lean ====
/- The reference's two result arrays as functions of its arguments. -/
module

public import proofs.«01_k».proof.Proof.ReferenceIdeal.RefValue
public import proofs.«01_k».proof.Proof.KernelIdeal.Mlp
@[expose] public section

set_option maxRecDepth 16384

noncomputable section

namespace Cert.ReferenceIdeal.Rows

open Cert.ReferenceIdeal Cert.ReferenceIdeal.Gen Cert.ReferenceIdeal.Value
open Cert.Spec Cert.KernelIdeal.Run
open Idealize.ShloMosaic Idealize.ShloMosaic.TcCoe Idealize.ShloMosaic.Tactic
open Idealize.SL.Sem Idealize.ShloMosaic.StableHlo

/-- The products and the later layers together are the score of the row: the attention scores. -/
theorem layers256 (S : FVec Ideal S16384x256 .f32) (W1 : FVec Ideal S256x150 .f32) (b1 : FVec Ideal S150 .f32) (W2 : FVec Ideal S150x150 .f32)
    (b2 : FVec Ideal S150 .f32) (w3 : FVec Ideal S150x1 .f32) (b3 : FVec Ideal S1 .f32) :
    laterArr (Host.dotGeneral dot_S16384x256_S256x150_S16384x150_1_0_0_1_n_n none S W1) b1 W2 b2 w3 b3 = fun y : S16384x1.Idx => attnOf S W1 b1 W2 b2 w3 b3 (y 0) := by
  funext y
  idx_vars y
  obtain rfl : y1 = 0 := Subsingleton.elim _ _
  refine (laterArr_at _ b1 W2 b2 w3 b3 y0).trans ?_
  exact congrArg (fun g => later g (fun j => b1 (ix1 j)) (fun k j => W2 (ix2 k j)) (fun j => b2 (ix1 j)) (fun j => w3 (ix2 j 0)) (b3 (ix1 0))) (funext fun j => prod256_at S W1 y0 j)

/-- The same of the span rows: the span scores. -/
theorem layers788 (G : FVec Ideal S16384x788 .f32) (W1 : FVec Ideal S788x150 .f32) (b1 : FVec Ideal S150 .f32) (W2 : FVec Ideal S150x150 .f32)
    (b2 : FVec Ideal S150 .f32) (w3 : FVec Ideal S150x1 .f32) (b3 : FVec Ideal S1 .f32) :
    laterArr (Host.dotGeneral dot_S16384x788_S788x150_S16384x150_1_0_0_1_n_n none G W1) b1 W2 b2 w3 b3 = fun y : S16384x1.Idx => mentOf G W1 b1 W2 b2 w3 b3 (y 0) := by
  funext y
  idx_vars y
  obtain rfl : y1 = 0 := Subsingleton.elim _ _
  refine (laterArr_at _ b1 W2 b2 w3 b3 y0).trans ?_
  exact congrArg (fun g => later g (fun j => b1 (ix1 j)) (fun k j => W2 (ix2 k j)) (fun j => b2 (ix1 j)) (fun j => w3 (ix2 j 0)) (b3 (ix1 0))) (funext fun j => prod788_at G W1 y0 j)

/-- The span rows as a function of the arguments. -/
theorem spanArr_eq (V : Valuation τ sig (Elt Ideal)) {S M : FVec Ideal S16384x256 .f32} {a2 a3 : Vec Ideal S16384 .i32} {W1 : FVec Ideal S256x150 .f32}
    {b1 : FVec Ideal S150 .f32} {W2 : FVec Ideal S150x150 .f32} {b2 : FVec Ideal S150 .f32} {w3 : FVec Ideal S150x1 .f32} {b3 : FVec Ideal S1 .f32} {D : FVec Ideal S10x20 .f32}
    (e0 : V (Proc.devRef .tc main_arg0) = S) (e1 : V (Proc.devRef .tc main_arg1) = M) (e2 : V (Proc.devRef .tc main_arg2) = a2) (e3 : V (Proc.devRef .tc main_arg3) = a3)
    (e4 : V (Proc.devRef .tc main_arg4) = W1) (e5 : V (Proc.devRef .tc main_arg5) = b1) (e6 : V (Proc.devRef .tc main_arg6) = W2) (e7 : V (Proc.devRef .tc main_arg7) = b2)
    (e8 : V (Proc.devRef .tc main_arg8) = w3) (e9 : V (Proc.devRef .tc main_arg9) = b3) (e16 : V (Proc.devRef .tc main_arg16) = D)
    (h2 : ∀ y : S16384.Idx, BitVec.toNat (a2 y) < 16368) (h3 : ∀ y : S16384.Idx, BitVec.toNat (a3 y) < 16) :
    spanArr V = fun y : S16384x788.Idx => spanRowOf S M a2 a3 D (fun y : S16384x1.Idx => attnOf S W1 b1 W2 b2 w3 b3 (y 0)) (y 0) (y 1) := by
  subst e0 e1 e2 e3 e4 e5 e6 e7 e8 e9 e16
  funext y
  idx_vars y
  refine (spanArr_at V (fun r => h2 _) (fun r => h3 _) y0 y1).trans ?_
  unfold attnArr
  rw [layers256]

/-- The span scores as a function of the span rows and the arguments. -/
theorem mentArr_eq (V : Valuation τ sig (Elt Ideal)) {W1 : FVec Ideal S788x150 .f32}
    {b1 : FVec Ideal S150 .f32} {W2 : FVec Ideal S150x150 .f32} {b2 : FVec Ideal S150 .f32} {w3 : FVec Ideal S150x1 .f32} {b3 : FVec Ideal S1 .f32}
    (e10 : V (Proc.devRef .tc main_arg10) = W1) (e11 : V (Proc.devRef .tc main_arg11) = b1) (e12 : V (Proc.devRef .tc main_arg12) = W2) (e13 : V (Proc.devRef .tc main_arg13) = b2)
    (e14 : V (Proc.devRef .tc main_arg14) = w3) (e15 : V (Proc.devRef .tc main_arg15) = b3) :
    mentArr V = fun y : S16384x1.Idx => mentOf (spanArr V) W1 b1 W2 b2 w3 b3 (y 0) := by
  subst e10 e11 e12 e13 e14 e15
  unfold mentArr
  exact layers788 _ _ _ _ _ _ _

set_option maxRecDepth 65536 in
/-- What a run of the reference leaves: the span rows, the span scores, the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v66) = spanArr (launchContents m c)
      ∧ r.2.mem ((c.tc : Thread nD τ).loc main_v80) = mentArr (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c => ⟨(h c).1.trans (by unfold spanArr; rfl), (h c).2.1.trans (by unfold res_main_v71 mentArr spanArr; rfl), (h c).2.2⟩)
    (Cert.ReferenceIdeal.Value.run (F := Ideal) m ρ)

end Cert.ReferenceIdeal.Rows

end
-- ==== Proof.Shared.Algebraic.lean ====
/- The idealized kernel and the reference compute the same span rows and the same span scores. -/
module

public import proofs.«01_k».proof.Proof.Shared.Frames
public import proofs.«01_k».proof.Proof.ReferenceIdeal.RefArrays

@[expose] public section

noncomputable section

namespace Cert.Proof

open Idealize.ShloMosaic Idealize.ShloMosaic.TcCoe Idealize.SL.Sem

section Values

open Cert.KernelIdeal Cert.KernelIdeal.Gen Cert.KernelIdeal.Run

variable (m : (ℓ : Loc nD τ sig) → Buf (Elt Ideal) ℓ) (c : Dev nD)

/-- The span rows that a memory's arguments determine. -/
def spanRows : FVec Ideal S16384x788 .f32 := fun y => spanRowOf (m ((c : Thread nD τ).loc main_arg0)) (m ((c : Thread nD τ).loc main_arg1))
  (m ((c : Thread nD τ).loc main_arg2)) (m ((c : Thread nD τ).loc main_arg3)) (m ((c : Thread nD τ).loc main_arg16))
  (fun y : S16384x1.Idx => attnOf (m ((c : Thread nD τ).loc main_arg0)) (m ((c : Thread nD τ).loc main_arg4))
      (m ((c : Thread nD τ).loc main_arg5)) (m ((c : Thread nD τ).loc main_arg6)) (m ((c : Thread nD τ).loc main_arg7))
      (m ((c : Thread nD τ).loc main_arg8)) (m ((c : Thread nD τ).loc main_arg9)) (y 0)) (y 0) (y 1)

/-- The span scores that a memory's arguments determine. -/
def spanScores : FVec Ideal S16384x1 .f32 := fun y => mentOf (spanRows m c) (m ((c : Thread nD τ).loc main_arg10))
      (m ((c : Thread nD τ).loc main_arg11)) (m ((c : Thread nD τ).loc main_arg12)) (m ((c : Thread nD τ).loc main_arg13))
      (m ((c : Thread nD τ).loc main_arg14)) (m ((c : Thread nD τ).loc main_arg15)) (y 0)

/-- The kernel leaves the span rows. -/
theorem kernel_rows (hV : SpansOK m) : U5 m c (Proc.devRef .tc main_v8) = spanRows m c := by
  refine (U5_v8 m hV c).trans ?_
  rw [U2_v4]
  rfl

/-- The kernel leaves the span scores. -/
theorem kernel_scores (hV : SpansOK m) : U7 m c (Proc.devRef .tc main_v15) = spanScores m c := by
  refine (U7_v15 m c).trans ?_
  rw [kernel_rows m c hV]
  rfl

end Values

/-- The idealized kernel and the reference, from memories agreeing on the arguments and with the span words in range, leave
    the same span rows and the same span scores, the arguments unchanged. -/
theorem algebraic : Cert.algebraic_KernelIdeal_ReferenceIdeal := fun m ρ m' ρ' hp ha => by
  have hV := spans_kernelIdeal m hp
  refine ⟨fun c => spanRows m c, fun c => spanScores m c, ?_, ?_⟩
  · refine (θ_run Cert.KernelIdeal.defs _ _).mono (fun r h c => ?_) (Cert.KernelIdeal.Run.run m ρ hV)
    have f := fun a hn hm => Cert.KernelIdeal.Run.arg_final m h.1 c a hn hm
    refine ⟨?_, ?_, f _ (by decide) (by decide), f _ (by decide) (by decide), f _ (by decide) (by decide), f _ (by decide) (by decide), f _ (by decide) (by decide),
      f _ (by decide) (by decide), f _ (by decide) (by decide), f _ (by decide) (by decide), f _ (by decide) (by decide), f _ (by decide) (by decide),
      f _ (by decide) (by decide), f _ (by decide) (by decide), f _ (by decide) (by decide), f _ (by decide) (by decide), f _ (by decide) (by decide),
      f _ (by decide) (by decide), f _ (by decide) (by decide), f _ (by decide) (by decide)⟩
    · exact (Cert.KernelIdeal.Run.read_final m h.1 c _ (by decide)).trans ((Cert.KernelIdeal.Run.U7_v8 m c).trans (kernel_rows m c hV))
    · exact (Cert.KernelIdeal.Run.read_final m h.1 c _ (by decide)).trans (kernel_scores m c hV)
  · refine (θ_run Cert.ReferenceIdeal.defs _ _).mono (fun r h c => ?_) (Cert.ReferenceIdeal.Rows.run m' ρ')
    obtain ⟨e0, e1, e2, e3, e4, e5, e6, e7, e8, e9, e10, e11, e12, e13, e14, e15, e16, e17⟩ := ha c
    have hw := Cert.PreWords.words _ _ _ _ _ _ _ _ _ _ _ _ _ _ _ _ _ _ (hp c)
    have hrows : Cert.ReferenceIdeal.Rows.spanArr (Idealize.ShloMosaic.StableHlo.launchContents m' c) = spanRows m c :=
      Cert.ReferenceIdeal.Rows.spanArr_eq (Idealize.ShloMosaic.StableHlo.launchContents m' c) e0 e1 e2 e3 e4 e5 e6 e7 e8 e9 e16 (fun y => (hw y).1) (fun y => (hw y).2)
    refine ⟨(h c).1.trans hrows, (h c).2.1.trans ?_, (h c).2.2⟩
    refine (Cert.ReferenceIdeal.Rows.mentArr_eq (Idealize.ShloMosaic.StableHlo.launchContents m' c) e10 e11 e12 e13 e14 e15).trans ?_
    rw [hrows]
    rfl

end Cert.Proof

end
-- ==== Proof.Kernel2.Steps.lean ====
/- One step of each of the two bodies of the ranking kernel, read at one entry, and each body as its 16 steps. -/
module

public import proofs.«01_k».proof.Proof.Gen.Kernel2.Frame
public import Idealize.ShloMosaic.Lib.Pipeline.ValueKit.Point
public import Idealize.ShloMosaic.Lib.SortKey
public import Idealize.ShloMosaic.Lib.WordSum
@[expose] public section

set_option maxRecDepth 16384

noncomputable section

namespace Cert.Kernel2.Run

open Cert.Kernel2 Cert.Kernel2.Gen
open Idealize.ShloMosaic Idealize.ShloMosaic.TcCoe Idealize.ShloMosaic.Tactic
open Idealize.SL Idealize.SL.Sem

/-- The key of a score's word, as the kernel computes it. -/
def keyWord (w : BitVec 32) : BitVec 32 := Scalar.select (IntOp.cmpi .slt w 0#32) (IntOp.xori 2147483647#32 w) w

/-- One where the score `a` at `j` comes ahead of the one with key `b` at `i`, else zero. -/
def aheadWord (a b j i : BitVec 32) : BitVec 32 :=
  IntOp.addi ((IntOp.cmpi .sgt a b).setWidth 32) ((IntOp.andi (IntOp.cmpi .eq a b) (IntOp.cmpi .slt j i)).setWidth 32)

/-- One step of the first body: the number of a block of 1024 scores that come ahead of each score is added. -/
def rankStep (ki idx : IVec S1024x1 32) (off : BitVec 32) (row : FVec Bits S1x1024 .f32) (acc : IVec S1024x1 32) : IVec S1024x1 32 :=
  let w : IVec S1x1024 32 := bitcastToInt (shapeCast S1x1024 row shapeCasts_S1x1024_S1x1024)
  let kj : IVec S1x1024 32 := select (cmpi .slt w (broadcast S1x1024 0#32)) (xori (broadcast S1x1024 2147483647#32) w) w
  let jdx : IVec S1x1024 32 := addi (iota .tc S1x1024 32 [1] iota_S1x1024_d1_w32) (broadcast S1x1024 off)
  let gt : IVec S1024x1024 32 := extui 32 (cmpi .sgt (broadcastTo S1024x1024 kj broadcasts_S1x1024_S1024x1024) (broadcastTo S1024x1024 ki broadcasts_S1024x1_S1024x1024)) natLt_1_32
  let eq : IVec S1024x1024 32 := extui 32 (andi (cmpi .eq (broadcastTo S1024x1024 kj broadcasts_S1x1024_S1024x1024) (broadcastTo S1024x1024 ki broadcasts_S1024x1_S1024x1024))
    (cmpi .slt (broadcastTo S1024x1024 jdx broadcasts_S1x1024_S1024x1024) (broadcastTo S1024x1024 idx broadcasts_S1024x1_S1024x1024))) natLt_1_32
  addi acc (shapeCast S1024x1 (multiReductionI .add [1] S1024 (addi gt eq) 0#32 reduces_S1024x1024_S1024 rfl) shapeCasts_S1024_S1024x1)

/-- One step of the second body: the position of the score of each rank, if it is in a block of 1024, is added. -/
def selectStep (want : IVec S1x1024 32) (off : BitVec 32) (col : IVec S1024x1 32) (acc : IVec S1x1024 32) : IVec S1x1024 32 :=
  let idx : IVec S1024x1 32 := addi (iota .tc S1024x1 32 [0] iota_S1024x1_d0_w32) (broadcast S1024x1 off)
  let hit : IVec S1024x1024 1 := cmpi .eq (broadcastTo S1024x1024 (shapeCast S1024x1 col shapeCasts_S1024x1_S1024x1) broadcasts_S1024x1_S1024x1024)
    (broadcastTo S1024x1024 want broadcasts_S1x1024_S1024x1024)
  let sel : IVec S1024x1024 32 := select hit (broadcastTo S1024x1024 (shapeCast S1024x1 idx shapeCasts_S1024x1_S1024x1) broadcasts_S1024x1_S1024x1024) (broadcast S1024x1024 0#32)
  addi acc (shapeCast S1x1024 (multiReductionI .add [0] S1024 sel 0#32 reduces_S1024x1024_S1024_2 rfl) shapeCasts_S1024_S1x1024)

/-- Adding up words one by one is their sum. -/
theorem fold_addi {ι : Type} (f : ι → BitVec 32) (S : Finset ι) : S.fold IntOp.addi (0#32) f = ∑ x ∈ S, f x := by
  classical
  induction S using Finset.induction_on with
  | empty => rfl
  | insert a S ha ih => rw [Finset.fold_insert ha, Finset.sum_insert ha, ih]; rfl

theorem rankStep_at (ki idx : IVec S1024x1 32) (off : BitVec 32) (row : FVec Bits S1x1024 .f32) (acc : IVec S1024x1 32) (p : Fin 1024) :
    rankStep ki idx off row acc (ix2 p 0) = acc (ix2 p 0) + ∑ l : Fin 1024,
      aheadWord (keyWord (row (ix2 0 l))) (ki (ix2 p 0)) (BitVec.ofNat 32 l.val + off) (idx (ix2 p 0)) := by
  pointwise [rankStep]
  rw [fold_addi]
  rfl

theorem selectStep_at (want : IVec S1x1024 32) (off : BitVec 32) (col : IVec S1024x1 32) (acc : IVec S1x1024 32) (p : Fin 1024) :
    selectStep want off col acc (ix2 0 p) = acc (ix2 0 p) + ∑ l : Fin 1024,
      Scalar.select (IntOp.cmpi .eq (col (ix2 l 0)) (want (ix2 0 p))) (BitVec.ofNat 32 l.val + off) 0#32 := by
  pointwise [selectStep]
  rw [fold_addi]
  rfl

/-- Position `l` of block `c`. -/
def posn (c : Fin 16) (l : Fin 1024) : Fin 16384 := ⟨c.val * 1024 + l.val, by omega⟩

/-- Block `c` of the row of scores. -/
def rowBlock (x1 : FVec Bits S1x16384 .f32) (c : Fin 16) : FVec Bits S1x1024 .f32 := fun y => x1 (ix2 0 (posn c (y 1)))

/-- Block `c` of the column of ranks. -/
def colBlock (x0 : IVec S16384x1 32) (c : Fin 16) : IVec S1024x1 32 := fun y => x0 (ix2 (posn c (y 0)) 0)

theorem ld_row (x1 : FVec Bits S1x16384 .f32) (c : Fin 16) (h : ∀ a, (![0, c.val * 1024] : Fin 2 → ℕ) a + S1x1024.size a ≤ S1x16384.size a) :
    (View.ld (Val := Elt Bits) (e' := .f32) x1 (Rect.unit (s := S1x16384) ![0, c.val * 1024] S1x1024.size h) : FVec Bits S1x1024 .f32) = rowBlock x1 c := by
  funext y
  idx_vars y
  refine congrArg x1 ?_
  funext a
  fin_cases a
  · exact Subsingleton.elim (α := Fin 1) _ _
  · apply Fin.ext
    show c.val * 1024 + 1 * y1.val = c.val * 1024 + y1.val
    omega

theorem ld_col (x0 : IVec S16384x1 32) (c : Fin 16) (h : ∀ a, (![c.val * 1024, 0] : Fin 2 → ℕ) a + S1024x1.size a ≤ S16384x1.size a) :
    (View.ld (Val := Elt Bits) (e' := .i32) x0 (Rect.unit (s := S16384x1) ![c.val * 1024, 0] S1024x1.size h) : IVec S1024x1 32) = colBlock x0 c := by
  funext y
  idx_vars y
  refine congrArg x0 ?_
  funext a
  fin_cases a
  · apply Fin.ext
    show c.val * 1024 + 1 * y0.val = c.val * 1024 + y0.val
    omega
  · exact Subsingleton.elim (α := Fin 1) _ _

theorem row_fits (c : Fin 16) (a : Fin 2) : (![0, c.val * 1024] : Fin 2 → ℕ) a + S1x1024.size a ≤ S1x16384.size a := by
  fin_cases a
  · show _ ≤ _
    exact Nat.le_refl 1
  · show c.val * 1024 + 1024 ≤ 16384
    omega

theorem col_fits (c : Fin 16) (a : Fin 2) : (![c.val * 1024, 0] : Fin 2 → ℕ) a + S1024x1.size a ≤ S16384x1.size a := by
  fin_cases a
  · show c.val * 1024 + 1024 ≤ 16384
    omega
  · show _ ≤ _
    exact Nat.le_refl 1

/-- Sixteen steps in order. -/
def steps {α : Type} (f : Fin 16 → α → α) (a : α) : α :=
  f 15 (f 14 (f 13 (f 12 (f 11 (f 10 (f 9 (f 8 (f 7 (f 6 (f 5 (f 4 (f 3 (f 2 (f 1 (f 0 a)))))))))))))))

/-- Steps that each add a word to an entry add the sum of the words. -/
theorem steps_at {ι : Type} (f : Fin 16 → (ι → BitVec 32) → ι → BitVec 32) (y : ι) (g : Fin 16 → BitVec 32) (h : ∀ c a, f c a y = a y + g c) (a : ι → BitVec 32) :
    steps f a y = a y + ∑ c, g c := by
  simp only [steps, h, Fin.sum_univ_castSucc, Fin.sum_univ_zero, zero_add, add_assoc]
  rfl

theorem out0_steps (i : grid0.Coords) (x0 : FVec Bits S1024x1 .f32) (x1 : FVec Bits S1x16384 .f32) :
    (show IVec S1024x1 32 from out0_2 (F := Bits) i x0 x1) =
      steps (fun c => rankStep (k0_pay2 (F := Bits) x0) (k0_pay3 i) (BitVec.ofNat 32 (c.val * 1024)) (rowBlock x1 c)) (broadcast S1024x1 0#32) := by
  refine Eq.trans (b := steps (fun c => rankStep (k0_pay2 (F := Bits) x0) (k0_pay3 i) (BitVec.ofNat 32 (c.val * 1024))
    (View.ld (Val := Elt Bits) (e' := .f32) x1 (Rect.unit (s := S1x16384) ![0, c.val * 1024] S1x1024.size (row_fits c)))) (broadcast S1024x1 0#32)) ?_ ?_
  · unfold_out out0_2
    frame_out
    rfl
  · exact congrArg (fun f => steps f _) (funext fun c => congrArg (rankStep _ _ _) (ld_row x1 c (row_fits c)))

theorem out1_steps (i : grid1.Coords) (x0 : IVec S16384x1 32) :
    (show IVec S1x1024 32 from out1_1 (F := Bits) i x0) =
      steps (fun c => selectStep (k1_pay2 i) (BitVec.ofNat 32 (c.val * 1024)) (colBlock x0 c)) (broadcast S1x1024 0#32) := by
  refine Eq.trans (b := steps (fun c => selectStep (k1_pay2 i) (BitVec.ofNat 32 (c.val * 1024))
    (View.ld (Val := Elt Bits) (e' := .i32) x0 (Rect.unit (s := S16384x1) ![c.val * 1024, 0] S1024x1.size (col_fits c)))) (broadcast S1x1024 0#32)) ?_ ?_
  · unfold_out out1_1
    frame_out
    rfl
  · exact congrArg (fun f => steps f _) (funext fun c => congrArg (selectStep _ _) (ld_col x0 c (col_fits c)))

end Cert.Kernel2.Run

end
-- ==== Proof.Shared.Rank.lean ====
/- A stable descending sort lists the positions by their ranks. -/
module

public import Idealize.ShloMosaic.Lib.SortFacts
public import Idealize.ShloMosaic.PureOps

@[expose] public section

namespace Cert.Rank

open Idealize.ShloMosaic

variable {n : ℕ} (key : Fin n → ℤ)

/-- Position `i` comes ahead of position `j`: its key is greater, or the keys are equal and it is the earlier position. -/
def Ahead (i j : Fin n) : Prop := key j < key i ∨ (key i = key j ∧ i < j)

instance (i j : Fin n) : Decidable (Ahead key i j) := inferInstanceAs (Decidable (_ ∨ _))

/-- The number of positions ahead of `i`. -/
def rank (i : Fin n) : ℕ := (Finset.univ.filter fun j => Ahead key j i).card

/-- Inserting a position earlier than every position of a list in order keeps it in order. -/
theorem ordered_insert (a : Fin n) : ∀ l : List (Fin n), l.Pairwise (Ahead key) → (∀ b ∈ l, a < b) →
    (insertBefore (fun i j => decide (key j < key i)) a l).Pairwise (Ahead key)
  | [], _, _ => List.pairwise_singleton _ _
  | b :: l, hl, hb => by
    have hl' := List.pairwise_cons.mp hl
    unfold insertBefore
    by_cases h : key a < key b
    · rw [if_pos (decide_eq_true h)]
      refine List.pairwise_cons.mpr ⟨fun x hx => ?_, ordered_insert a l hl'.2 fun x hx => hb x (List.mem_cons_of_mem _ hx)⟩
      rcases List.mem_cons.mp ((perm_insertBefore _ a l).mem_iff.mp hx) with rfl | hx
      · exact .inl h
      · exact hl'.1 x hx
    · rw [if_neg (by rw [decide_eq_false h]; exact Bool.false_ne_true)]
      refine List.pairwise_cons.mpr ⟨fun x hx => ?_, hl⟩
      have h1 : key b ≤ key a := Int.not_lt.mp h
      have h2 : x = b ∨ Ahead key b x := (List.mem_cons.mp hx).imp id (hl'.1 x)
      have h3 : key x ≤ key b := by
        rcases h2 with rfl | h2 | h2
        · exact le_refl _
        · exact le_of_lt h2
        · exact le_of_eq h2.1.symm
      have h4 : a < x := hb x hx
      unfold Ahead
      omega

/-- The stable sort of a list of increasing positions is in order. -/
theorem ordered_sort : ∀ l : List (Fin n), l.Pairwise (· < ·) → (stableSort (fun i j => decide (key j < key i)) l).Pairwise (Ahead key)
  | [], _ => List.Pairwise.nil
  | a :: l, hl => by
    have hl' := List.pairwise_cons.mp hl
    exact ordered_insert key a _ (ordered_sort l hl'.2) fun b hb => hl'.1 b ((perm_stableSort _ l).mem_iff.mp hb)

/-- The position a stable descending sort puts at `k`. -/
abbrev sorted : Fin n → Fin n := sortedFrom fun i j => decide (key j < key i)

/-- Sorted positions are in order. -/
theorem sorted_ahead (i j : Fin n) (h : i < j) : Ahead key (sorted key i) (sorted key j) := by
  have hp := ordered_sort key (List.finRange n) (List.pairwise_lt_finRange n)
  exact List.pairwise_iff_get.mp hp (i.cast (length_sortPositions n _).symm) (j.cast (length_sortPositions n _).symm) h

theorem not_ahead_both (i j : Fin n) (h : Ahead key i j) : ¬ Ahead key j i := by
  unfold Ahead at *
  omega

theorem not_ahead_self (i : Fin n) : ¬ Ahead key i i := by
  unfold Ahead
  omega

/-- The position sorted to `k` has rank `k`. -/
theorem rank_sorted (k : Fin n) : rank key (sorted key k) = k.val := by
  have e : (Finset.univ.filter fun j => Ahead key j (sorted key k)) = (Finset.univ.filter fun i : Fin n => i < k).image (sorted key) := by
    ext j
    obtain ⟨i, rfl⟩ := sortedFrom_surjective (fun i j => decide (key j < key i)) j
    constructor
    · intro h
      have h := (Finset.mem_filter.mp h).2
      refine Finset.mem_image_of_mem _ (Finset.mem_filter.mpr ⟨Finset.mem_univ _, ?_⟩)
      by_contra hik
      rcases lt_or_eq_of_le (not_lt.mp hik) with hlt | heq
      · exact not_ahead_both key _ _ h (sorted_ahead key k i hlt)
      · subst heq; exact not_ahead_self key _ h
    · intro h
      obtain ⟨i', hi', he⟩ := Finset.mem_image.mp h
      rw [sortedFrom_injective _ he] at hi'
      exact Finset.mem_filter.mpr ⟨Finset.mem_univ _, sorted_ahead key i k (Finset.mem_filter.mp hi').2⟩
  unfold rank
  rw [e, Finset.card_image_of_injective _ (sortedFrom_injective _)]
  have e2 : (Finset.univ.filter fun i : Fin n => i < k) = Finset.Iio k := by ext i; simp
  rw [e2, Fin.card_Iio]

/-- A position of rank `k` is the one sorted to `k`. -/
theorem rank_eq_iff (i k : Fin n) : rank key i = k.val ↔ i = sorted key k := by
  constructor
  · intro h
    obtain ⟨l, rfl⟩ := sortedFrom_surjective (fun i j => decide (key j < key i)) i
    have e : l.val = k.val := (rank_sorted key l).symm.trans h
    rw [Fin.ext e]
  · rintro rfl; exact rank_sorted key k

end Cert.Rank
-- ==== Proof.Kernel2.Count.lean ====
/- The words the two bodies of the ranking kernel add up, as ranks and positions. -/
module

public import proofs.«01_k».proof.Proof.Kernel2.Steps
public import proofs.«01_k».proof.Proof.Shared.Rank
@[expose] public section

namespace Cert.Kernel2.Run

open Cert.Rank
open Idealize.ShloMosaic

/-- The key of the score at each position, as a number. -/
def keyOf (s : Fin 16384 → BitVec 32) (i : Fin 16384) : ℤ := (keyWord (s i)).toInt

/-- The word of a position. -/
abbrev wordOf (i : ℕ) : BitVec 32 := BitVec.ofNat 32 i

theorem toInt_wordOf (i : ℕ) (h : i < 2147483648) : (wordOf i).toInt = i := by
  rw [BitVec.toInt_ofNat']
  show Int.bmod _ 4294967296 = _
  rw [Int.bmod_def]
  split <;> omega

theorem wordOf_inj (i j : ℕ) (hi : i < 2147483648) (hj : j < 2147483648) : wordOf i = wordOf j ↔ i = j := by
  constructor
  · intro h
    have e := congrArg BitVec.toInt h
    rw [toInt_wordOf i hi, toInt_wordOf j hj] at e
    omega
  · rintro rfl; rfl

/-- The key of a word is the library's sortable key. -/
theorem keyWord_eq (w : BitVec 32) : keyWord w = sortableKey w := by
  unfold keyWord
  by_cases h : w.msb = true
  · rw [sortableKey_of_msb_true w h]
    have : IntOp.cmpi .slt w 0#32 = 1#1 := by
      simp [IntOp.cmpi, BitVec.slt_zero_eq_msb, h]
    rw [this]
    exact BitVec.xor_comm _ _
  · have h := eq_false_of_ne_true h
    rw [sortableKey_of_msb_false w h]
    have : IntOp.cmpi .slt w 0#32 = 0#1 := by
      simp [IntOp.cmpi, BitVec.slt_zero_eq_msb, h]
    rw [this]
    rfl

theorem aheadWord_eq (s : Fin 16384 → BitVec 32) (j i : Fin 16384) :
    aheadWord (keyWord (s j)) (keyWord (s i)) (wordOf j.val) (wordOf i.val) = if Ahead (keyOf s) j i then 1 else 0 := by
  have hj := toInt_wordOf j.val (by omega)
  have hi := toInt_wordOf i.val (by omega)
  have h1 : IntOp.cmpi .sgt (keyWord (s j)) (keyWord (s i)) = BitVec.ofBool (decide (keyOf s i < keyOf s j)) := rfl
  have h2 : IntOp.cmpi .slt (wordOf j.val) (wordOf i.val) = BitVec.ofBool (decide (j < i)) := by
    refine congrArg BitVec.ofBool ?_
    unfold BitVec.slt
    rw [hj, hi]
    refine decide_eq_decide.mpr ?_
    omega
  have h3 : IntOp.cmpi .eq (keyWord (s j)) (keyWord (s i)) = BitVec.ofBool (decide (keyOf s j = keyOf s i)) := by
    refine congrArg BitVec.ofBool ?_
    refine (decide_eq_decide.mpr ?_ : decide (keyWord (s j) = keyWord (s i)) = _)
    exact BitVec.toInt_inj.symm
  unfold aheadWord
  rw [h1, h2, h3]
  by_cases a : keyOf s i < keyOf s j
  · have b : ¬ keyOf s j = keyOf s i := by omega
    rw [decide_eq_true a, decide_eq_false b, if_pos (show Ahead (keyOf s) j i from Or.inl a)]
    cases decide (j < i) <;> rfl
  · rw [decide_eq_false a]
    by_cases b : keyOf s j = keyOf s i
    · rw [decide_eq_true b]
      by_cases c : j < i
      · rw [decide_eq_true c, if_pos (show Ahead (keyOf s) j i from Or.inr ⟨b, c⟩)]; rfl
      · rw [decide_eq_false c, if_neg (show ¬ Ahead (keyOf s) j i from not_or.mpr ⟨a, fun h => c h.2⟩)]; rfl
    · rw [decide_eq_false b, if_neg (show ¬ Ahead (keyOf s) j i from not_or.mpr ⟨a, fun h => b h.1⟩)]
      cases decide (j < i) <;> rfl

/-- A sum over the blocks is a sum over all positions. -/
theorem sum_blocks (g : Fin 16384 → BitVec 32) : ∑ c : Fin 16, ∑ l : Fin 1024, g (posn c l) = ∑ j : Fin 16384, g j := by
  rw [← Fintype.sum_prod_type']
  refine Fintype.sum_equiv (finProdFinEquiv : Fin 16 × Fin 1024 ≃ Fin 16384) _ _ fun x => congrArg g (Fin.ext ?_)
  show x.1.val * 1024 + x.2.val = x.2.val + 1024 * x.1.val
  omega

theorem posn_word (c : Fin 16) (l : Fin 1024) : BitVec.ofNat 32 l.val + BitVec.ofNat 32 (c.val * 1024) = wordOf (posn c l).val := by
  rw [← BitVec.ofNat_add, Nat.add_comm]
  rfl

/-- All the words the first body adds come to the rank. -/
theorem rank_word (s : Fin 16384 → BitVec 32) (i : Fin 16384) :
    ∑ c : Fin 16, ∑ l : Fin 1024, aheadWord (keyWord (s (posn c l))) (keyWord (s i)) (BitVec.ofNat 32 l.val + BitVec.ofNat 32 (c.val * 1024)) (wordOf i.val) =
      wordOf (rank (keyOf s) i) := by
  simp only [posn_word, aheadWord_eq]
  rw [sum_blocks fun j => if Ahead (keyOf s) j i then (1 : BitVec 32) else 0]
  exact Finset.sum_boole _ _

theorem rank_lt (key : Fin 16384 → ℤ) (i : Fin 16384) : rank key i < 2147483648 := by
  have h : rank key i ≤ 16384 := (Finset.card_filter_le _ _).trans (by simp)
  omega

/-- All the words the second body adds come to the position of the wanted rank. -/
theorem select_word (key : Fin 16384 → ℤ) (r : Fin 16384) :
    ∑ c : Fin 16, ∑ l : Fin 1024, Scalar.select (IntOp.cmpi .eq (wordOf (rank key (posn c l))) (wordOf r.val)) (BitVec.ofNat 32 l.val + BitVec.ofNat 32 (c.val * 1024)) 0#32 =
      wordOf (sorted key r).val := by
  simp only [posn_word]
  rw [sum_blocks fun j => Scalar.select (IntOp.cmpi .eq (wordOf (rank key j)) (wordOf r.val)) (wordOf j.val) 0#32]
  have e (j : Fin 16384) : Scalar.select (IntOp.cmpi .eq (wordOf (rank key j)) (wordOf r.val)) (wordOf j.val) 0#32 = if j = sorted key r then wordOf j.val else 0 := by
    have h := (wordOf_inj (rank key j) r.val (rank_lt key j) (by omega)).trans (rank_eq_iff key j r)
    have h1 : IntOp.cmpi .eq (wordOf (rank key j)) (wordOf r.val) = BitVec.ofBool (decide (j = sorted key r)) := by
      refine congrArg BitVec.ofBool ?_
      exact (decide_eq_decide.mpr h : decide (wordOf (rank key j) = wordOf r.val) = _)
    rw [h1]
    by_cases a : j = sorted key r
    · rw [decide_eq_true a, if_pos a]; rfl
    · rw [decide_eq_false a, if_neg a]; rfl
  simp only [e]
  rw [Finset.sum_ite_eq' Finset.univ (sorted key r) fun j => wordOf j.val, if_pos (Finset.mem_univ _)]

end Cert.Kernel2.Run
-- ==== Proof.Kernel2.Arrays.lean ====
/- What the two pipelines of the ranking kernel and the operations around them leave. -/
module

public import proofs.«01_k».proof.Proof.Kernel2.Count
@[expose] public section

set_option maxRecDepth 16384

noncomputable section

namespace Cert.Kernel2.Run

open Cert.Kernel2 Cert.Kernel2.Gen Cert.Rank
open Idealize.ShloMosaic Idealize.ShloMosaic.TcCoe Idealize.ShloMosaic.Tactic Idealize.ShloMosaic.Pipeline
open Idealize.SL Idealize.SL.Sem

variable (m : (ℓ : Loc nD τ sig) → Buf (Elt Bits) ℓ) (ρ : Dev nD → PrngReg)

/-- The scores the program is given. -/
def scores (c : Dev nD) (i : Fin 16384) : BitVec 32 := (show FVec Bits S16384x1 .f32 from m ((c : Thread nD τ).loc main_arg0)) (ix2 i 0)

/-- The own keys of a block of scores. -/
theorem pay2_at (x0 : FVec Bits S1024x1 .f32) (p : Fin 1024) : k0_pay2 (F := Bits) x0 (ix2 p 0) = keyWord (x0 (ix2 p 0)) := by
  pointwise [k0_pay2]
  rfl

theorem pay3_at (i : grid0.Coords) (p : Fin 1024) : k0_pay3 i (ix2 p 0) = wordOf ((i 0).val * 1024 + p.val) := by
  pointwise [k0_pay3]
  show BitVec.ofNat 32 p.val + BitVec.ofNat 32 (i 0).val * BitVec.ofNat 32 1024 = _
  rw [← BitVec.ofNat_mul, ← BitVec.ofNat_add, Nat.add_comm]

theorem pay1_at (i : grid1.Coords) (p : Fin 1024) : k1_pay2 i (ix2 0 p) = wordOf ((i 0).val * 1024 + p.val) := by
  pointwise [k1_pay2]
  show BitVec.ofNat 32 p.val + BitVec.ofNat 32 (i 0).val * BitVec.ofNat 32 1024 = _
  rw [← BitVec.ofNat_mul, ← BitVec.ofNat_add, Nat.add_comm]

theorem rankSteps_at (ki idx : IVec S1024x1 32) (x1 : FVec Bits S1x16384 .f32) (acc : IVec S1024x1 32) (p : Fin 1024) :
    steps (fun c => rankStep ki idx (BitVec.ofNat 32 (c.val * 1024)) (rowBlock x1 c)) acc (ix2 p 0) = acc (ix2 p 0) + ∑ c : Fin 16, ∑ l : Fin 1024,
      aheadWord (keyWord (x1 (ix2 0 (posn c l)))) (ki (ix2 p 0)) (BitVec.ofNat 32 l.val + BitVec.ofNat 32 (c.val * 1024)) (idx (ix2 p 0)) :=
  steps_at (fun c => rankStep ki idx (BitVec.ofNat 32 (c.val * 1024)) (rowBlock x1 c)) (ix2 p 0)
    (fun c => ∑ l : Fin 1024, aheadWord (keyWord (rowBlock x1 c (ix2 0 l))) (ki (ix2 p 0)) (BitVec.ofNat 32 l.val + BitVec.ofNat 32 (c.val * 1024)) (idx (ix2 p 0)))
    (fun c a => rankStep_at ki idx (BitVec.ofNat 32 (c.val * 1024)) (rowBlock x1 c) a p) acc

theorem selectSteps_at (want : IVec S1x1024 32) (x0 : IVec S16384x1 32) (acc : IVec S1x1024 32) (p : Fin 1024) :
    steps (fun c => selectStep want (BitVec.ofNat 32 (c.val * 1024)) (colBlock x0 c)) acc (ix2 0 p) = acc (ix2 0 p) + ∑ c : Fin 16, ∑ l : Fin 1024,
      Scalar.select (IntOp.cmpi .eq (x0 (ix2 (posn c l) 0)) (want (ix2 0 p))) (BitVec.ofNat 32 l.val + BitVec.ofNat 32 (c.val * 1024)) 0#32 :=
  steps_at (fun c => selectStep want (BitVec.ofNat 32 (c.val * 1024)) (colBlock x0 c)) (ix2 0 p)
    (fun c => ∑ l : Fin 1024, Scalar.select (IntOp.cmpi .eq (colBlock x0 c (ix2 l 0)) (want (ix2 0 p))) (BitVec.ofNat 32 l.val + BitVec.ofNat 32 (c.val * 1024)) 0#32)
    (fun c a => selectStep_at want (BitVec.ofNat 32 (c.val * 1024)) (colBlock x0 c) a p) acc

/-- The first body leaves the ranks of its block of scores. -/
theorem out0_at (i : grid0.Coords) (x0 : FVec Bits S1024x1 .f32) (x1 : FVec Bits S1x16384 .f32) (s : Fin 16384 → BitVec 32) (p : Fin 1024) (r : Fin 16384)
    (hr : r.val = (i 0).val * 1024 + p.val) (h0 : x0 (ix2 p 0) = s r) (h1 : ∀ j : Fin 16384, x1 (ix2 0 j) = s j) :
    (show IVec S1024x1 32 from out0_2 (F := Bits) i x0 x1) (ix2 p 0) = wordOf (rank (keyOf s) r) := by
  rw [out0_steps, rankSteps_at, pay2_at, pay3_at, ← hr, h0, ← rank_word s r]
  simp only [h1]
  exact BitVec.zero_add _

/-- The second body leaves the positions of the ranks of its block. -/
theorem out1_at (i : grid1.Coords) (x0 : IVec S16384x1 32) (key : Fin 16384 → ℤ) (p : Fin 1024) (r : Fin 16384)
    (hr : r.val = (i 0).val * 1024 + p.val) (h0 : ∀ j : Fin 16384, x0 (ix2 j 0) = wordOf (rank key j)) :
    (show IVec S1x1024 32 from out1_1 (F := Bits) i x0) (ix2 0 p) = wordOf (sorted key r).val := by
  rw [out1_steps, selectSteps_at, pay1_at, ← hr, ← select_word key r]
  simp only [h0]
  exact BitVec.zero_add _

/-- Which block each window of the first pipeline is at, at every grid point. -/
theorem idx0 : ∀ t : Fin cfg0.N, win0_0.index t = ![t.val, 0] ∧ win0_1.index t = ![0, 0] ∧ win0_2.index t = ![t.val, 0] ∧ (grid0.coords t 0).val = t.val ∧ t.val < 16 :=
  (by decide +kernel : ∀ t : Fin grid0.N, _)

/-- Which block each window of the second pipeline is at, at every grid point. -/
theorem idx1 : ∀ t : Fin cfg1.N, win1_0.index t = ![0, 0] ∧ win1_1.index t = ![0, t.val] ∧ (grid1.coords t 0).val = t.val ∧ t.val < 7 :=
  (by decide +kernel : ∀ t : Fin grid1.N, _)

theorem iblk0_0_at (c : Dev nD) (t : Fin cfg0.N) (y : S1024x1.Idx) (k : Fin 16384) (hk : k.val = t.val * 1024 + (y 0).val) :
    (show FVec Bits S1024x1 .f32 from iblk0 (V1 m ρ) c 0 t) y = scores m c k := by
  show W1 m ρ c (Proc.devRef .tc main_arg0) (((cfg0.win 0).blk t).view.emb y) = _
  rw [W1_args m ρ c main_arg0 (by decide)]
  unfold scores
  blk_ext [idx0 t]

theorem W1_v0 (c : Dev nD) (j : Fin 16384) : (show FVec Bits S1x16384 .f32 from W1 m ρ c (Proc.devRef .tc main_v0)) (ix2 0 j) = scores m c j := by
  show shapeCast S1x16384 (show FVec Bits S16384x1 .f32 from m ((c : Thread nD τ).loc main_arg0)) shapeCasts_S16384x1_S1x16384 (ix2 0 j) = _
  unfold scores
  pointwise

theorem iblk0_1_at (c : Dev nD) (t : Fin cfg0.N) (j : Fin 16384) :
    (show FVec Bits S1x16384 .f32 from iblk0 (V1 m ρ) c 1 t) (ix2 0 j) = scores m c j := by
  refine Eq.trans (congrFun (?_ : (iblk0 (V1 m ρ) c 1 t : Vec Bits S1x16384 .f32) = W1 m ρ c (Proc.devRef .tc main_v0)) (ix2 0 j)) (W1_v0 m ρ c j)
  blk_ext! [iblk0, idx0 t]

/-- The first pipeline leaves the rank of each score. -/
theorem W2_v1 (c : Dev nD) : W2 m ρ c (Proc.devRef .tc main_v1) = fun y : S16384x1.Idx => wordOf (rank (keyOf (scores m c)) (y 0)) := by
  refine (W2_arr m ρ c 2).trans ?_
  refine (dat0 (V1 m ρ) c).arrAt_eq_of_covers 2 _ (by decide +kernel) fun t hf y => ?_
  blk_simp
  rw [after0_2]
  have ht := (idx0 t).2.2.2.2
  have hy : (y 0).val < 1024 := (y 0).isLt
  have er : (win0_2.blk t).view.emb y 0 = (⟨t.val * 1024 + (y 0).val, by omega⟩ : Fin 16384) := by
    apply Fin.ext
    blk_simp [idx0 t]
  rw [er]
  idx_vars y
  obtain rfl : y1 = 0 := Subsingleton.elim _ _
  exact out0_at _ _ _ (scores m c) y0 _ (by rw [(idx0 t).2.2.2.1]) (iblk0_0_at m ρ c t _ _ rfl) (iblk0_1_at m ρ c t)

theorem iblk1_0_at (c : Dev nD) (t : Fin cfg1.N) (j : Fin 16384) :
    (show IVec S16384x1 32 from iblk1 (V2 m ρ) c 0 t) (ix2 j 0) = wordOf (rank (keyOf (scores m c)) j) := by
  refine Eq.trans (congrFun (?_ : (iblk1 (V2 m ρ) c 0 t : Vec Bits S16384x1 .i32) = W2 m ρ c (Proc.devRef .tc main_v1)) (ix2 j 0)) (congrFun (W2_v1 m ρ c) (ix2 j 0))
  blk_ext! [iblk1, idx1 t]

/-- The second pipeline leaves the position of each rank. -/
theorem W3_v2 (c : Dev nD) : W3 m ρ c (Proc.devRef .tc main_v2) = fun y : S1x7168.Idx => wordOf (sorted (keyOf (scores m c)) ⟨(y 1).val, by have : (y 1).val < 7168 := (y 1).isLt; omega⟩).val := by
  refine (W3_arr m ρ c 1).trans ?_
  refine (dat1 (V2 m ρ) c).arrAt_eq_of_covers 1 _ (by decide +kernel) fun t hf y => ?_
  blk_simp
  rw [after1_1]
  have ht := (idx1 t).2.2.2
  have hy : (y 1).val < 1024 := (y 1).isLt
  idx_vars y
  obtain rfl : y0 = 0 := Subsingleton.elim _ _
  exact out1_at _ _ _ y1 _ (by rw [(idx1 t).2.2.1]; show win1_1.index t 1 * 1024 + y1.val = _; rw [(idx1 t).2.1]; rfl) (iblk1_0_at m ρ c t)

/-- What the program's result holds. -/
theorem W4_v4 (c : Dev nD) : W4 m ρ c (Proc.devRef .tc main_v4) = fun y : S6553.Idx => wordOf (sorted (keyOf (scores m c)) ⟨(y 0).val, by have : (y 0).val < 6553 := (y 0).isLt; omega⟩).val := by
  funext y
  show extractStridedSlice S6553 ![0] (shapeCast S7168 (show IVec S1x7168 32 from W3 m ρ c (Proc.devRef .tc main_v2)) shapeCasts_S1x7168_S7168) slices_S7168_S6553_0 y = _
  rw [W3_v2 m ρ c]
  idx_vars y
  pointwise

end Cert.Kernel2.Run
-- ==== Proof.Kernel2.Launch.lean ====
/- The ranking kernel's run, with the contents it ends with. -/
module

public import proofs.«01_k».proof.Proof.Kernel2.Arrays
@[expose] public section

set_option maxRecDepth 16384

noncomputable section

namespace Cert.Kernel2.Run

open Cert.Kernel2 Cert.Kernel2.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable (m : (ℓ : Loc nD τ sig) → Buf (Elt Bits) ℓ) (ρ : Dev nD → PrngReg)

set_option backward.isDefEq.respectTransparency.types false in
/-- From any memory, with zero counters, every execution ends with the contents `W4` and every counter at zero. -/
theorem run : θ_run defs (onTc (τ := τ) (main (F := Bits))) ⟨m, fun _ => 0, ρ⟩ (fun r =>
      (∀ c : Dev nD, ∀ b ∈ Pipeline.ucRefs τ sig, r.2.mem (c, b) = W4 m ρ c b) ∧ r.2.sem = fun _ => 0) :=
  Pipeline.θ_run_regions_kit_sems (pcfgs (F := Bits)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Bits) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Bits) ℕ (UR sig nD τ) ℕ)) ⊢ bigSep Finset.univ (fun _ : Dev nD => (BI.emp : sProp (MT nD τ sig Unit (Elt Bits) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨fun c => h c, funext fun g => hz g (.inr (no_unscoped g.2))⟩)

/-- Every execution ends with the result holding the sorted positions and the scores unchanged. -/
theorem result : θ_run defs (onTc (τ := τ) (main (F := Bits))) ⟨m, fun _ => 0, ρ⟩ (fun r => ∀ c : Dev nD,
      r.2.mem ((c : Thread nD τ).loc main_v4) = W4 m ρ c (Proc.devRef .tc main_v4)
      ∧ r.2.mem ((c : Thread nD τ).loc main_arg0) = m ((c : Thread nD τ).loc main_arg0)) :=
  (θ_run defs _ _).mono (fun _ h c => ⟨h.1 c _ (mem_uc main_v4 (by decide)), (h.1 c _ (mem_uc main_arg0 (by decide))).trans (W4_main_arg0 m ρ c)⟩) (run m ρ)

end Cert.Kernel2.Run

end
-- ==== Proof.Shared.Bitexact.lean ====
/- The ranking kernel and its reference leave the same words. -/
module

public import proofs.«01_k».proof.Defs
public import proofs.«01_k».proof.Proof.Kernel2.Launch
public import proofs.«01_k».proof.Proof.Gen.Reference2.Run
@[expose] public section

set_option maxRecDepth 16384

noncomputable section

namespace Cert.Proof

open Cert.Rank Cert.Kernel2.Run
open Idealize.ShloMosaic Idealize.ShloMosaic.TcCoe Idealize.ShloMosaic.Tactic
open Idealize.SL.Sem

/-- The reference's order on the words of two scores is the order of their keys. -/
theorem greater_eq (a b : BitVec 32) :
    (FloatOps.cmpfTotal (F := Bits) (φ := .f32) .gt a b == 1#1) = decide ((keyWord b).toInt < (keyWord a).toInt) := by
  rw [cmpfTotal_f32_eq_cmpi_sortableKey, keyWord_eq, keyWord_eq]
  show (BitVec.ofBool (decide _) == 1#1) = _
  cases decide ((sortableKey b).toInt < (sortableKey a).toInt) <;> rfl

/-- One score of the column laid as a list. -/
theorem column_at (x : FVec Bits Cert.Reference2.S16384x1 .f32) (k : Fin 16384) :
    shapeCast Cert.Reference2.S16384 x Cert.Reference2.Gen.facts.shapeCasts_S16384x1_S16384 (ix1 k) = x (ix2 k 0) := by
  pointwise

theorem along_eq {n : ℕ} (j : (⟨1, ![n]⟩ : Shape).Idx) (k : Fin n) : Shape.Idx.along j (0 : Fin 1) k = ix1 k := by
  funext a
  obtain rfl : a = 0 := Subsingleton.elim (α := Fin 1) _ _
  exact Function.update_self _ _ _

/-- A sort of a list together with its positions leaves the positions in sorted order. -/
theorem sort2_at {n : ℕ} {α : Type} (gt : α → α → BitVec 1) (x : (⟨1, ![n]⟩ : Shape).Idx → α) (j : (⟨1, ![n]⟩ : Shape).Idx) :
    (Host.sort2 ⟨1, ![n]⟩ 0 (fun l r => gt l.1 r.1) x
      (fun i => if hd : 0 < (⟨1, ![n]⟩ : Shape).rank then iotaInDim ⟨1, ![n]⟩ 32 ⟨0, hd⟩ i else 0#32)).2 j
      = BitVec.ofNat 32 (sortedFrom (fun k k' : Fin n => gt (x (ix1 k)) (x (ix1 k')) == 1#1) (j 0)).val := by
  have e : (fun k k' : Fin n => gt (x (Shape.Idx.along j (0 : Fin 1) k)) (x (Shape.Idx.along j (0 : Fin 1) k')) == 1#1)
      = fun k k' : Fin n => gt (x (ix1 k)) (x (ix1 k')) == 1#1 := by
    funext k k'
    rw [along_eq, along_eq]
  rw [← e]
  exact congrArg (fun i : (⟨1, ![n]⟩ : Shape).Idx => BitVec.ofNat 32 (i 0).val) (along_eq j _)

/-- The reference's words are the sorted positions. -/
theorem topK_at (x : FVec Bits Cert.Reference2.S16384x1 .f32) (s : Fin 16384 → BitVec 32) (hs : ∀ i : Fin 16384, x (ix2 i 0) = s i) (r : Fin 6553) :
    (Host.topK Cert.Reference2.S6553 0 (FloatOps.cmpfTotal (F := Bits) (φ := .f32) .gt)
      (shapeCast Cert.Reference2.S16384 x Cert.Reference2.Gen.facts.shapeCasts_S16384x1_S16384) Cert.Reference2.Gen.facts.sliceFits_S16384_S6553).2 (ix1 r)
      = wordOf (sorted (keyOf s) ⟨r.val, by omega⟩).val := by
  have e : (sortedFrom fun k k' : Fin 16384 => FloatOps.cmpfTotal (F := Bits) (φ := .f32) .gt
        (shapeCast Cert.Reference2.S16384 x Cert.Reference2.Gen.facts.shapeCasts_S16384x1_S16384 (ix1 k))
        (shapeCast Cert.Reference2.S16384 x Cert.Reference2.Gen.facts.shapeCasts_S16384x1_S16384 (ix1 k')) == 1#1) = sorted (keyOf s) := by
    refine congrArg sortedFrom (funext fun k => funext fun k' => ?_)
    rw [column_at, column_at, hs, hs, greater_eq]
    rfl
  refine (sort2_at (n := 16384) _ _ _).trans ?_
  rw [e]
  refine congrArg (fun k => wordOf (sorted (keyOf s) k).val) (Fin.ext ?_)
  exact Nat.zero_add _

/-- The ranking kernel's result is, bit for bit, the reference's. -/
theorem bitexact : Cert.bitexact_Kernel2_Reference2 (hKernel2 := Cert.Kernel2.Gen.facts) (hReference2 := Cert.Reference2.Gen.facts) := by
  intro m g m' g' _ hm
  refine ⟨fun c => Cert.Kernel2.Gen.W4 m g c (Proc.devRef .tc Cert.Kernel2.main_v4), result m g, ?_⟩
  refine (θ_run Cert.Reference2.defs _ _).mono (fun r h c => ⟨(h c).1.trans ?_, (h c).2⟩) (Cert.Reference2.Value.run (F := Bits) m' g')
  refine Eq.trans ?_ (W4_v4 m g c).symm
  funext y
  have ey : y = ix1 (y 0) := by
    funext a
    obtain rfl : a = 0 := Subsingleton.elim (α := Fin 1) _ _
    rfl
  rw [ey]
  exact topK_at _ (scores m c) (fun i => congrFun (hm c) (ix2 i 0)) (y 0)

end Cert.Proof

end
-- ==== Proof.lean ====
/- The proof of the claims. -/
module

public import proofs.«01_k».proof.Defs
public import proofs.«01_k».proof.Proof.Shared.Algebraic
public import proofs.«01_k».proof.Proof.Shared.Bitexact
public import Idealize.ShloMosaic.Adequacy
public import Idealize.ShloMosaic.Init

@[expose] public section

noncomputable section

namespace Cert.Proof

open Idealize.ShloMosaic Idealize.SL.Sem Cert.Kernel

/-- The five frames, that nothing separates the kernel from its idealization, that the idealized kernel and the
    reference compute the same, and that the ranking and its reference leave the same words. -/
theorem claim : Cert.Claim := ⟨Cert.Kernel.Gen.facts, Cert.KernelIdeal.Gen.facts, Cert.ReferenceIdeal.Gen.facts, Cert.Kernel2.Gen.facts, Cert.Reference2.Gen.facts, Cert.Pre_spans_in_range.Gen.facts,
  frame_kernel, frame_kernelIdeal, frame_referenceIdeal, frame_referenceIdeal_pre, frame_kernel2, frame_reference2, trivial, algebraic, bitexact⟩

end Cert.Proof

end
